-- ==== Defs.lean ====
def Pre_Kernel (m : (ℓ : Loc Cert.Kernel.nD Cert.Kernel.τ Cert.Kernel.sig) → Buf (Elt Bits) ℓ) : Prop :=
  True

def Pre_KernelIdeal [hPre_finite_gates_KernelIdeal : Cert.Pre_finite_gates_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_gates_ReferenceIdeal [hPre_finite_gates_ReferenceIdeal : Cert.Pre_finite_gates_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite_gates_KernelIdeal : Cert.Pre_finite_gates_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gates_ReferenceIdeal [hReferenceIdeal : Cert.ReferenceIdeal.Facts] [hPre_finite_gates_ReferenceIdeal : Cert.Pre_finite_gates_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_gates_KernelIdeal : Cert.Pre_finite_gates_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![128, 512]⟩ ⟨2, ![512, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 8]⟩ (Layout.meshBlock [2, 4, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![8, 512, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![8, 1024, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v270)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 512]⟩ ⟨2, ![512, 512]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v270) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gates_KernelIdeal : Cert.Pre_finite_gates_KernelIdeal.Facts) (hPre_finite_gates_ReferenceIdeal : Cert.Pre_finite_gates_ReferenceIdeal.Facts),
    quiescent_Kernel (hKernel := hKernel)
    ∧ quiescent_KernelIdeal (hKernelIdeal := hKernelIdeal) (hPre_finite_gates_KernelIdeal := hPre_finite_gates_KernelIdeal)
    ∧ quiescent_KernelIdeal_pre_none (hKernelIdeal := hKernelIdeal)
    ∧ quiescent_ReferenceIdeal (hReferenceIdeal := hReferenceIdeal)
    ∧ quiescent_ReferenceIdeal_pre_finite_gates_ReferenceIdeal (hReferenceIdeal := hReferenceIdeal) (hPre_finite_gates_ReferenceIdeal := hPre_finite_gates_ReferenceIdeal)
    ∧ preserves_Kernel_KernelIdeal
    ∧ algebraic_KernelIdeal_ReferenceIdeal (hKernelIdeal := hKernelIdeal) (hReferenceIdeal := hReferenceIdeal) (hPre_finite_gates_KernelIdeal := hPre_finite_gates_KernelIdeal)
-- ==== Pre_finite_gates_KernelIdeal.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S128x512 .f32) (main_arg1 : FVec F S512x2 .f32) (main_arg2 : FVec F S2x512x1024 .f32) (main_arg3 : FVec F S2x1024x512 .f32) : IVec S_ 1 :=
  let main_cst : FVec F S_ .f32 := constant S_ .f32 0xFF800000#32
  let main_v0 : FVec F S128x512 .f32 := broadcastInDim S128x512 ![] bcast_S_S128x512 main_cst
  let main_v1 : IVec S128x512 1 := cmpf .ogt main_arg0 main_v0
  let main_cst_0 : FVec F S_ .f32 := constant S_ .f32 0x7F800000#32
  let main_v2 : FVec F S128x512 .f32 := broadcastInDim S128x512 ![] bcast_S_S128x512 main_cst_0
  let main_v3 : IVec S128x512 1 := cmpf .olt main_arg0 main_v2
  let main_v4 : IVec S128x512 1 := andi main_v1 main_v3
  let main_c : IVec S_ 1 := constantI S_ 1 1#1
  let main_v5 : IVec S_ 1 := (fun x v => Host.reduce IntOp.andi x v reducesTo_S128x512_S_d0_1 h_S_) main_v4 main_c
  let main_cst_1 : FVec F S_ .f32 := constant S_ .f32 0xFF800000#32
  let main_v6 : FVec F S512x2 .f32 := broadcastInDim S512x2 ![] bcast_S_S512x2 main_cst_1
  let main_v7 : IVec S512x2 1 := cmpf .ogt main_arg1 main_v6
  let main_cst_2 : FVec F S_ .f32 := constant S_ .f32 0x7F800000#32
  let main_v8 : FVec F S512x2 .f32 := broadcastInDim S512x2 ![] bcast_S_S512x2 main_cst_2
  let main_v9 : IVec S512x2 1 := cmpf .olt main_arg1 main_v8
  let main_v10 : IVec S512x2 1 := andi main_v7 main_v9
  let main_c_3 : IVec S_ 1 := constantI S_ 1 1#1
  let main_v11 : IVec S_ 1 := (fun x v => Host.reduce IntOp.andi x v reducesTo_S512x2_S_d0_1 h_S_) main_v10 main_c_3
  let main_v12 : IVec S_ 1 := andi main_v5 main_v11
  main_v12
-- ==== Pre_finite_gates_ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_

variable [Facts]

def fn {F : FTy → Type} [FloatOps F] (main_arg0 : FVec F S512x512 .f32) (main_arg1 : FVec F S512x8 .f32) (main_arg2 : FVec F S8x512x1024 .f32) (main_arg3 : FVec F S8x1024x512 .f32) : IVec S_ 1 :=
  let main_cst : FVec F S_ .f32 := constant S_ .f32 0xFF800000#32
  let main_v0 : FVec F S512x512 .f32 := broadcastInDim S512x512 ![] bcast_S_S512x512 main_cst
  let main_v1 : IVec S512x512 1 := cmpf .ogt main_arg0 main_v0
  let main_cst_0 : FVec F S_ .f32 := constant S_ .f32 0x7F800000#32
  let main_v2 : FVec F S512x512 .f32 := broadcastInDim S512x512 ![] bcast_S_S512x512 main_cst_0
  let main_v3 : IVec S512x512 1 := cmpf .olt main_arg0 main_v2
  let main_v4 : IVec S512x512 1 := andi main_v1 main_v3
  let main_c : IVec S_ 1 := constantI S_ 1 1#1
  let main_v5 : IVec S_ 1 := (fun x v => Host.reduce IntOp.andi x v reducesTo_S512x512_S_d0_1 h_S_) main_v4 main_c
  let main_cst_1 : FVec F S_ .f32 := constant S_ .f32 0xFF800000#32
  let main_v6 : FVec F S512x8 .f32 := broadcastInDim S512x8 ![] bcast_S_S512x8 main_cst_1
  let main_v7 : IVec S512x8 1 := cmpf .ogt main_arg1 main_v6
  let main_cst_2 : FVec F S_ .f32 := constant S_ .f32 0x7F800000#32
  let main_v8 : FVec F S512x8 .f32 := broadcastInDim S512x8 ![] bcast_S_S512x8 main_cst_2
  let main_v9 : IVec S512x8 1 := cmpf .olt main_arg1 main_v8
  let main_v10 : IVec S512x8 1 := andi main_v7 main_v9
  let main_c_3 : IVec S_ 1 := constantI S_ 1 1#1
  let main_v11 : IVec S_ 1 := (fun x v => Host.reduce IntOp.andi x v reducesTo_S512x8_S_d0_1 h_S_) main_v10 main_c_3
  let main_v12 : IVec S_ 1 := andi main_v5 main_v11
  main_v12
-- ==== Kernel.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S4x128x512 : Shape := ⟨3, ![4, 128, 512]⟩
abbrev S4x2x512 : Shape := ⟨3, ![4, 2, 512]⟩
abbrev S4x128x8 : Shape := ⟨3, ![4, 128, 8]⟩
abbrev S3 : Shape := ⟨1, ![3]⟩
abbrev S4 : Shape := ⟨1, ![4]⟩
abbrev S2 : Shape := ⟨1, ![2]⟩
abbrev S1 : Shape := ⟨1, ![1]⟩
abbrev S_ : Shape := ⟨0, ![]⟩
abbrev S2x512 : Shape := ⟨2, ![2, 512]⟩
abbrev S1x2x512 : Shape := ⟨3, ![1, 2, 512]⟩
abbrev S1x128x512 : Shape := ⟨3, ![1, 128, 512]⟩
abbrev S128x1 : Shape := ⟨2, ![128, 1]⟩
abbrev S128x2 : Shape := ⟨2, ![128, 2]⟩
abbrev S128x8 : Shape := ⟨2, ![128, 8]⟩
abbrev S1x128x8 : Shape := ⟨3, ![1, 128, 8]⟩
abbrev S1x512x1024 : Shape := ⟨3, ![1, 512, 1024]⟩
abbrev S512x1024 : Shape := ⟨2, ![512, 1024]⟩
abbrev S128x1024 : Shape := ⟨2, ![128, 1024]⟩
abbrev S1x1024x512 : Shape := ⟨3, ![1, 1024, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S128x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S128x512, .f32⟩
  | .local _ .vmem, ⟨0, _⟩ => ⟨S128x512, .f32⟩
  | .local _ .vmem, ⟨1, _⟩ => ⟨S512x2, .f32⟩
  | .local _ .vmem, ⟨2, _⟩ => ⟨S128x512, .f32⟩
  | .local _ .vmem, ⟨3, _⟩ => ⟨S4x128x512, .bf16⟩
  | .local _ .vmem, ⟨4, _⟩ => ⟨S4x2x512, .f32⟩
  | .local _ .vmem, ⟨5, _⟩ => ⟨S4x128x8, .f32⟩
  | .local _ .vmem, ⟨6, _⟩ => ⟨S4x128x512, .bf16⟩
  | .local _ .vmem, ⟨7, _⟩ => ⟨S4x128x512, .bf16⟩
  | .local _ .vmem, ⟨8, _⟩ => ⟨S2x512x1024, .f32⟩
  | .local _ .vmem, ⟨9, _⟩ => ⟨S2x1024x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v30 : BitVec 32 := Scalar.muli v2 c16_i32_14
  let v31 : BitVec 32 := Scalar.addi c0_i32_15 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v18 : BitVec 32 := Scalar.addi v5 c1_i32_5
  let c0_i32_6 : BitVec 32 := 0#32
  let v19 : BitVec 32 := Scalar.addi v18 c0_i32_6
  let c4_i32_7 : BitVec 32 := 4#32
  let c0_i32_8 : BitVec 32 := 0#32
  let v20 : BitVec 1 := Scalar.cmpi .eq c4_i32_7 c0_i32_8
  let c1_i32_9 : BitVec 32 := 1#32
  let v21 : BitVec 32 := Scalar.select v20 c1_i32_9 c4_i32_7
  let v22 : BitVec 32 := Scalar.remsi v19 v21
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let c0_i32_10 : BitVec 32 := 0#32
  let v23 : BitVec 1 := Scalar.cmpi .ne v22 c0_i32_10
  let v27 : BitVec 1 := Scalar.andi v26 v23
  let v28 : BitVec 32 := Scalar.addi v22 v21
  let v29 : BitVec 32 := Scalar.select v27 v28 v22
  let c4_i32_16 : BitVec 32 := 4#32
  let v32 : BitVec 32 := Scalar.muli v29 c4_i32_16
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v34 : BitVec 32 := Scalar.muli v8 c1_i32_17
  let v35 : BitVec 32 := Scalar.addi v33 v34
  v35.toNat
def k0_dev2 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v48 : BitVec 32 := Scalar.muli v2 c16_i32_27
  let v49 : BitVec 32 := Scalar.addi c0_i32_28 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_18 : BitVec 32 := 1#32
  let v36 : BitVec 32 := Scalar.addi v5 c1_i32_18
  let c1_i32_19 : BitVec 32 := 1#32
  let v37 : BitVec 32 := Scalar.addi v36 c1_i32_19
  let c4_i32_20 : BitVec 32 := 4#32
  let c0_i32_21 : BitVec 32 := 0#32
  let v38 : BitVec 1 := Scalar.cmpi .eq c4_i32_20 c0_i32_21
  let c1_i32_22 : BitVec 32 := 1#32
  let v39 : BitVec 32 := Scalar.select v38 c1_i32_22 c4_i32_20
  let v40 : BitVec 32 := Scalar.remsi v37 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  let c4_i32_29 : BitVec 32 := 4#32
  let v50 : BitVec 32 := Scalar.muli v47 c4_i32_29
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v52 : BitVec 32 := Scalar.muli v8 c1_i32_30
  let v53 : BitVec 32 := Scalar.addi v51 v52
  v53.toNat
def k0_dev3 (d0 : Dev nD) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_40 : BitVec 32 := 16#32
  let v66 : BitVec 32 := Scalar.muli v2 c16_i32_40
  let v67 : BitVec 32 := Scalar.addi c0_i32_41 v66
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_31 : BitVec 32 := 1#32
  let v54 : BitVec 32 := Scalar.addi v5 c1_i32_31
  let c2_i32_32 : BitVec 32 := 2#32
  let v55 : BitVec 32 := Scalar.addi v54 c2_i32_32
  let c4_i32_33 : BitVec 32 := 4#32
  let c0_i32_34 : BitVec 32 := 0#32
  let v56 : BitVec 1 := Scalar.cmpi .eq c4_i32_33 c0_i32_34
  let c1_i32_35 : BitVec 32 := 1#32
  let v57 : BitVec 32 := Scalar.select v56 c1_i32_35 c4_i32_33
  let v58 : BitVec 32 := Scalar.remsi v55 v57
  let c0_i32_37 : BitVec 32 := 0#32
  let v60 : BitVec 1 := Scalar.cmpi .slt v58 c0_i32_37
  let c0_i32_38 : BitVec 32 := 0#32
  let v61 : BitVec 1 := Scalar.cmpi .slt v57 c0_i32_38
  let v62 : BitVec 1 := Scalar.xori v60 v61
  let c0_i32_36 : BitVec 32 := 0#32
  let v59 : BitVec 1 := Scalar.cmpi .ne v58 c0_i32_36
  let v63 : BitVec 1 := Scalar.andi v62 v59
  let v64 : BitVec 32 := Scalar.addi v58 v57
  let v65 : BitVec 32 := Scalar.select v63 v64 v58
  let c4_i32_42 : BitVec 32 := 4#32
  let v68 : BitVec 32 := Scalar.muli v65 c4_i32_42
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v70 : BitVec 32 := Scalar.muli v8 c1_i32_43
  let v71 : BitVec 32 := Scalar.addi v69 v70
  v71.toNat
def k0_off1 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v75 : Index := Scalar.indexCast v5
  let c0_45 : Index := 0#32
  let c0_46 : Index := 0#32
  ![v75.toNat, 0, 0]
def k0_off2 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v82 : Index := Scalar.indexCast v5
  let c0_49 : Index := 0#32
  let c0_50 : Index := 0#32
  ![v82.toNat, 0, 0]
def k0_off3 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off4 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_64 : BitVec 32 := 0#32
  let c0_i32_65 : BitVec 32 := 0#32
  ![v5.toNat, 0, 0]
def k0_dev4 (d0 : Dev nD) : Nat :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_60 : BitVec 32 := 16#32
  let v98 : BitVec 32 := Scalar.muli v2 c16_i32_60
  let v99 : BitVec 32 := Scalar.addi c0_i32_61 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_51 : BitVec 32 := 1#32
  let v86 : BitVec 32 := Scalar.addi v5 c1_i32_51
  let c0_i32_52 : BitVec 32 := 0#32
  let v87 : BitVec 32 := Scalar.addi v86 c0_i32_52
  let c4_i32_53 : BitVec 32 := 4#32
  let c0_i32_54 : BitVec 32 := 0#32
  let v88 : BitVec 1 := Scalar.cmpi .eq c4_i32_53 c0_i32_54
  let c1_i32_55 : BitVec 32 := 1#32
  let v89 : BitVec 32 := Scalar.select v88 c1_i32_55 c4_i32_53
  let v90 : BitVec 32 := Scalar.remsi v87 v89
  let c0_i32_57 : BitVec 32 := 0#32
  let v92 : BitVec 1 := Scalar.cmpi .slt v90 c0_i32_57
  let c0_i32_58 : BitVec 32 := 0#32
  let v93 : BitVec 1 := Scalar.cmpi .slt v89 c0_i32_58
  let v94 : BitVec 1 := Scalar.xori v92 v93
  let c0_i32_56 : BitVec 32 := 0#32
  let v91 : BitVec 1 := Scalar.cmpi .ne v90 c0_i32_56
  let v95 : BitVec 1 := Scalar.andi v94 v91
  let v96 : BitVec 32 := Scalar.addi v90 v89
  let v97 : BitVec 32 := Scalar.select v95 v96 v90
  let c4_i32_62 : BitVec 32 := 4#32
  let v100 : BitVec 32 := Scalar.muli v97 c4_i32_62
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v102 : BitVec 32 := Scalar.muli v8 c1_i32_63
  let v103 : BitVec 32 := Scalar.addi v101 v102
  v103.toNat
def k0_dev5 (d0 : Dev nD) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_77 : BitVec 32 := 16#32
  let v124 : BitVec 32 := Scalar.muli v2 c16_i32_77
  let v125 : BitVec 32 := Scalar.addi c0_i32_78 v124
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_68 : BitVec 32 := 1#32
  let v112 : BitVec 32 := Scalar.addi v5 c1_i32_68
  let c1_i32_69 : BitVec 32 := 1#32
  let v113 : BitVec 32 := Scalar.addi v112 c1_i32_69
  let c4_i32_70 : BitVec 32 := 4#32
  let c0_i32_71 : BitVec 32 := 0#32
  let v114 : BitVec 1 := Scalar.cmpi .eq c4_i32_70 c0_i32_71
  let c1_i32_72 : BitVec 32 := 1#32
  let v115 : BitVec 32 := Scalar.select v114 c1_i32_72 c4_i32_70
  let v116 : BitVec 32 := Scalar.remsi v113 v115
  let c0_i32_74 : BitVec 32 := 0#32
  let v118 : BitVec 1 := Scalar.cmpi .slt v116 c0_i32_74
  let c0_i32_75 : BitVec 32 := 0#32
  let v119 : BitVec 1 := Scalar.cmpi .slt v115 c0_i32_75
  let v120 : BitVec 1 := Scalar.xori v118 v119
  let c0_i32_73 : BitVec 32 := 0#32
  let v117 : BitVec 1 := Scalar.cmpi .ne v116 c0_i32_73
  let v121 : BitVec 1 := Scalar.andi v120 v117
  let v122 : BitVec 32 := Scalar.addi v116 v115
  let v123 : BitVec 32 := Scalar.select v121 v122 v116
  let c4_i32_79 : BitVec 32 := 4#32
  let v126 : BitVec 32 := Scalar.muli v123 c4_i32_79
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v128 : BitVec 32 := Scalar.muli v8 c1_i32_80
  let v129 : BitVec 32 := Scalar.addi v127 v128
  v129.toNat
def k0_dev6 (d0 : Dev nD) : Nat :=
  let c0_i32_95 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_94 : BitVec 32 := 16#32
  let v150 : BitVec 32 := Scalar.muli v2 c16_i32_94
  let v151 : BitVec 32 := Scalar.addi c0_i32_95 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_85 : BitVec 32 := 1#32
  let v138 : BitVec 32 := Scalar.addi v5 c1_i32_85
  let c2_i32_86 : BitVec 32 := 2#32
  let v139 : BitVec 32 := Scalar.addi v138 c2_i32_86
  let c4_i32_87 : BitVec 32 := 4#32
  let c0_i32_88 : BitVec 32 := 0#32
  let v140 : BitVec 1 := Scalar.cmpi .eq c4_i32_87 c0_i32_88
  let c1_i32_89 : BitVec 32 := 1#32
  let v141 : BitVec 32 := Scalar.select v140 c1_i32_89 c4_i32_87
  let v142 : BitVec 32 := Scalar.remsi v139 v141
  let c0_i32_91 : BitVec 32 := 0#32
  let v144 : BitVec 1 := Scalar.cmpi .slt v142 c0_i32_91
  let c0_i32_92 : BitVec 32 := 0#32
  let v145 : BitVec 1 := Scalar.cmpi .slt v141 c0_i32_92
  let v146 : BitVec 1 := Scalar.xori v144 v145
  let c0_i32_90 : BitVec 32 := 0#32
  let v143 : BitVec 1 := Scalar.cmpi .ne v142 c0_i32_90
  let v147 : BitVec 1 := Scalar.andi v146 v143
  let v148 : BitVec 32 := Scalar.addi v142 v141
  let v149 : BitVec 32 := Scalar.select v147 v148 v142
  let c4_i32_96 : BitVec 32 := 4#32
  let v152 : BitVec 32 := Scalar.muli v149 c4_i32_96
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v154 : BitVec 32 := Scalar.muli v8 c1_i32_97
  let v155 : BitVec 32 := Scalar.addi v153 v154
  v155.toNat
def k0_off5 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_114 : BitVec 32 := 0#32
  let c0_i32_115 : BitVec 32 := 0#32
  ![v5.toNat, 0, 0]
def k0_dev7 (d0 : Dev nD) : Nat :=
  let c0_i32_111 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_110 : BitVec 32 := 16#32
  let v175 : BitVec 32 := Scalar.muli v2 c16_i32_110
  let v176 : BitVec 32 := Scalar.addi c0_i32_111 v175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_102 : BitVec 32 := 1#32
  let v164 : BitVec 32 := Scalar.subi v5 c1_i32_102
  let c4_i32_103 : BitVec 32 := 4#32
  let c0_i32_104 : BitVec 32 := 0#32
  let v165 : BitVec 1 := Scalar.cmpi .eq c4_i32_103 c0_i32_104
  let c1_i32_105 : BitVec 32 := 1#32
  let v166 : BitVec 32 := Scalar.select v165 c1_i32_105 c4_i32_103
  let v167 : BitVec 32 := Scalar.remsi v164 v166
  let c0_i32_107 : BitVec 32 := 0#32
  let v169 : BitVec 1 := Scalar.cmpi .slt v167 c0_i32_107
  let c0_i32_108 : BitVec 32 := 0#32
  let v170 : BitVec 1 := Scalar.cmpi .slt v166 c0_i32_108
  let v171 : BitVec 1 := Scalar.xori v169 v170
  let c0_i32_106 : BitVec 32 := 0#32
  let v168 : BitVec 1 := Scalar.cmpi .ne v167 c0_i32_106
  let v172 : BitVec 1 := Scalar.andi v171 v168
  let v173 : BitVec 32 := Scalar.addi v167 v166
  let v174 : BitVec 32 := Scalar.select v172 v173 v167
  let c4_i32_112 : BitVec 32 := 4#32
  let v177 : BitVec 32 := Scalar.muli v174 c4_i32_112
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v179 : BitVec 32 := Scalar.muli v8 c1_i32_113
  let v180 : BitVec 32 := Scalar.addi v178 v179
  v180.toNat
def k0_off6 (d0 : Dev nD) (c0_i32_119 : BitVec 32) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_118 : BitVec 32 := 1#32
  let v189 : BitVec 32 := Scalar.addi v5 c1_i32_118
  let v190 : BitVec 32 := Scalar.addi v189 c0_i32_119
  let c4_i32_120 : BitVec 32 := 4#32
  let c0_i32_121 : BitVec 32 := 0#32
  let v191 : BitVec 1 := Scalar.cmpi .eq c4_i32_120 c0_i32_121
  let c1_i32_122 : BitVec 32 := 1#32
  let v192 : BitVec 32 := Scalar.select v191 c1_i32_122 c4_i32_120
  let v193 : BitVec 32 := Scalar.remsi v190 v192
  let c0_i32_124 : BitVec 32 := 0#32
  let v195 : BitVec 1 := Scalar.cmpi .slt v193 c0_i32_124
  let c0_i32_125 : BitVec 32 := 0#32
  let v196 : BitVec 1 := Scalar.cmpi .slt v192 c0_i32_125
  let v197 : BitVec 1 := Scalar.xori v195 v196
  let c0_i32_123 : BitVec 32 := 0#32
  let v194 : BitVec 1 := Scalar.cmpi .ne v193 c0_i32_123
  let v198 : BitVec 1 := Scalar.andi v197 v194
  let v199 : BitVec 32 := Scalar.addi v193 v192
  let v200 : BitVec 32 := Scalar.select v198 v199 v193
  ![v200.toNat]
def k0_off7 (d0 : Dev nD) (c0_i32_119 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_118 : BitVec 32 := 1#32
  let v189 : BitVec 32 := Scalar.addi v5 c1_i32_118
  let v190 : BitVec 32 := Scalar.addi v189 c0_i32_119
  let c4_i32_120 : BitVec 32 := 4#32
  let c0_i32_121 : BitVec 32 := 0#32
  let v191 : BitVec 1 := Scalar.cmpi .eq c4_i32_120 c0_i32_121
  let c1_i32_122 : BitVec 32 := 1#32
  let v192 : BitVec 32 := Scalar.select v191 c1_i32_122 c4_i32_120
  let v193 : BitVec 32 := Scalar.remsi v190 v192
  let c0_i32_124 : BitVec 32 := 0#32
  let v195 : BitVec 1 := Scalar.cmpi .slt v193 c0_i32_124
  let c0_i32_125 : BitVec 32 := 0#32
  let v196 : BitVec 1 := Scalar.cmpi .slt v192 c0_i32_125
  let v197 : BitVec 1 := Scalar.xori v195 v196
  let c0_i32_123 : BitVec 32 := 0#32
  let v194 : BitVec 1 := Scalar.cmpi .ne v193 c0_i32_123
  let v198 : BitVec 1 := Scalar.andi v197 v194
  let v199 : BitVec 32 := Scalar.addi v193 v192
  let v200 : BitVec 32 := Scalar.select v198 v199 v193
  let c0_i32_130 : BitVec 32 := 0#32
  let c0_i32_131 : BitVec 32 := 0#32
  ![v200.toNat, 0, 0]
def k0_off8 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v406 : Index := Scalar.indexCast v5
  let c0_208 : Index := 0#32
  let c0_209 : Index := 0#32
  ![v406.toNat, 0, 0]
def k0_off9 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_223 : BitVec 32 := 0#32
  let c0_i32_224 : BitVec 32 := 0#32
  ![v5.toNat, 0, 0]
def k0_dev8 (d0 : Dev nD) : Nat :=
  let c0_i32_220 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_219 : BitVec 32 := 16#32
  let v422 : BitVec 32 := Scalar.muli v2 c16_i32_219
  let v423 : BitVec 32 := Scalar.addi c0_i32_220 v422
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_210 : BitVec 32 := 1#32
  let v410 : BitVec 32 := Scalar.subi v5 c1_i32_210
  let c0_i32_211 : BitVec 32 := 0#32
  let v411 : BitVec 32 := Scalar.subi v410 c0_i32_211
  let c4_i32_212 : BitVec 32 := 4#32
  let c0_i32_213 : BitVec 32 := 0#32
  let v412 : BitVec 1 := Scalar.cmpi .eq c4_i32_212 c0_i32_213
  let c1_i32_214 : BitVec 32 := 1#32
  let v413 : BitVec 32 := Scalar.select v412 c1_i32_214 c4_i32_212
  let v414 : BitVec 32 := Scalar.remsi v411 v413
  let c0_i32_216 : BitVec 32 := 0#32
  let v416 : BitVec 1 := Scalar.cmpi .slt v414 c0_i32_216
  let c0_i32_217 : BitVec 32 := 0#32
  let v417 : BitVec 1 := Scalar.cmpi .slt v413 c0_i32_217
  let v418 : BitVec 1 := Scalar.xori v416 v417
  let c0_i32_215 : BitVec 32 := 0#32
  let v415 : BitVec 1 := Scalar.cmpi .ne v414 c0_i32_215
  let v419 : BitVec 1 := Scalar.andi v418 v415
  let v420 : BitVec 32 := Scalar.addi v414 v413
  let v421 : BitVec 32 := Scalar.select v419 v420 v414
  let c4_i32_221 : BitVec 32 := 4#32
  let v424 : BitVec 32 := Scalar.muli v421 c4_i32_221
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v426 : BitVec 32 := Scalar.muli v8 c1_i32_222
  let v427 : BitVec 32 := Scalar.addi v425 v426
  v427.toNat
def k0_dev9 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v448 : BitVec 32 := Scalar.muli v2 c16_i32_236
  let v449 : BitVec 32 := Scalar.addi c0_i32_237 v448
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_227 : BitVec 32 := 1#32
  let v436 : BitVec 32 := Scalar.subi v5 c1_i32_227
  let c1_i32_228 : BitVec 32 := 1#32
  let v437 : BitVec 32 := Scalar.subi v436 c1_i32_228
  let c4_i32_229 : BitVec 32 := 4#32
  let c0_i32_230 : BitVec 32 := 0#32
  let v438 : BitVec 1 := Scalar.cmpi .eq c4_i32_229 c0_i32_230
  let c1_i32_231 : BitVec 32 := 1#32
  let v439 : BitVec 32 := Scalar.select v438 c1_i32_231 c4_i32_229
  let v440 : BitVec 32 := Scalar.remsi v437 v439
  let c0_i32_233 : BitVec 32 := 0#32
  let v442 : BitVec 1 := Scalar.cmpi .slt v440 c0_i32_233
  let c0_i32_234 : BitVec 32 := 0#32
  let v443 : BitVec 1 := Scalar.cmpi .slt v439 c0_i32_234
  let v444 : BitVec 1 := Scalar.xori v442 v443
  let c0_i32_232 : BitVec 32 := 0#32
  let v441 : BitVec 1 := Scalar.cmpi .ne v440 c0_i32_232
  let v445 : BitVec 1 := Scalar.andi v444 v441
  let v446 : BitVec 32 := Scalar.addi v440 v439
  let v447 : BitVec 32 := Scalar.select v445 v446 v440
  let c4_i32_238 : BitVec 32 := 4#32
  let v450 : BitVec 32 := Scalar.muli v447 c4_i32_238
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v452 : BitVec 32 := Scalar.muli v8 c1_i32_239
  let v453 : BitVec 32 := Scalar.addi v451 v452
  v453.toNat
def k0_dev10 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v474 : BitVec 32 := Scalar.muli v2 c16_i32_253
  let v475 : BitVec 32 := Scalar.addi c0_i32_254 v474
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_244 : BitVec 32 := 1#32
  let v462 : BitVec 32 := Scalar.subi v5 c1_i32_244
  let c2_i32_245 : BitVec 32 := 2#32
  let v463 : BitVec 32 := Scalar.subi v462 c2_i32_245
  let c4_i32_246 : BitVec 32 := 4#32
  let c0_i32_247 : BitVec 32 := 0#32
  let v464 : BitVec 1 := Scalar.cmpi .eq c4_i32_246 c0_i32_247
  let c1_i32_248 : BitVec 32 := 1#32
  let v465 : BitVec 32 := Scalar.select v464 c1_i32_248 c4_i32_246
  let v466 : BitVec 32 := Scalar.remsi v463 v465
  let c0_i32_250 : BitVec 32 := 0#32
  let v468 : BitVec 1 := Scalar.cmpi .slt v466 c0_i32_250
  let c0_i32_251 : BitVec 32 := 0#32
  let v469 : BitVec 1 := Scalar.cmpi .slt v465 c0_i32_251
  let v470 : BitVec 1 := Scalar.xori v468 v469
  let c0_i32_249 : BitVec 32 := 0#32
  let v467 : BitVec 1 := Scalar.cmpi .ne v466 c0_i32_249
  let v471 : BitVec 1 := Scalar.andi v470 v467
  let v472 : BitVec 32 := Scalar.addi v466 v465
  let v473 : BitVec 32 := Scalar.select v471 v472 v466
  let c4_i32_255 : BitVec 32 := 4#32
  let v476 : BitVec 32 := Scalar.muli v473 c4_i32_255
  let v477 : BitVec 32 := Scalar.addi v475 v476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v478 : BitVec 32 := Scalar.muli v8 c1_i32_256
  let v479 : BitVec 32 := Scalar.addi v477 v478
  v479.toNat
def k0_dev11 (d0 : Dev nD) : Nat :=
  let c0_i32_271 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_270 : BitVec 32 := 16#32
  let v500 : BitVec 32 := Scalar.muli v2 c16_i32_270
  let v501 : BitVec 32 := Scalar.addi c0_i32_271 v500
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_261 : BitVec 32 := 1#32
  let v488 : BitVec 32 := Scalar.subi v5 c1_i32_261
  let c1_i32_262 : BitVec 32 := 1#32
  let v489 : BitVec 32 := Scalar.subi v488 c1_i32_262
  let c4_i32_263 : BitVec 32 := 4#32
  let c0_i32_264 : BitVec 32 := 0#32
  let v490 : BitVec 1 := Scalar.cmpi .eq c4_i32_263 c0_i32_264
  let c1_i32_265 : BitVec 32 := 1#32
  let v491 : BitVec 32 := Scalar.select v490 c1_i32_265 c4_i32_263
  let v492 : BitVec 32 := Scalar.remsi v489 v491
  let c0_i32_267 : BitVec 32 := 0#32
  let v494 : BitVec 1 := Scalar.cmpi .slt v492 c0_i32_267
  let c0_i32_268 : BitVec 32 := 0#32
  let v495 : BitVec 1 := Scalar.cmpi .slt v491 c0_i32_268
  let v496 : BitVec 1 := Scalar.xori v494 v495
  let c0_i32_266 : BitVec 32 := 0#32
  let v493 : BitVec 1 := Scalar.cmpi .ne v492 c0_i32_266
  let v497 : BitVec 1 := Scalar.andi v496 v493
  let v498 : BitVec 32 := Scalar.addi v492 v491
  let v499 : BitVec 32 := Scalar.select v497 v498 v492
  let c4_i32_272 : BitVec 32 := 4#32
  let v502 : BitVec 32 := Scalar.muli v499 c4_i32_272
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v504 : BitVec 32 := Scalar.muli v8 c1_i32_273
  let v505 : BitVec 32 := Scalar.addi v503 v504
  v505.toNat
def k0_dev12 (d0 : Dev nD) : Nat :=
  let c0_i32_288 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_287 : BitVec 32 := 16#32
  let v526 : BitVec 32 := Scalar.muli v2 c16_i32_287
  let v527 : BitVec 32 := Scalar.addi c0_i32_288 v526
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_278 : BitVec 32 := 1#32
  let v514 : BitVec 32 := Scalar.subi v5 c1_i32_278
  let c2_i32_279 : BitVec 32 := 2#32
  let v515 : BitVec 32 := Scalar.subi v514 c2_i32_279
  let c4_i32_280 : BitVec 32 := 4#32
  let c0_i32_281 : BitVec 32 := 0#32
  let v516 : BitVec 1 := Scalar.cmpi .eq c4_i32_280 c0_i32_281
  let c1_i32_282 : BitVec 32 := 1#32
  let v517 : BitVec 32 := Scalar.select v516 c1_i32_282 c4_i32_280
  let v518 : BitVec 32 := Scalar.remsi v515 v517
  let c0_i32_284 : BitVec 32 := 0#32
  let v520 : BitVec 1 := Scalar.cmpi .slt v518 c0_i32_284
  let c0_i32_285 : BitVec 32 := 0#32
  let v521 : BitVec 1 := Scalar.cmpi .slt v517 c0_i32_285
  let v522 : BitVec 1 := Scalar.xori v520 v521
  let c0_i32_283 : BitVec 32 := 0#32
  let v519 : BitVec 1 := Scalar.cmpi .ne v518 c0_i32_283
  let v523 : BitVec 1 := Scalar.andi v522 v519
  let v524 : BitVec 32 := Scalar.addi v518 v517
  let v525 : BitVec 32 := Scalar.select v523 v524 v518
  let c4_i32_289 : BitVec 32 := 4#32
  let v528 : BitVec 32 := Scalar.muli v525 c4_i32_289
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v530 : BitVec 32 := Scalar.muli v8 c1_i32_290
  let v531 : BitVec 32 := Scalar.addi v529 v530
  v531.toNat
def k0_off10 (d0 : Dev nD) (c0_i32_295 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v540 : BitVec 32 := Scalar.addi v5 c0_i32_295
  let c4_i32_296 : BitVec 32 := 4#32
  let c0_i32_297 : BitVec 32 := 0#32
  let v541 : BitVec 1 := Scalar.cmpi .eq c4_i32_296 c0_i32_297
  let c1_i32_298 : BitVec 32 := 1#32
  let v542 : BitVec 32 := Scalar.select v541 c1_i32_298 c4_i32_296
  let v543 : BitVec 32 := Scalar.remsi v540 v542
  let c0_i32_300 : BitVec 32 := 0#32
  let v545 : BitVec 1 := Scalar.cmpi .slt v543 c0_i32_300
  let c0_i32_301 : BitVec 32 := 0#32
  let v546 : BitVec 1 := Scalar.cmpi .slt v542 c0_i32_301
  let v547 : BitVec 1 := Scalar.xori v545 v546
  let c0_i32_299 : BitVec 32 := 0#32
  let v544 : BitVec 1 := Scalar.cmpi .ne v543 c0_i32_299
  let v548 : BitVec 1 := Scalar.andi v547 v544
  let v549 : BitVec 32 := Scalar.addi v543 v542
  let v550 : BitVec 32 := Scalar.select v548 v549 v543
  let v551 : Index := Scalar.indexCast v550
  let c0_302 : Index := 0#32
  let c0_303 : Index := 0#32
  ![v551.toNat, 0, 0]
def k0_off11 (d0 : Dev nD) (c0_i32_295 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v540 : BitVec 32 := Scalar.addi v5 c0_i32_295
  let c4_i32_296 : BitVec 32 := 4#32
  let c0_i32_297 : BitVec 32 := 0#32
  let v541 : BitVec 1 := Scalar.cmpi .eq c4_i32_296 c0_i32_297
  let c1_i32_298 : BitVec 32 := 1#32
  let v542 : BitVec 32 := Scalar.select v541 c1_i32_298 c4_i32_296
  let v543 : BitVec 32 := Scalar.remsi v540 v542
  let c0_i32_300 : BitVec 32 := 0#32
  let v545 : BitVec 1 := Scalar.cmpi .slt v543 c0_i32_300
  let c0_i32_301 : BitVec 32 := 0#32
  let v546 : BitVec 1 := Scalar.cmpi .slt v542 c0_i32_301
  let v547 : BitVec 1 := Scalar.xori v545 v546
  let c0_i32_299 : BitVec 32 := 0#32
  let v544 : BitVec 1 := Scalar.cmpi .ne v543 c0_i32_299
  let v548 : BitVec 1 := Scalar.andi v547 v544
  let v549 : BitVec 32 := Scalar.addi v543 v542
  let v550 : BitVec 32 := Scalar.select v548 v549 v543
  let v572 : Index := Scalar.indexCast v550
  let c0_322 : Index := 0#32
  let c0_323 : Index := 0#32
  ![v572.toNat, 0, 0]
def k0_off12 (d0 : Dev nD) (c1_i32_329 : BitVec 32) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v614 : BitVec 32 := Scalar.addi v5 c1_i32_329
  let c4_i32_330 : BitVec 32 := 4#32
  let c0_i32_331 : BitVec 32 := 0#32
  let v615 : BitVec 1 := Scalar.cmpi .eq c4_i32_330 c0_i32_331
  let c1_i32_332 : BitVec 32 := 1#32
  let v616 : BitVec 32 := Scalar.select v615 c1_i32_332 c4_i32_330
  let v617 : BitVec 32 := Scalar.remsi v614 v616
  let c0_i32_334 : BitVec 32 := 0#32
  let v619 : BitVec 1 := Scalar.cmpi .slt v617 c0_i32_334
  let c0_i32_335 : BitVec 32 := 0#32
  let v620 : BitVec 1 := Scalar.cmpi .slt v616 c0_i32_335
  let v621 : BitVec 1 := Scalar.xori v619 v620
  let c0_i32_333 : BitVec 32 := 0#32
  let v618 : BitVec 1 := Scalar.cmpi .ne v617 c0_i32_333
  let v622 : BitVec 1 := Scalar.andi v621 v618
  let v623 : BitVec 32 := Scalar.addi v617 v616
  let v624 : BitVec 32 := Scalar.select v622 v623 v617
  ![v624.toNat]
def k0_off13 (d0 : Dev nD) (c1_i32_329 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v614 : BitVec 32 := Scalar.addi v5 c1_i32_329
  let c4_i32_330 : BitVec 32 := 4#32
  let c0_i32_331 : BitVec 32 := 0#32
  let v615 : BitVec 1 := Scalar.cmpi .eq c4_i32_330 c0_i32_331
  let c1_i32_332 : BitVec 32 := 1#32
  let v616 : BitVec 32 := Scalar.select v615 c1_i32_332 c4_i32_330
  let v617 : BitVec 32 := Scalar.remsi v614 v616
  let c0_i32_334 : BitVec 32 := 0#32
  let v619 : BitVec 1 := Scalar.cmpi .slt v617 c0_i32_334
  let c0_i32_335 : BitVec 32 := 0#32
  let v620 : BitVec 1 := Scalar.cmpi .slt v616 c0_i32_335
  let v621 : BitVec 1 := Scalar.xori v619 v620
  let c0_i32_333 : BitVec 32 := 0#32
  let v618 : BitVec 1 := Scalar.cmpi .ne v617 c0_i32_333
  let v622 : BitVec 1 := Scalar.andi v621 v618
  let v623 : BitVec 32 := Scalar.addi v617 v616
  let v624 : BitVec 32 := Scalar.select v622 v623 v617
  let c0_i32_340 : BitVec 32 := 0#32
  let c0_i32_341 : BitVec 32 := 0#32
  ![v624.toNat, 0, 0]
def k0_off14 (d0 : Dev nD) (c1_i32_329 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v614 : BitVec 32 := Scalar.addi v5 c1_i32_329
  let c4_i32_330 : BitVec 32 := 4#32
  let c0_i32_331 : BitVec 32 := 0#32
  let v615 : BitVec 1 := Scalar.cmpi .eq c4_i32_330 c0_i32_331
  let c1_i32_332 : BitVec 32 := 1#32
  let v616 : BitVec 32 := Scalar.select v615 c1_i32_332 c4_i32_330
  let v617 : BitVec 32 := Scalar.remsi v614 v616
  let c0_i32_334 : BitVec 32 := 0#32
  let v619 : BitVec 1 := Scalar.cmpi .slt v617 c0_i32_334
  let c0_i32_335 : BitVec 32 := 0#32
  let v620 : BitVec 1 := Scalar.cmpi .slt v616 c0_i32_335
  let v621 : BitVec 1 := Scalar.xori v619 v620
  let c0_i32_333 : BitVec 32 := 0#32
  let v618 : BitVec 1 := Scalar.cmpi .ne v617 c0_i32_333
  let v622 : BitVec 1 := Scalar.andi v621 v618
  let v623 : BitVec 32 := Scalar.addi v617 v616
  let v624 : BitVec 32 := Scalar.select v622 v623 v617
  let c0_i32_368 : BitVec 32 := 0#32
  let c0_i32_369 : BitVec 32 := 0#32
  ![v624.toNat, 0, 0]
def k0_dev13 (d0 : Dev nD) : Nat :=
  let c0_i32_383 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_382 : BitVec 32 := 16#32
  let v717 : BitVec 32 := Scalar.muli v2 c16_i32_382
  let v718 : BitVec 32 := Scalar.addi c0_i32_383 v717
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_329 : BitVec 32 := 1#32
  let v614 : BitVec 32 := Scalar.addi v5 c1_i32_329
  let c4_i32_330 : BitVec 32 := 4#32
  let c0_i32_331 : BitVec 32 := 0#32
  let v615 : BitVec 1 := Scalar.cmpi .eq c4_i32_330 c0_i32_331
  let c1_i32_332 : BitVec 32 := 1#32
  let v616 : BitVec 32 := Scalar.select v615 c1_i32_332 c4_i32_330
  let v617 : BitVec 32 := Scalar.remsi v614 v616
  let c0_i32_334 : BitVec 32 := 0#32
  let v619 : BitVec 1 := Scalar.cmpi .slt v617 c0_i32_334
  let c0_i32_335 : BitVec 32 := 0#32
  let v620 : BitVec 1 := Scalar.cmpi .slt v616 c0_i32_335
  let v621 : BitVec 1 := Scalar.xori v619 v620
  let c0_i32_333 : BitVec 32 := 0#32
  let v618 : BitVec 1 := Scalar.cmpi .ne v617 c0_i32_333
  let v622 : BitVec 1 := Scalar.andi v621 v618
  let v623 : BitVec 32 := Scalar.addi v617 v616
  let v624 : BitVec 32 := Scalar.select v622 v623 v617
  let c4_i32_384 : BitVec 32 := 4#32
  let v719 : BitVec 32 := Scalar.muli v624 c4_i32_384
  let v720 : BitVec 32 := Scalar.addi v718 v719
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_385 : BitVec 32 := 1#32
  let v721 : BitVec 32 := Scalar.muli v8 c1_i32_385
  let v722 : BitVec 32 := Scalar.addi v720 v721
  v722.toNat
def k0_dev14 (d0 : Dev nD) : Nat :=
  let c0_i32_444 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_443 : BitVec 32 := 16#32
  let v834 : BitVec 32 := Scalar.muli v2 c16_i32_443
  let v835 : BitVec 32 := Scalar.addi c0_i32_444 v834
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_390 : BitVec 32 := 2#32
  let v731 : BitVec 32 := Scalar.addi v5 c2_i32_390
  let c4_i32_391 : BitVec 32 := 4#32
  let c0_i32_392 : BitVec 32 := 0#32
  let v732 : BitVec 1 := Scalar.cmpi .eq c4_i32_391 c0_i32_392
  let c1_i32_393 : BitVec 32 := 1#32
  let v733 : BitVec 32 := Scalar.select v732 c1_i32_393 c4_i32_391
  let v734 : BitVec 32 := Scalar.remsi v731 v733
  let c0_i32_395 : BitVec 32 := 0#32
  let v736 : BitVec 1 := Scalar.cmpi .slt v734 c0_i32_395
  let c0_i32_396 : BitVec 32 := 0#32
  let v737 : BitVec 1 := Scalar.cmpi .slt v733 c0_i32_396
  let v738 : BitVec 1 := Scalar.xori v736 v737
  let c0_i32_394 : BitVec 32 := 0#32
  let v735 : BitVec 1 := Scalar.cmpi .ne v734 c0_i32_394
  let v739 : BitVec 1 := Scalar.andi v738 v735
  let v740 : BitVec 32 := Scalar.addi v734 v733
  let v741 : BitVec 32 := Scalar.select v739 v740 v734
  let c4_i32_445 : BitVec 32 := 4#32
  let v836 : BitVec 32 := Scalar.muli v741 c4_i32_445
  let v837 : BitVec 32 := Scalar.addi v835 v836
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_446 : BitVec 32 := 1#32
  let v838 : BitVec 32 := Scalar.muli v8 c1_i32_446
  let v839 : BitVec 32 := Scalar.addi v837 v838
  v839.toNat
def k0_dev15 (d0 : Dev nD) : Nat :=
  let c0_i32_505 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_504 : BitVec 32 := 16#32
  let v951 : BitVec 32 := Scalar.muli v2 c16_i32_504
  let v952 : BitVec 32 := Scalar.addi c0_i32_505 v951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_451 : BitVec 32 := 3#32
  let v848 : BitVec 32 := Scalar.addi v5 c3_i32_451
  let c4_i32_452 : BitVec 32 := 4#32
  let c0_i32_453 : BitVec 32 := 0#32
  let v849 : BitVec 1 := Scalar.cmpi .eq c4_i32_452 c0_i32_453
  let c1_i32_454 : BitVec 32 := 1#32
  let v850 : BitVec 32 := Scalar.select v849 c1_i32_454 c4_i32_452
  let v851 : BitVec 32 := Scalar.remsi v848 v850
  let c0_i32_456 : BitVec 32 := 0#32
  let v853 : BitVec 1 := Scalar.cmpi .slt v851 c0_i32_456
  let c0_i32_457 : BitVec 32 := 0#32
  let v854 : BitVec 1 := Scalar.cmpi .slt v850 c0_i32_457
  let v855 : BitVec 1 := Scalar.xori v853 v854
  let c0_i32_455 : BitVec 32 := 0#32
  let v852 : BitVec 1 := Scalar.cmpi .ne v851 c0_i32_455
  let v856 : BitVec 1 := Scalar.andi v855 v852
  let v857 : BitVec 32 := Scalar.addi v851 v850
  let v858 : BitVec 32 := Scalar.select v856 v857 v851
  let c4_i32_506 : BitVec 32 := 4#32
  let v953 : BitVec 32 := Scalar.muli v858 c4_i32_506
  let v954 : BitVec 32 := Scalar.addi v952 v953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_507 : BitVec 32 := 1#32
  let v955 : BitVec 32 := Scalar.muli v8 c1_i32_507
  let v956 : BitVec 32 := Scalar.addi v954 v955
  v956.toNat
def k0_off15 (d0 : Dev nD) (c0_i32_513 : BitVec 32) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_512 : BitVec 32 := 1#32
  let v965 : BitVec 32 := Scalar.subi v5 c1_i32_512
  let v966 : BitVec 32 := Scalar.subi v965 c0_i32_513
  let c4_i32_514 : BitVec 32 := 4#32
  let c0_i32_515 : BitVec 32 := 0#32
  let v967 : BitVec 1 := Scalar.cmpi .eq c4_i32_514 c0_i32_515
  let c1_i32_516 : BitVec 32 := 1#32
  let v968 : BitVec 32 := Scalar.select v967 c1_i32_516 c4_i32_514
  let v969 : BitVec 32 := Scalar.remsi v966 v968
  let c0_i32_518 : BitVec 32 := 0#32
  let v971 : BitVec 1 := Scalar.cmpi .slt v969 c0_i32_518
  let c0_i32_519 : BitVec 32 := 0#32
  let v972 : BitVec 1 := Scalar.cmpi .slt v968 c0_i32_519
  let v973 : BitVec 1 := Scalar.xori v971 v972
  let c0_i32_517 : BitVec 32 := 0#32
  let v970 : BitVec 1 := Scalar.cmpi .ne v969 c0_i32_517
  let v974 : BitVec 1 := Scalar.andi v973 v970
  let v975 : BitVec 32 := Scalar.addi v969 v968
  let v976 : BitVec 32 := Scalar.select v974 v975 v969
  ![v976.toNat]
def k0_off16 (d0 : Dev nD) (c0_i32_513 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_512 : BitVec 32 := 1#32
  let v965 : BitVec 32 := Scalar.subi v5 c1_i32_512
  let v966 : BitVec 32 := Scalar.subi v965 c0_i32_513
  let c4_i32_514 : BitVec 32 := 4#32
  let c0_i32_515 : BitVec 32 := 0#32
  let v967 : BitVec 1 := Scalar.cmpi .eq c4_i32_514 c0_i32_515
  let c1_i32_516 : BitVec 32 := 1#32
  let v968 : BitVec 32 := Scalar.select v967 c1_i32_516 c4_i32_514
  let v969 : BitVec 32 := Scalar.remsi v966 v968
  let c0_i32_518 : BitVec 32 := 0#32
  let v971 : BitVec 1 := Scalar.cmpi .slt v969 c0_i32_518
  let c0_i32_519 : BitVec 32 := 0#32
  let v972 : BitVec 1 := Scalar.cmpi .slt v968 c0_i32_519
  let v973 : BitVec 1 := Scalar.xori v971 v972
  let c0_i32_517 : BitVec 32 := 0#32
  let v970 : BitVec 1 := Scalar.cmpi .ne v969 c0_i32_517
  let v974 : BitVec 1 := Scalar.andi v973 v970
  let v975 : BitVec 32 := Scalar.addi v969 v968
  let v976 : BitVec 32 := Scalar.select v974 v975 v969
  let c0_i32_524 : BitVec 32 := 0#32
  let c0_i32_525 : BitVec 32 := 0#32
  ![v976.toNat, 0, 0]
def k0_off17 (d0 : Dev nD) (c0_i32_513 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_512 : BitVec 32 := 1#32
  let v965 : BitVec 32 := Scalar.subi v5 c1_i32_512
  let v966 : BitVec 32 := Scalar.subi v965 c0_i32_513
  let c4_i32_514 : BitVec 32 := 4#32
  let c0_i32_515 : BitVec 32 := 0#32
  let v967 : BitVec 1 := Scalar.cmpi .eq c4_i32_514 c0_i32_515
  let c1_i32_516 : BitVec 32 := 1#32
  let v968 : BitVec 32 := Scalar.select v967 c1_i32_516 c4_i32_514
  let v969 : BitVec 32 := Scalar.remsi v966 v968
  let c0_i32_518 : BitVec 32 := 0#32
  let v971 : BitVec 1 := Scalar.cmpi .slt v969 c0_i32_518
  let c0_i32_519 : BitVec 32 := 0#32
  let v972 : BitVec 1 := Scalar.cmpi .slt v968 c0_i32_519
  let v973 : BitVec 1 := Scalar.xori v971 v972
  let c0_i32_517 : BitVec 32 := 0#32
  let v970 : BitVec 1 := Scalar.cmpi .ne v969 c0_i32_517
  let v974 : BitVec 1 := Scalar.andi v973 v970
  let v975 : BitVec 32 := Scalar.addi v969 v968
  let v976 : BitVec 32 := Scalar.select v974 v975 v969
  let v989 : Index := Scalar.indexCast v976
  let c0_528 : Index := 0#32
  let c0_529 : Index := 0#32
  ![v989.toNat, 0, 0]
abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S512x2 : Shape := ⟨2, ![512, 2]⟩
abbrev S_ : Shape := ⟨0, ![]⟩
abbrev S512x2x1 : Shape := ⟨3, ![512, 2, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 397
  | .vmem => 0
  | .smem => 0
  | _ => 0

abbrev hbmTy0_0 (i : Nat) : BufTy := match i % 128 with
  | 0 => ⟨S512x512, .f32⟩
  | 1 => ⟨S512x8, .f32⟩
  | 2 => ⟨S8x512x1024, .f32⟩
  | 3 => ⟨S8x1024x512, .f32⟩
  | 4 => ⟨S512x8, .f32⟩
  | 5 => ⟨S512x8, .f32⟩
  | 6 => ⟨S512x8, .i32⟩
  | 7 => ⟨S512x8, .f32⟩
  | 8 => ⟨S512x8, .i32⟩
  | 9 => ⟨S512x2, .i32⟩
  | 10 => ⟨S_, .i32⟩
  | 11 => ⟨S512x2, .i32⟩
  | 12 => ⟨S512x2, .i1⟩
  | 13 => ⟨S_, .i32⟩
  | 14 => ⟨S512x2, .i32⟩
  | 15 => ⟨S512x2, .i32⟩
  | 16 => ⟨S512x2, .i32⟩
  | 17 => ⟨S512x2x1, .i32⟩
  | 18 => ⟨S1, .i32⟩
  | 19 => ⟨S_, .i32⟩
  | 20 => ⟨S512x2x1, .i32⟩
  | 21 => ⟨S512x2x1, .i1⟩
  | 22 => ⟨S1x1x1, .i32⟩
  | 23 => ⟨S512x2x1, .i32⟩
  | 24 => ⟨S512x2x1, .i1⟩
  | 25 => ⟨S512x2x1, .i1⟩
  | 26 => ⟨S_, .i1⟩
  | 27 => ⟨S512x2, .i1⟩
  | 28 => ⟨S512x2, .f32⟩
  | 29 => ⟨S_, .f32⟩
  | 30 => ⟨S512x2, .f32⟩
  | 31 => ⟨S512x2, .f32⟩
  | 32 => ⟨S_, .f32⟩
  | 33 => ⟨S512, .f32⟩
  | 34 => ⟨S512x1, .f32⟩
  | 35 => ⟨S512x2, .f32⟩
  | 36 => ⟨S512x2, .f32⟩
  | 37 => ⟨S512x2, .f32⟩
  | 38 => ⟨S_, .f32⟩
  | 39 => ⟨S512, .f32⟩
  | 40 => ⟨S512x1, .f32⟩
  | 41 => ⟨S512x2, .f32⟩
  | 42 => ⟨S512x2, .f32⟩
  | 43 => ⟨S_, .f32⟩
  | 44 => ⟨S512x512, .f32⟩
  | 45 => ⟨S512x1, .i32⟩
  | 46 => ⟨S_, .i32⟩
  | 47 => ⟨S512x1, .i32⟩
  | 48 => ⟨S512x1, .i1⟩
  | 49 => ⟨S1x512x1024, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S1x1024x512, .f32⟩
  | 56 => ⟨S1024x512, .f32⟩
  | 57 => ⟨S512x512, .f32⟩
  | 58 => ⟨S512x1, .f32⟩
  | 59 => ⟨S512x512, .f32⟩
  | 60 => ⟨S512x512, .f32⟩
  | 61 => ⟨S_, .f32⟩
  | 62 => ⟨S_, .f32⟩
  | 63 => ⟨S512x512, .i1⟩
  | 64 => ⟨S512x512, .f32⟩
  | 65 => ⟨S512x512, .f32⟩
  | 66 => ⟨S512x512, .f32⟩
  | 67 => ⟨S512x1, .i32⟩
  | 68 => ⟨S_, .i32⟩
  | 69 => ⟨S512x1, .i32⟩
  | 70 => ⟨S512x1, .i1⟩
  | 71 => ⟨S1x512x1024, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S1x1024x512, .f32⟩
  | 78 => ⟨S1024x512, .f32⟩
  | 79 => ⟨S512x512, .f32⟩
  | 80 => ⟨S512x1, .f32⟩
  | 81 => ⟨S512x512, .f32⟩
  | 82 => ⟨S512x512, .f32⟩
  | 83 => ⟨S_, .f32⟩
  | 84 => ⟨S_, .f32⟩
  | 85 => ⟨S512x512, .i1⟩
  | 86 => ⟨S512x512, .f32⟩
  | 87 => ⟨S512x512, .f32⟩
  | 88 => ⟨S512x512, .f32⟩
  | 89 => ⟨S512x1, .i32⟩
  | 90 => ⟨S_, .i32⟩
  | 91 => ⟨S512x1, .i32⟩
  | 92 => ⟨S512x1, .i1⟩
  | 93 => ⟨S1x512x1024, .f32⟩
  | 94 => ⟨S512x1024, .f32⟩
  | 95 => ⟨S512x1024, .f32⟩
  | 96 => ⟨S_, .f32⟩
  | 97 => ⟨S512x1024, .f32⟩
  | 98 => ⟨S512x1024, .f32⟩
  | 99 => ⟨S1x1024x512, .f32⟩
  | 100 => ⟨S1024x512, .f32⟩
  | 101 => ⟨S512x512, .f32⟩
  | 102 => ⟨S512x1, .f32⟩
  | 103 => ⟨S512x512, .f32⟩
  | 104 => ⟨S512x512, .f32⟩
  | 105 => ⟨S_, .f32⟩
  | 106 => ⟨S_, .f32⟩
  | 107 => ⟨S512x512, .i1⟩
  | 108 => ⟨S512x512, .f32⟩
  | 109 => ⟨S512x512, .f32⟩
  | 110 => ⟨S512x512, .f32⟩
  | 111 => ⟨S512x1, .i32⟩
  | 112 => ⟨S_, .i32⟩
  | 113 => ⟨S512x1, .i32⟩
  | 114 => ⟨S512x1, .i1⟩
  | 115 => ⟨S1x512x1024, .f32⟩
  | 116 => ⟨S512x1024, .f32⟩
  | 117 => ⟨S512x1024, .f32⟩
  | 118 => ⟨S_, .f32⟩
  | 119 => ⟨S512x1024, .f32⟩
  | 120 => ⟨S512x1024, .f32⟩
  | 121 => ⟨S1x1024x512, .f32⟩
  | 122 => ⟨S1024x512, .f32⟩
  | 123 => ⟨S512x512, .f32⟩
  | 124 => ⟨S512x1, .f32⟩
  | 125 => ⟨S512x512, .f32⟩
  | 126 => ⟨S512x512, .f32⟩
  | 127 => ⟨S_, .f32⟩
  | _ => ⟨S512x512, .f32⟩

abbrev hbmTy0_1 (i : Nat) : BufTy := match i % 128 with
  | 0 => ⟨S_, .f32⟩
  | 1 => ⟨S512x512, .i1⟩
  | 2 => ⟨S512x512, .f32⟩
  | 3 => ⟨S512x512, .f32⟩
  | 4 => ⟨S512x512, .f32⟩
  | 5 => ⟨S512x1, .i32⟩
  | 6 => ⟨S_, .i32⟩
  | 7 => ⟨S512x1, .i32⟩
  | 8 => ⟨S512x1, .i1⟩
  | 9 => ⟨S1x512x1024, .f32⟩
  | 10 => ⟨S512x1024, .f32⟩
  | 11 => ⟨S512x1024, .f32⟩
  | 12 => ⟨S_, .f32⟩
  | 13 => ⟨S512x1024, .f32⟩
  | 14 => ⟨S512x1024, .f32⟩
  | 15 => ⟨S1x1024x512, .f32⟩
  | 16 => ⟨S1024x512, .f32⟩
  | 17 => ⟨S512x512, .f32⟩
  | 18 => ⟨S512x1, .f32⟩
  | 19 => ⟨S512x512, .f32⟩
  | 20 => ⟨S512x512, .f32⟩
  | 21 => ⟨S_, .f32⟩
  | 22 => ⟨S_, .f32⟩
  | 23 => ⟨S512x512, .i1⟩
  | 24 => ⟨S512x512, .f32⟩
  | 25 => ⟨S512x512, .f32⟩
  | 26 => ⟨S512x512, .f32⟩
  | 27 => ⟨S512x1, .i32⟩
  | 28 => ⟨S_, .i32⟩
  | 29 => ⟨S512x1, .i32⟩
  | 30 => ⟨S512x1, .i1⟩
  | 31 => ⟨S1x512x1024, .f32⟩
  | 32 => ⟨S512x1024, .f32⟩
  | 33 => ⟨S512x1024, .f32⟩
  | 34 => ⟨S_, .f32⟩
  | 35 => ⟨S512x1024, .f32⟩
  | 36 => ⟨S512x1024, .f32⟩
  | 37 => ⟨S1x1024x512, .f32⟩
  | 38 => ⟨S1024x512, .f32⟩
  | 39 => ⟨S512x512, .f32⟩
  | 40 => ⟨S512x1, .f32⟩
  | 41 => ⟨S512x512, .f32⟩
  | 42 => ⟨S512x512, .f32⟩
  | 43 => ⟨S_, .f32⟩
  | 44 => ⟨S_, .f32⟩
  | 45 => ⟨S512x512, .i1⟩
  | 46 => ⟨S512x512, .f32⟩
  | 47 => ⟨S512x512, .f32⟩
  | 48 => ⟨S512x512, .f32⟩
  | 49 => ⟨S512x1, .i32⟩
  | 50 => ⟨S_, .i32⟩
  | 51 => ⟨S512x1, .i32⟩
  | 52 => ⟨S512x1, .i1⟩
  | 53 => ⟨S1x512x1024, .f32⟩
  | 54 => ⟨S512x1024, .f32⟩
  | 55 => ⟨S512x1024, .f32⟩
  | 56 => ⟨S_, .f32⟩
  | 57 => ⟨S512x1024, .f32⟩
  | 58 => ⟨S512x1024, .f32⟩
  | 59 => ⟨S1x1024x512, .f32⟩
  | 60 => ⟨S1024x512, .f32⟩
  | 61 => ⟨S512x512, .f32⟩
  | 62 => ⟨S512x1, .f32⟩
  | 63 => ⟨S512x512, .f32⟩
  | 64 => ⟨S512x512, .f32⟩
  | 65 => ⟨S_, .f32⟩
  | 66 => ⟨S_, .f32⟩
  | 67 => ⟨S512x512, .i1⟩
  | 68 => ⟨S512x512, .f32⟩
  | 69 => ⟨S512x512, .f32⟩
  | 70 => ⟨S512x512, .f32⟩
  | 71 => ⟨S512x1, .i32⟩
  | 72 => ⟨S_, .i32⟩
  | 73 => ⟨S512x1, .i32⟩
  | 74 => ⟨S512x1, .i1⟩
  | 75 => ⟨S1x512x1024, .f32⟩
  | 76 => ⟨S512x1024, .f32⟩
  | 77 => ⟨S512x1024, .f32⟩
  | 78 => ⟨S_, .f32⟩
  | 79 => ⟨S512x1024, .f32⟩
  | 80 => ⟨S512x1024, .f32⟩
  | 81 => ⟨S1x1024x512, .f32⟩
  | 82 => ⟨S1024x512, .f32⟩
  | 83 => ⟨S512x512, .f32⟩
  | 84 => ⟨S512x1, .f32⟩
  | 85 => ⟨S512x512, .f32⟩
  | 86 => ⟨S512x512, .f32⟩
  | 87 => ⟨S_, .f32⟩
  | 88 => ⟨S_, .f32⟩
  | 89 => ⟨S512x512, .i1⟩
  | 90 => ⟨S512x512, .f32⟩
  | 91 => ⟨S512x512, .f32⟩
  | 92 => ⟨S512x512, .f32⟩
  | 93 => ⟨S512x1, .i32⟩
  | 94 => ⟨S_, .i32⟩
  | 95 => ⟨S512x1, .i32⟩
  | 96 => ⟨S512x1, .i1⟩
  | 97 => ⟨S1x512x1024, .f32⟩
  | 98 => ⟨S512x1024, .f32⟩
  | 99 => ⟨S512x1024, .f32⟩
  | 100 => ⟨S_, .f32⟩
  | 101 => ⟨S512x1024, .f32⟩
  | 102 => ⟨S512x1024, .f32⟩
  | 103 => ⟨S1x1024x512, .f32⟩
  | 104 => ⟨S1024x512, .f32⟩
  | 105 => ⟨S512x512, .f32⟩
  | 106 => ⟨S512x1, .f32⟩
  | 107 => ⟨S512x512, .f32⟩
  | 108 => ⟨S512x512, .f32⟩
  | 109 => ⟨S_, .f32⟩
  | 110 => ⟨S_, .f32⟩
  | 111 => ⟨S512x512, .i1⟩
  | 112 => ⟨S512x512, .f32⟩
  | 113 => ⟨S512x512, .f32⟩
  | 114 => ⟨S512x512, .f32⟩
  | 115 => ⟨S512x1, .i32⟩
  | 116 => ⟨S_, .i32⟩
  | 117 => ⟨S512x1, .i32⟩
  | 118 => ⟨S512x1, .i1⟩
  | 119 => ⟨S1x512x1024, .f32⟩
  | 120 => ⟨S512x1024, .f32⟩
  | 121 => ⟨S512x1024, .f32⟩
  | 122 => ⟨S_, .f32⟩
  | 123 => ⟨S512x1024, .f32⟩
  | 124 => ⟨S512x1024, .f32⟩
  | 125 => ⟨S1x1024x512, .f32⟩
  | 126 => ⟨S1024x512, .f32⟩
  | 127 => ⟨S512x512, .f32⟩
  | _ => ⟨S512x512, .f32⟩

abbrev hbmTy0_2 (i : Nat) : BufTy := match i % 128 with
  | 0 => ⟨S512x1, .f32⟩
  | 1 => ⟨S512x512, .f32⟩
  | 2 => ⟨S512x512, .f32⟩
  | 3 => ⟨S_, .f32⟩
  | 4 => ⟨S_, .f32⟩
  | 5 => ⟨S512x512, .i1⟩
  | 6 => ⟨S512x512, .f32⟩
  | 7 => ⟨S512x512, .f32⟩
  | 8 => ⟨S512x512, .f32⟩
  | 9 => ⟨S512x1, .i32⟩
  | 10 => ⟨S_, .i32⟩
  | 11 => ⟨S512x1, .i32⟩
  | 12 => ⟨S512x1, .i1⟩
  | 13 => ⟨S1x512x1024, .f32⟩
  | 14 => ⟨S512x1024, .f32⟩
  | 15 => ⟨S512x1024, .f32⟩
  | 16 => ⟨S_, .f32⟩
  | 17 => ⟨S512x1024, .f32⟩
  | 18 => ⟨S512x1024, .f32⟩
  | 19 => ⟨S1x1024x512, .f32⟩
  | 20 => ⟨S1024x512, .f32⟩
  | 21 => ⟨S512x512, .f32⟩
  | 22 => ⟨S512x1, .f32⟩
  | 23 => ⟨S512x512, .f32⟩
  | 24 => ⟨S512x512, .f32⟩
  | 25 => ⟨S_, .f32⟩
  | 26 => ⟨S_, .f32⟩
  | 27 => ⟨S512x512, .i1⟩
  | 28 => ⟨S512x512, .f32⟩
  | 29 => ⟨S512x512, .f32⟩
  | 30 => ⟨S512x512, .f32⟩
  | 31 => ⟨S512x1, .i32⟩
  | 32 => ⟨S_, .i32⟩
  | 33 => ⟨S512x1, .i32⟩
  | 34 => ⟨S512x1, .i1⟩
  | 35 => ⟨S1x512x1024, .f32⟩
  | 36 => ⟨S512x1024, .f32⟩
  | 37 => ⟨S512x1024, .f32⟩
  | 38 => ⟨S_, .f32⟩
  | 39 => ⟨S512x1024, .f32⟩
  | 40 => ⟨S512x1024, .f32⟩
  | 41 => ⟨S1x1024x512, .f32⟩
  | 42 => ⟨S1024x512, .f32⟩
  | 43 => ⟨S512x512, .f32⟩
  | 44 => ⟨S512x1, .f32⟩
  | 45 => ⟨S512x512, .f32⟩
  | 46 => ⟨S512x512, .f32⟩
  | 47 => ⟨S_, .f32⟩
  | 48 => ⟨S_, .f32⟩
  | 49 => ⟨S512x512, .i1⟩
  | 50 => ⟨S512x512, .f32⟩
  | 51 => ⟨S512x512, .f32⟩
  | 52 => ⟨S512x512, .f32⟩
  | 53 => ⟨S512x1, .i32⟩
  | 54 => ⟨S_, .i32⟩
  | 55 => ⟨S512x1, .i32⟩
  | 56 => ⟨S512x1, .i1⟩
  | 57 => ⟨S1x512x1024, .f32⟩
  | 58 => ⟨S512x1024, .f32⟩
  | 59 => ⟨S512x1024, .f32⟩
  | 60 => ⟨S_, .f32⟩
  | 61 => ⟨S512x1024, .f32⟩
  | 62 => ⟨S512x1024, .f32⟩
  | 63 => ⟨S1x1024x512, .f32⟩
  | 64 => ⟨S1024x512, .f32⟩
  | 65 => ⟨S512x512, .f32⟩
  | 66 => ⟨S512x1, .f32⟩
  | 67 => ⟨S512x512, .f32⟩
  | 68 => ⟨S512x512, .f32⟩
  | 69 => ⟨S_, .f32⟩
  | 70 => ⟨S_, .f32⟩
  | 71 => ⟨S512x512, .i1⟩
  | 72 => ⟨S512x512, .f32⟩
  | 73 => ⟨S512x512, .f32⟩
  | 74 => ⟨S512x512, .f32⟩
  | 75 => ⟨S512x1, .i32⟩
  | 76 => ⟨S_, .i32⟩
  | 77 => ⟨S512x1, .i32⟩
  | 78 => ⟨S512x1, .i1⟩
  | 79 => ⟨S1x512x1024, .f32⟩
  | 80 => ⟨S512x1024, .f32⟩
  | 81 => ⟨S512x1024, .f32⟩
  | 82 => ⟨S_, .f32⟩
  | 83 => ⟨S512x1024, .f32⟩
  | 84 => ⟨S512x1024, .f32⟩
  | 85 => ⟨S1x1024x512, .f32⟩
  | 86 => ⟨S1024x512, .f32⟩
  | 87 => ⟨S512x512, .f32⟩
  | 88 => ⟨S512x1, .f32⟩
  | 89 => ⟨S512x512, .f32⟩
  | 90 => ⟨S512x512, .f32⟩
  | 91 => ⟨S_, .f32⟩
  | 92 => ⟨S_, .f32⟩
  | 93 => ⟨S512x512, .i1⟩
  | 94 => ⟨S512x512, .f32⟩
  | 95 => ⟨S512x512, .f32⟩
  | 96 => ⟨S512x512, .f32⟩
  | 97 => ⟨S512x1, .i32⟩
  | 98 => ⟨S_, .i32⟩
  | 99 => ⟨S512x1, .i32⟩
  | 100 => ⟨S512x1, .i1⟩
  | 101 => ⟨S1x512x1024, .f32⟩
  | 102 => ⟨S512x1024, .f32⟩
  | 103 => ⟨S512x1024, .f32⟩
  | 104 => ⟨S_, .f32⟩
  | 105 => ⟨S512x1024, .f32⟩
  | 106 => ⟨S512x1024, .f32⟩
  | 107 => ⟨S1x1024x512, .f32⟩
  | 108 => ⟨S1024x512, .f32⟩
  | 109 => ⟨S512x512, .f32⟩
  | 110 => ⟨S512x1, .f32⟩
  | 111 => ⟨S512x512, .f32⟩
  | 112 => ⟨S512x512, .f32⟩
  | 113 => ⟨S_, .f32⟩
  | 114 => ⟨S_, .f32⟩
  | 115 => ⟨S512x512, .i1⟩
  | 116 => ⟨S512x512, .f32⟩
  | 117 => ⟨S512x512, .f32⟩
  | 118 => ⟨S512x512, .f32⟩
  | 119 => ⟨S512x1, .i32⟩
  | 120 => ⟨S_, .i32⟩
  | 121 => ⟨S512x1, .i32⟩
  | 122 => ⟨S512x1, .i1⟩
  | 123 => ⟨S1x512x1024, .f32⟩
  | 124 => ⟨S512x1024, .f32⟩
  | 125 => ⟨S512x1024, .f32⟩
  | 126 => ⟨S_, .f32⟩
  | 127 => ⟨S512x1024, .f32⟩
  | _ => ⟨S512x512, .f32⟩

abbrev hbmTy0_3 (i : Nat) : BufTy := match i % 128 with
  | 0 => ⟨S512x1024, .f32⟩
  | 1 => ⟨S1x1024x512, .f32⟩
  | 2 => ⟨S1024x512, .f32⟩
  | 3 => ⟨S512x512, .f32⟩
  | 4 => ⟨S512x1, .f32⟩
  | 5 => ⟨S512x512, .f32⟩
  | 6 => ⟨S512x512, .f32⟩
  | 7 => ⟨S_, .f32⟩
  | 8 => ⟨S_, .f32⟩
  | 9 => ⟨S512x512, .i1⟩
  | 10 => ⟨S512x512, .f32⟩
  | 11 => ⟨S512x512, .f32⟩
  | 12 => ⟨S512x512, .f32⟩
  | _ => ⟨S512x512, .f32⟩

abbrev hbmTy (i : Nat) : BufTy := match i / 128 with
  | 0 => hbmTy0_0 i
  | 1 => hbmTy0_1 i
  | 2 => hbmTy0_2 i
  | 3 => hbmTy0_3 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_c : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_6 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_7 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_8 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_9 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_10 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_11 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_12 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_13 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_14 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_15 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_16 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_17 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_18 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_c_19 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_20 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_cst_21 : Ref sig .tc := ⟨.hbm, 193, rfl⟩
abbrev main_call8_v0 : Ref sig .tc := ⟨.hbm, 194, rfl⟩
abbrev main_call8_v1 : Ref sig .tc := ⟨.hbm, 195, rfl⟩
abbrev main_call8_v2 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_c_22 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_cst_23 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_24 : Ref sig .tc := ⟨.hbm, 215, rfl⟩
abbrev main_call9_v0 : Ref sig .tc := ⟨.hbm, 216, rfl⟩
abbrev main_call9_v1 : Ref sig .tc := ⟨.hbm, 217, rfl⟩
abbrev main_call9_v2 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_c_25 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_cst_26 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_cst_27 : Ref sig .tc := ⟨.hbm, 237, rfl⟩
abbrev main_call10_v0 : Ref sig .tc := ⟨.hbm, 238, rfl⟩
abbrev main_call10_v1 : Ref sig .tc := ⟨.hbm, 239, rfl⟩
abbrev main_call10_v2 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_c_28 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_cst_29 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_cst_30 : Ref sig .tc := ⟨.hbm, 259, rfl⟩
abbrev main_call11_v0 : Ref sig .tc := ⟨.hbm, 260, rfl⟩
abbrev main_call11_v1 : Ref sig .tc := ⟨.hbm, 261, rfl⟩
abbrev main_call11_v2 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_c_31 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_cst_32 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_cst_33 : Ref sig .tc := ⟨.hbm, 281, rfl⟩
abbrev main_call12_v0 : Ref sig .tc := ⟨.hbm, 282, rfl⟩
abbrev main_call12_v1 : Ref sig .tc := ⟨.hbm, 283, rfl⟩
abbrev main_call12_v2 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_c_34 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_cst_35 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_cst_36 : Ref sig .tc := ⟨.hbm, 303, rfl⟩
abbrev main_call13_v0 : Ref sig .tc := ⟨.hbm, 304, rfl⟩
abbrev main_call13_v1 : Ref sig .tc := ⟨.hbm, 305, rfl⟩
abbrev main_call13_v2 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_c_37 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_cst_38 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_cst_39 : Ref sig .tc := ⟨.hbm, 325, rfl⟩
abbrev main_call14_v0 : Ref sig .tc := ⟨.hbm, 326, rfl⟩
abbrev main_call14_v1 : Ref sig .tc := ⟨.hbm, 327, rfl⟩
abbrev main_call14_v2 : Ref sig .tc := ⟨.hbm, 328, rfl⟩
abbrev main_v221 : Ref sig .tc := ⟨.hbm, 329, rfl⟩
abbrev main_v222 : Ref sig .tc := ⟨.hbm, 330, rfl⟩
abbrev main_v223 : Ref sig .tc := ⟨.hbm, 331, rfl⟩
abbrev main_c_40 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_cst_41 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_cst_42 : Ref sig .tc := ⟨.hbm, 347, rfl⟩
abbrev main_call15_v0 : Ref sig .tc := ⟨.hbm, 348, rfl⟩
abbrev main_call15_v1 : Ref sig .tc := ⟨.hbm, 349, rfl⟩
abbrev main_call15_v2 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_c_43 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_v243 : Ref sig .tc := ⟨.hbm, 358, rfl⟩
abbrev main_v244 : Ref sig .tc := ⟨.hbm, 359, rfl⟩
abbrev main_cst_44 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_cst_45 : Ref sig .tc := ⟨.hbm, 369, rfl⟩
abbrev main_call16_v0 : Ref sig .tc := ⟨.hbm, 370, rfl⟩
abbrev main_call16_v1 : Ref sig .tc := ⟨.hbm, 371, rfl⟩
abbrev main_call16_v2 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_c_46 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_v259 : Ref sig .tc := ⟨.hbm, 380, rfl⟩
abbrev main_v260 : Ref sig .tc := ⟨.hbm, 381, rfl⟩
abbrev main_cst_47 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_cst_48 : Ref sig .tc := ⟨.hbm, 391, rfl⟩
abbrev main_call17_v0 : Ref sig .tc := ⟨.hbm, 392, rfl⟩
abbrev main_call17_v1 : Ref sig .tc := ⟨.hbm, 393, rfl⟩
abbrev main_call17_v2 : Ref sig .tc := ⟨.hbm, 394, rfl⟩
abbrev main_v269 : Ref sig .tc := ⟨.hbm, 395, rfl⟩
abbrev main_v270 : Ref sig .tc := ⟨.hbm, 396, rfl⟩

abbrev nD : Nat := 1
abbrev τ : Topo := Topo.v7x

variable {F : FTy → Type} [FloatOps F]
-- ==== Proof.Mesh.lean ====
/-
# `Mesh`: the devices of a group and the kernel's device and offset chains in closed form

The mesh is 2 × 4 × 4; the four devices that differ only in the middle coordinate form a group, and only they
exchange anything. `yc c` is a device's place in its group, `at' c k` the member at place `k`, `nb c r` the member
`1 + r` places after `c` (cyclically). The map `(c, r) ↦ (nb c r, 2 - r)` undoes itself.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Ring
public import Idealize.ShloMosaic.Lib.Transfers
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option backward.proofsInPublic true in
/-- A device's place in its group. -/
def yc (c : Dev nD) : Fin 4 := ⟨c.val / 4 % 4, Nat.mod_lt _ (by decide)⟩

set_option backward.proofsInPublic true in
/-- The member of `c`'s group at place `k`. -/
def at' (c : Dev nD) (k : Fin 4) : Dev nD :=
  ⟨c.val / 16 * 16 + k.val * 4 + c.val % 4, by have := c.isLt; have := k.isLt; simp only [nD] at *; omega⟩

set_option backward.proofsInPublic true in
/-- The place `1 + r` after `c`'s. -/
def sl (c : Dev nD) (r : Fin 3) : Fin 4 := ⟨(c.val / 4 % 4 + 1 + r.val) % 4, Nat.mod_lt _ (by decide)⟩

/-- The member of `c`'s group `1 + r` places after it. -/
def nb (c : Dev nD) (r : Fin 3) : Dev nD := at' c (sl c r)

set_option backward.proofsInPublic true in
/-- The place `r` after `c`'s. -/
def so (c : Dev nD) (r : Fin 4) : Fin 4 := ⟨(c.val / 4 % 4 + r.val) % 4, Nat.mod_lt _ (by decide)⟩

theorem yc_at (c : Dev nD) (k : Fin 4) : yc (at' c k) = k := by revert k; revert c; decide +kernel
theorem at_at (c : Dev nD) (k l : Fin 4) : at' (at' c k) l = at' c l := by revert l; revert k; revert c; decide +kernel
theorem at_yc (c : Dev nD) : at' c (yc c) = c := by revert c; decide +kernel
theorem yc_nb (c : Dev nD) (r : Fin 3) : yc (nb c r) = sl c r := yc_at _ _
theorem at_nb (c : Dev nD) (r : Fin 3) (k : Fin 4) : at' (nb c r) k = at' c k := at_at _ _ _
theorem nb_nb (c : Dev nD) (r : Fin 3) : nb (nb c r) (2 - r) = c := by revert r; revert c; decide +kernel
theorem sl_nb (c : Dev nD) (r : Fin 3) : sl (nb c r) (2 - r) = yc c := by revert r; revert c; decide +kernel
theorem nb_ne (c : Dev nD) (r : Fin 3) : nb c r ≠ c := by revert r; revert c; decide +kernel
theorem sl_ne (c : Dev nD) (r : Fin 3) : sl c r ≠ yc c := by revert r; revert c; decide +kernel
theorem nb_inj (c : Dev nD) (r s : Fin 3) : nb c r = nb c s → r = s := by revert s; revert r; revert c; decide +kernel
theorem sl_inj (c : Dev nD) (r s : Fin 3) : sl c r = sl c s → r = s := by revert s; revert r; revert c; decide +kernel
theorem so_zero (c : Dev nD) : so c 0 = yc c := by revert c; decide +kernel
theorem so_one (c : Dev nD) : so c 1 = sl c 0 := by revert c; decide +kernel
theorem so_two (c : Dev nD) : so c 2 = sl c 1 := by revert c; decide +kernel
theorem so_three (c : Dev nD) : so c 3 = sl c 2 := by revert c; decide +kernel
theorem two_sub (r : Fin 3) : 2 - (2 - r) = r := by revert r; decide

/-- The pairs of a device and a step, turned around. -/
def flip3 : Dev nD × Fin 3 ≃ Dev nD × Fin 3 where
  toFun p := (nb p.1 p.2, 2 - p.2)
  invFun p := (nb p.1 p.2, 2 - p.2)
  left_inv p := by simp only [nb_nb, two_sub]
  right_inv p := by simp only [nb_nb, two_sub]

/-! ## The device chains -/

theorem dev1_eq (c : Dev nD) : (⟨k0_dev1 c, k0_dev1_lt c⟩ : Dev nD) = nb c 0 := by revert c; decide +kernel
theorem dev2_eq (c : Dev nD) : (⟨k0_dev2 c, k0_dev2_lt c⟩ : Dev nD) = nb c 1 := by revert c; decide +kernel
theorem dev3_eq (c : Dev nD) : (⟨k0_dev3 c, k0_dev3_lt c⟩ : Dev nD) = nb c 2 := by revert c; decide +kernel
theorem dev4_eq (c : Dev nD) : (⟨k0_dev4 c, k0_dev4_lt c⟩ : Dev nD) = nb c 0 := by revert c; decide +kernel
theorem dev5_eq (c : Dev nD) : (⟨k0_dev5 c, k0_dev5_lt c⟩ : Dev nD) = nb c 1 := by revert c; decide +kernel
theorem dev6_eq (c : Dev nD) : (⟨k0_dev6 c, k0_dev6_lt c⟩ : Dev nD) = nb c 2 := by revert c; decide +kernel
theorem dev7_eq (c : Dev nD) : (⟨k0_dev7 c, k0_dev7_lt c⟩ : Dev nD) = nb c 2 := by revert c; decide +kernel
theorem dev8_eq (c : Dev nD) : (⟨k0_dev8 c, k0_dev8_lt c⟩ : Dev nD) = nb c 2 := by revert c; decide +kernel
theorem dev9_eq (c : Dev nD) : (⟨k0_dev9 c, k0_dev9_lt c⟩ : Dev nD) = nb c 1 := by revert c; decide +kernel
theorem dev10_eq (c : Dev nD) : (⟨k0_dev10 c, k0_dev10_lt c⟩ : Dev nD) = nb c 0 := by revert c; decide +kernel
theorem dev11_eq (c : Dev nD) : (⟨k0_dev11 c, k0_dev11_lt c⟩ : Dev nD) = nb c 1 := by revert c; decide +kernel
theorem dev12_eq (c : Dev nD) : (⟨k0_dev12 c, k0_dev12_lt c⟩ : Dev nD) = nb c 0 := by revert c; decide +kernel
theorem dev13_eq (c : Dev nD) : (⟨k0_dev13 c, k0_dev13_lt c⟩ : Dev nD) = nb c 0 := by revert c; decide +kernel
theorem dev14_eq (c : Dev nD) : (⟨k0_dev14 c, k0_dev14_lt c⟩ : Dev nD) = nb c 1 := by revert c; decide +kernel
theorem dev15_eq (c : Dev nD) : (⟨k0_dev15 c, k0_dev15_lt c⟩ : Dev nD) = nb c 2 := by revert c; decide +kernel

/-! ## The offset chains -/

theorem off1_eq (c : Dev nD) : k0_off1 c = ![(yc c).val, 0, 0] := by revert c; decide +kernel
theorem off2_eq (c : Dev nD) : k0_off2 c = ![(yc c).val, 0, 0] := by revert c; decide +kernel
theorem off3_eq (c : Dev nD) : k0_off3 c = ![(yc c).val] := by revert c; decide +kernel
theorem off4_eq (c : Dev nD) : k0_off4 c = ![(yc c).val, 0, 0] := by revert c; decide +kernel
theorem off5_eq (c : Dev nD) : k0_off5 c = ![(yc c).val, 0, 0] := by revert c; decide +kernel
theorem off8_eq (c : Dev nD) : k0_off8 c = ![(yc c).val, 0, 0] := by revert c; decide +kernel
theorem off9_eq (c : Dev nD) : k0_off9 c = ![(yc c).val, 0, 0] := by revert c; decide +kernel
theorem off6_eq (c : Dev nD) (r : Fin 3) : k0_off6 c (BitVec.ofNat 32 r.val) = ![(sl c r).val] := by revert r; revert c; decide +kernel
theorem off7_eq (c : Dev nD) (r : Fin 3) : k0_off7 c (BitVec.ofNat 32 r.val) = ![(sl c r).val, 0, 0] := by revert r; revert c; decide +kernel
theorem off10_eq (c : Dev nD) (r : Fin 4) : k0_off10 c (BitVec.ofNat 32 r.val) = ![(so c r).val, 0, 0] := by revert r; revert c; decide +kernel
theorem off11_eq (c : Dev nD) (r : Fin 4) : k0_off11 c (BitVec.ofNat 32 r.val) = ![(so c r).val, 0, 0] := by revert r; revert c; decide +kernel
theorem off12_eq (c : Dev nD) (r : Fin 3) : k0_off12 c (BitVec.ofNat 32 (1 + r.val)) = ![(sl c r).val] := by revert r; revert c; decide +kernel
theorem off13_eq (c : Dev nD) (r : Fin 3) : k0_off13 c (BitVec.ofNat 32 (1 + r.val)) = ![(sl c r).val, 0, 0] := by revert r; revert c; decide +kernel
theorem off14_eq (c : Dev nD) (r : Fin 3) : k0_off14 c (BitVec.ofNat 32 (1 + r.val)) = ![(sl c r).val, 0, 0] := by revert r; revert c; decide +kernel
theorem off15_eq (c : Dev nD) (r : Fin 3) : k0_off15 c (BitVec.ofNat 32 r.val) = ![(sl c (2 - r)).val] := by revert r; revert c; decide +kernel
theorem off16_eq (c : Dev nD) (r : Fin 3) : k0_off16 c (BitVec.ofNat 32 r.val) = ![(sl c (2 - r)).val, 0, 0] := by revert r; revert c; decide +kernel
theorem off17_eq (c : Dev nD) (r : Fin 3) : k0_off17 c (BitVec.ofNat 32 r.val) = ![(sl c (2 - r)).val, 0, 0] := by revert r; revert c; decide +kernel

end Cert.KP
-- ==== Proof.Slots.lean ====
/-
# `Slots`: a buffer of four slots

A buffer of shape 4 × a × b is four slots, one for each device of a group. `glue G` is the array whose slot `k` is
`G k`. What is proved here is said of any view of such a shape: which elements a slot is, what a load of a slot
reads, what a store into a slot leaves, what a transfer of a slot leaves.
-/
module

public import proofs.«01_k».proof.Proof.Mesh

@[expose] public section

noncomputable section

namespace Cert.KP

open Cert.KernelIdeal Cert.KernelIdeal.Gen
open Idealize.ShloMosaic
open Idealize.ShloMosaic.TcCoe
open Idealize.ShloMosaic.ValueKit (rect_emb_unit_val)

variable {a b : ℕ}

/-- Four slots of `a × b`. -/
abbrev Big (a b : ℕ) : Shape := ⟨3, ![4, a, b]⟩
/-- One slot. -/
abbrev One (a b : ℕ) : Shape := ⟨3, ![1, a, b]⟩
/-- One slot, its leading axis dropped. -/
abbrev Flat (a b : ℕ) : Shape := ⟨2, ![a, b]⟩

/-- The slot an index lies in. -/
def place (i : (Big a b).Idx) : Fin 4 := i 0

/-- The elements of slot `k`. -/
def slotI (a b : ℕ) (k : Fin 4) : Finset (Big a b).Idx := Finset.univ.filter fun i => place i = k

theorem mem_slotI {k : Fin 4} {i : (Big a b).Idx} : i ∈ slotI a b k ↔ place i = k := by
  rw [slotI, Finset.mem_filter]
  exact and_iff_right (Finset.mem_univ _)

/-- An index, taken inside its slot. -/
def drop (i : (Big a b).Idx) : (One a b).Idx := fun
  | 0 => (0 : Fin 1)
  | 1 => i 1
  | 2 => i 2

/-- The array of four slots. -/
def glue {α : Type} (G : Fin 4 → (One a b).Idx → α) : (Big a b).Idx → α := fun i => G (place i) (drop i)

theorem slot_disjoint {k l : Fin 4} (h : k ≠ l) : Disjoint (slotI a b k) (slotI a b l) := by
  rw [Finset.disjoint_left]
  intro i hi hj
  exact h ((mem_slotI.mp hi).symm.trans (mem_slotI.mp hj))

theorem slot_cover : (Finset.univ : Finset (Fin 4)).biUnion (slotI a b) = Finset.univ := by
  ext i
  rw [Finset.mem_biUnion]
  exact ⟨fun _ => Finset.mem_univ _, fun _ => ⟨place i, Finset.mem_univ _, mem_slotI.mpr rfl⟩⟩

/-- The rectangle of slot `k`. -/
abbrev slotR (off : Fin 3 → ℕ) (inb : ∀ x, off x + (One a b).size x ≤ (Big a b).size x) : Rect (Big a b) :=
  Rect.unit off (One a b).size inb

section
variable {off : Fin 3 → ℕ} {inb : ∀ x, off x + (One a b).size x ≤ (Big a b).size x} {k : Fin 4}

theorem emb_zero (ho : off = ![k.val, 0, 0]) (x : (slotR off inb).shape.Idx) : place ((slotR off inb).emb x) = k := by
  subst ho
  apply Fin.ext
  show ((slotR _ inb).emb x 0).val = k.val
  rw [rect_emb_unit_val]
  have : (x 0).val < 1 := (x 0).isLt
  show k.val + (x 0).val = k.val
  omega

theorem drop_emb (ho : off = ![k.val, 0, 0]) (x : (slotR off inb).shape.Idx) : drop ((slotR off inb).emb x) = x := by
  subst ho
  funext j
  apply Fin.ext
  fin_cases j
  · have : (x 0).val < 1 := (x 0).isLt
    show 0 = (x 0).val
    omega
  · show ((slotR _ inb).emb x 1).val = (x 1).val
    rw [rect_emb_unit_val]
    exact Nat.zero_add _
  · show ((slotR _ inb).emb x 2).val = (x 2).val
    rw [rect_emb_unit_val]
    exact Nat.zero_add _

theorem emb_drop (ho : off = ![k.val, 0, 0]) {i : (Big a b).Idx} (hi : i ∈ slotI a b k) :
    (slotR off inb).emb (drop i) = i := by
  have h0 : place i = k := mem_slotI.mp hi
  subst ho
  funext j
  apply Fin.ext
  rw [rect_emb_unit_val]
  fin_cases j
  · show k.val + 0 = (place i).val
    rw [h0]; rfl
  · exact Nat.zero_add _
  · exact Nat.zero_add _

theorem set_slotR (ho : off = ![k.val, 0, 0]) : (slotR off inb).set = slotI a b k := by
  rw [← Rect.map_emb_univ]
  ext i
  rw [Finset.mem_map]
  constructor
  · rintro ⟨x, -, rfl⟩
    exact mem_slotI.mpr (emb_zero ho x)
  · intro hi
    exact ⟨drop i, Finset.mem_univ _, emb_drop ho hi⟩

theorem glue_emb {α : Type} (G : Fin 4 → (One a b).Idx → α) (ho : off = ![k.val, 0, 0]) (x : (slotR off inb).shape.Idx) :
    glue G ((slotR off inb).emb x) = G k x := by
  unfold glue
  rw [drop_emb ho x, emb_zero ho x]

variable {sig : RefSig} {κ : Kind} {sp : Space} {e : EltTy} {Val : EltTy → Type}

/-- A slot's view, its leading axis dropped. -/
abbrev slotM (M : Memref sig κ sp (Big a b) e) (off : Fin 3 → ℕ)
    (inb : ∀ x, off x + (One a b).size x ≤ (Big a b).size x) (hq : (One a b).Squeezes (Flat a b)) : Memref sig κ sp (Flat a b) e :=
  (M.slice (slotR off inb) (fun _ => rfl)).squeeze (Flat a b) hq

theorem set_slotM (M : Memref sig κ sp (Big a b) e) (hq : (One a b).Squeezes (Flat a b)) (ho : off = ![k.val, 0, 0]) :
    (slotM M off inb hq).view.set = M.view.setOn (slotI a b k) := by
  show ((M.view.slice (slotR off inb)).reshape (Flat a b) hq.numel_eq).set = _
  rw [View.set_reshape, View.set_slice, set_slotR ho]
  rfl

/-- What a load of slot `k` reads. -/
theorem load_slot (M : Memref sig κ sp (Big a b) e) (ho : off = ![k.val, 0, 0]) (f : M.view.ty.Contents Val)
    (G : Fin 4 → (One a b).Idx → Val e) (hf : M.view.read Val f = glue G) :
    M.view.readAt Val (slotR off inb).toLoadRect f = G k := by
  funext x
  show M.view.read Val f ((slotR off inb).emb x) = G k x
  rw [hf, glue_emb G ho]

theorem load_set (M : Memref sig κ sp (Big a b) e) (ho : off = ![k.val, 0, 0]) :
    M.view.setOn (slotR off inb).toLoadRect.set ⊆ M.view.setOn (slotI a b k) := by
  show M.view.setOn (slotR off inb).set ⊆ M.view.setOn (slotI a b k)
  rw [set_slotR ho]

theorem store_set (M : Memref sig κ sp (Big a b) e) (ho : off = ![k.val, 0, 0]) :
    (M.access (slotR off inb)).setOn Finset.univ ⊆ M.view.setOn (slotI a b k) := by
  show (M.view.slice (slotR off inb)).set ⊆ _
  rw [View.set_slice, set_slotR ho]
  rfl

/-- What a store into slot `k` leaves there. -/
theorem store_slot (M : Memref sig κ sp (Big a b) e) (ho : off = ![k.val, 0, 0]) (f : M.view.ty.Contents Val)
    (G : Fin 4 → (One a b).Idx → Val e) {x : (Big a b).Idx} (hx : x ∈ slotI a b k) :
    M.view.read Val ((M.access (slotR off inb)).write Val f (G k) Finset.univ) x = glue G x := by
  have h := View.read_slice_write_emb (v := M.view) (Val := Val) (slotR off inb) f (G k) (M := Finset.univ) (x := drop x) (Finset.mem_univ _)
  rw [emb_drop ho hx] at h
  refine h.trans ?_
  unfold glue
  rw [mem_slotI.mp hx]

/-- What a transfer of slot `k₁` of one buffer into slot `k₂` of another leaves there. -/
theorem copy_slot {κ' : Kind} {sp' : Space} {off' : Fin 3 → ℕ} {inb' : ∀ x, off' x + (One a b).size x ≤ (Big a b).size x} {k₂ : Fin 4}
    (M : Memref sig κ sp (Big a b) e) (M' : Memref sig κ' sp' (Big a b) e) (hq hq' : (One a b).Squeezes (Flat a b))
    (ho : off = ![k.val, 0, 0]) (ho' : off' = ![k₂.val, 0, 0])
    (f : M.view.ty.Contents Val) (fd : M'.view.ty.Contents Val) (G H : Fin 4 → (One a b).Idx → Val e)
    (hf : M.view.read Val f = glue G) (hGH : G k = H k₂) {x : (Big a b).Idx} (hx : x ∈ slotI a b k₂) :
    M'.view.read Val ((slotM M' off' inb' hq').view.write Val fd ((slotM M off inb hq).view.read Val f) Finset.univ) x = glue H x := by
  obtain ⟨y, hy⟩ : ∃ y : (Flat a b).Idx, Shape.reshapeEquiv hq'.numel_eq y = drop x :=
    ⟨(Shape.reshapeEquiv hq'.numel_eq).symm (drop x), Equiv.apply_symm_apply _ _⟩
  have hx' : x = (slotR off' inb').emb (Shape.reshapeEquiv hq'.numel_eq y) := by rw [hy, emb_drop ho' hx]
  have h1 := View.read_write_of_mem (v := (slotM M' off' inb' hq').view) (Val := Val) fd ((slotM M off inb hq).view.read Val f)
    (M := Finset.univ) (x := y) (Finset.mem_univ _)
  have h2 : (slotM M off inb hq).view.read Val f y = glue H x := by
    show M.view.read Val f ((slotR off inb).emb (Shape.reshapeEquiv hq.numel_eq y)) = _
    rw [hf, glue_emb G ho, hGH, show Shape.reshapeEquiv hq.numel_eq y = drop x from hy]
    unfold glue
    rw [mem_slotI.mp hx]
  rw [← h2, ← h1, hx']
  rfl

end

end Cert.KP
-- ==== Proof.Vals.lean ====
/-
# `Vals`: what each buffer of the run holds

The kernel's own stored values, as functions of what the group's devices were given: the gathered tokens and router
columns, the packed gates, the contribution a device computes for a member of its group, and the final block.
-/
module

public import proofs.«01_k».proof.Proof.Slots

@[expose] public section

noncomputable section

namespace Cert.KP

open Cert.KernelIdeal Cert.KernelIdeal.Gen
open Idealize.ShloMosaic
open Idealize.ShloMosaic.TcCoe

variable {F : FTy → Type} [FloatOps F]

/-! ## The buffers -/

abbrev xM : Memref sig .tc .vmem S128x512 .f32 := Memref.whole cc0_stg0_0
abbrev rtM : Memref sig .tc .vmem S512x2 .f32 := Memref.whole cc0_stg1_0
abbrev oM : Memref sig .tc .vmem S128x512 .f32 := Memref.whole cc0_stg2_0
abbrev xgM : Memref sig .tc .vmem S4x128x512 .bf16 := Memref.whole cc0_scratch0
abbrev rgM : Memref sig .tc .vmem S4x2x512 .f32 := Memref.whole cc0_scratch1
abbrev pyM : Memref sig .tc .vmem S4x128x8 .f32 := Memref.whole cc0_scratch2
abbrev cbM : Memref sig .tc .vmem S4x128x512 .bf16 := Memref.whole cc0_scratch3
abbrev rbM : Memref sig .tc .vmem S4x128x512 .bf16 := Memref.whole cc0_scratch4
abbrev w1M : Memref sig .tc .vmem S2x512x1024 .f32 := Memref.whole cc0_scratch5
abbrev w2M : Memref sig .tc .vmem S2x1024x512 .f32 := Memref.whole cc0_scratch6
abbrev W1M : Memref sig .tc .hbm S2x512x1024 .f32 := Memref.whole main_arg2
abbrev W2M : Memref sig .tc .hbm S2x1024x512 .f32 := Memref.whole main_arg3

/-- Expert `i`'s first weights, as the kernel loads them. -/
def w1s (W : (cc0_scratch5 : Ref sig .tc).ty.Contents (Elt F)) : Fin 2 → Vec F S1x512x1024 .f32 := fun
  | 0 => w1M.view.readAt (Elt F) (Rect.unit (s := S2x512x1024) ![0, 0, 0] S1x512x1024.size inb_S2x512x1024_S1x512x1024_0_0_0).toLoadRect W
  | 1 => w1M.view.readAt (Elt F) (Rect.unit (s := S2x512x1024) ![1, 0, 0] S1x512x1024.size inb_S2x512x1024_S1x512x1024_1_0_0).toLoadRect W

/-- Expert `i`'s second weights, as the kernel loads them. -/
def w2s (W : (cc0_scratch6 : Ref sig .tc).ty.Contents (Elt F)) : Fin 2 → Vec F S1x1024x512 .f32 := fun
  | 0 => w2M.view.readAt (Elt F) (Rect.unit (s := S2x1024x512) ![0, 0, 0] S1x1024x512.size inb_S2x1024x512_S1x1024x512_0_0_0).toLoadRect W
  | 1 => w2M.view.readAt (Elt F) (Rect.unit (s := S2x1024x512) ![1, 0, 0] S1x1024x512.size inb_S2x1024x512_S1x1024x512_1_0_0).toLoadRect W

/-! ## The kernel's values -/

/-- The word the kernel holds for its place in the group. -/
def yw (c : Dev nD) : BitVec 32 := Scalar.remsi (Scalar.divsi (Dev.word c) 4#32) 4#32

/-- The packed gates of a block of tokens `x` under the four pairs of router columns `g`. -/
def gates (x : Vec F S128x512 .f32) (g : Fin 4 → Vec F S1x2x512 .f32) : FVec F S1x128x8 .f32 :=
  have v262 : FVec F S128x512 .f32 := k0_pay3 x
  have v263 : FVec F S128x1 .f32 := k0_pay4
  have v265 : IVec S128x1 32 := k0_pay6
  have v269 : FVec F S128x2 .f32 := k0_pay7 x (g 0)
  have v270 : FVec F S128x1 .f32 := k0_pay8 x (g 0)
  have v271 : IVec S128x1 1 := k0_pay9 x (g 0)
  have v274 : FVec F S128x1 .f32 := k0_pay11 x (g 0)
  have v276 : IVec S128x1 32 := k0_pay12 x (g 0)
  have v310 : FVec F S128x1 .f32 := k0_pay31 v262 v263 v269 v270 v271 v274 (g 1)
  have v313 : IVec S128x1 32 := k0_pay32 v262 v263 v265 v269 v270 v271 v274 v276 (g 1)
  have v314 : FVec F S128x1 .f32 := k0_pay33 v262 v263 v269 v270 v271 (g 1)
  have v316 : IVec S128x1 32 := k0_pay34 v262 v263 v265 v269 v270 v271 (g 1)
  have v319 : FVec F S128x2 .f32 := k0_pay35 v262 (g 2)
  have v320 : FVec F S128x1 .f32 := k0_pay36 v262 (g 2)
  have v321 : IVec S128x1 1 := k0_pay37 v262 v263 v269 v270 v271 (g 1) (g 2)
  have v363 : IVec S128x1 32 := k0_pay58 v262 v310 v313 v314 v316 v319 v320 v321 (g 3)
  have v366 : IVec S128x1 32 := k0_pay59 v262 v314 v316 v319 v320 v321 (g 3)
  have v368 : FVec F S128x1 .f32 := k0_pay60 v262 v310 v314 v319 v320 v321 (g 3)
  k0_pay61 v363 v366 v368 (Scalar.ofBits .f32 0x3F800000#32)

/-- What a device at the place `y` with weights `w1`, `w2` adds for tokens `x` with packed gates `p`, as stored. -/
def share (y : BitVec 32) (w1 : Fin 2 → Vec F S1x512x1024 .f32) (w2 : Fin 2 → Vec F S1x1024x512 .f32)
    (x : Vec F S1x128x512 .bf16) (p : Vec F S1x128x8 .f32) : FVec F S1x128x512 .bf16 :=
  k0_pay78 y (k0_pay76 x (w1 0) (w2 0)) (k0_pay77 x (w1 1) (w2 1)) p

/-- The same for the device's own tokens, kept unrounded. -/
def own (y : BitVec 32) (w1 : Fin 2 → Vec F S1x512x1024 .f32) (w2 : Fin 2 → Vec F S1x1024x512 .f32)
    (x : Vec F S1x128x512 .bf16) (p : Vec F S1x128x8 .f32) : FVec F S128x512 .f32 :=
  k0_pay74 y (k0_pay64 (k0_pay63 x) (w1 0) (w2 0)) (k0_pay65 (k0_pay62 x) (w1 1) (w2 1)) (k0_pay67 p) (k0_pay68 p) (k0_pay69 p)
    (k0_pay70 p) k0_pay71 (k0_pay72 y p) (k0_pay73 y p)

theorem share_two (y : BitVec 32) (w1 : Fin 2 → Vec F S1x512x1024 .f32) (w2 : Fin 2 → Vec F S1x1024x512 .f32)
    (x : Vec F S1x128x512 .bf16) (p : Vec F S1x128x8 .f32) :
    k0_pay83 (k0_pay82 y (k0_pay80 x (w1 0) (w2 0)) (k0_pay81 x (w1 1) (w2 1)) p) = share y w1 w2 x p := rfl
theorem share_three (y : BitVec 32) (w1 : Fin 2 → Vec F S1x512x1024 .f32) (w2 : Fin 2 → Vec F S1x1024x512 .f32)
    (x : Vec F S1x128x512 .bf16) (p : Vec F S1x128x8 .f32) :
    k0_pay88 (k0_pay87 y (k0_pay85 x (w1 0) (w2 0)) (k0_pay86 x (w1 1) (w2 1)) p) = share y w1 w2 x p := rfl

/-! ## What the buffers hold -/

section
variable (m : (ℓ : Loc nD τ sig) → Buf (Elt F) ℓ)

/-- A device's tokens, its router columns, its weights. -/
def X (c : Dev nD) : (cc0_stg0_0 : Ref sig .tc).ty.Contents (Elt F) :=
  (win0_0.blk (0 : Fin 1)).view.read (Elt F) (m ((c : Thread nD τ).loc main_arg0))
def R (c : Dev nD) : (cc0_stg1_0 : Ref sig .tc).ty.Contents (Elt F) :=
  (win0_1.blk (0 : Fin 1)).view.read (Elt F) (m ((c : Thread nD τ).loc main_arg1))
def W1 (c : Dev nD) : (cc0_scratch5 : Ref sig .tc).ty.Contents (Elt F) := m ((c : Thread nD τ).loc main_arg2)
def W2 (c : Dev nD) : (cc0_scratch6 : Ref sig .tc).ty.Contents (Elt F) := m ((c : Thread nD τ).loc main_arg3)

/-- Slot `k` of the gathered tokens, router columns and packed gates: member `k`'s. -/
def xG (c : Dev nD) (k : Fin 4) : Vec F S1x128x512 .bf16 := k0_pay2 (X m (at' c k))
def rG (c : Dev nD) (k : Fin 4) : Vec F S1x2x512 .f32 := k0_pay1 (R m (at' c k))
def pG (c : Dev nD) (k : Fin 4) : Vec F S1x128x8 .f32 := gates (X m (at' c k)) (rG m c)
/-- What `c` adds for member `b`. -/
def cG (c : Dev nD) (b : Fin 4) : Vec F S1x128x512 .bf16 := share (yw c) (w1s (W1 m c)) (w2s (W2 m c)) (xG m c b) (pG m c b)
/-- What member `k` adds for `c`. -/
def bG (c : Dev nD) (k : Fin 4) : Vec F S1x128x512 .bf16 := cG m (at' c k) (yc c)

/-- A device's own part. -/
def ownAt (c : Dev nD) : FVec F S128x512 .f32 := own (yw c) (w1s (W1 m c)) (w2s (W2 m c)) (xG m c (yc c)) (pG m c (yc c))
/-- A device's result. -/
def outAt (c : Dev nD) : (cc0_stg2_0 : Ref sig .tc).ty.Contents (Elt F) :=
  k0_pay90 (k0_pay89 (ownAt m c) (bG m c (sl c 2))) (bG m c (sl c 1)) (bG m c (sl c 0))

/-- The buffers' contents whole. -/
def xgF (c : Dev nD) : (cc0_scratch0 : Ref sig .tc).ty.Contents (Elt F) := glue (a := 128) (b := 512) (xG m c)
def rgF (c : Dev nD) : (cc0_scratch1 : Ref sig .tc).ty.Contents (Elt F) := glue (a := 2) (b := 512) (rG m c)
def pyF (c : Dev nD) : (cc0_scratch2 : Ref sig .tc).ty.Contents (Elt F) := glue (a := 128) (b := 8) (pG m c)
def cbF (c : Dev nD) : (cc0_scratch3 : Ref sig .tc).ty.Contents (Elt F) := glue (a := 128) (b := 512) (cG m c)
def rbF (c : Dev nD) : (cc0_scratch4 : Ref sig .tc).ty.Contents (Elt F) := glue (a := 128) (b := 512) (bG m c)

omit [FloatOps F] in
theorem at_nb' (c : Dev nD) (r : Fin 3) : at' (nb c r) = at' c := funext fun k => at_nb c r k

theorem xG_nb (c : Dev nD) (r : Fin 3) : xG m (nb c r) = xG m c := by funext k; unfold xG; rw [at_nb]
theorem rG_nb (c : Dev nD) (r : Fin 3) : rG m (nb c r) = rG m c := by funext k; unfold rG; rw [at_nb]
theorem pG_nb (c : Dev nD) (r : Fin 3) : pG m (nb c r) = pG m c := by funext k; unfold pG; rw [at_nb, rG_nb]
theorem bG_nb (c : Dev nD) (r : Fin 3) : bG m (nb c r) (yc c) = cG m c (sl c r) := by
  unfold bG; rw [at_nb, at_yc, yc_nb]

end

end Cert.KP
-- ==== Proof.Sched.lean ====
/-
# `Sched`: the protocol of one group, as rounds

Every device has one barrier cell, two cells for its weight copies, and for each of the four exchanges (tokens `0`,
router columns `1`, packed gates `2`, contributions `3`) three send cells and four receive cells, one receive cell for
each member of its group. All live for one round. The barrier cell has three duties, one paid by each other member
of the group, who hands over its four landing slots for this device; a send or copy cell has one duty; a receive cell
one, but the cell for the device itself none.
-/
module

public import proofs.«01_k».proof.Proof.Vals

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The kinds of cell a device has. -/
inductive CK
  | bar
  | w (k : Fin 2)
  | ss (j : Fin 4) (k : Fin 3)
  | rs (j : Fin 4) (k : Fin 4)
  deriving DecidableEq

/-- The kinds, counted: the barrier, the copies, the sends, the receives. -/
def ckEquiv : CK ≃ (Unit ⊕ Fin 2) ⊕ (Fin 4 × Fin 3) ⊕ (Fin 4 × Fin 4) where
  toFun k := match k with
    | .bar => .inl (.inl ())
    | .w k => .inl (.inr k)
    | .ss j k => .inr (.inl (j, k))
    | .rs j k => .inr (.inr (j, k))
  invFun s := match s with
    | .inl (.inl _) => .bar
    | .inl (.inr k) => .w k
    | .inr (.inl p) => .ss p.1 p.2
    | .inr (.inr p) => .rs p.1 p.2
  left_inv k := by cases k <;> rfl
  right_inv s := by rcases s with (s | s) | (s | s) <;> rfl

instance : Fintype CK := Fintype.ofEquiv _ ckEquiv.symm

/-- The runtime's barrier semaphore. -/
abbrev barS : Sem sig := (SemArray.scalar (sig.barrier 0 rfl) : Sems sig S_).sem

set_option backward.proofsInPublic true in
/-- The semaphore of a cell. -/
def semOf : CK → SemLoc sig
  | .bar => .reg barS
  | .w k => .dma ⟨31 + k.val, by have := k.isLt; show 31 + k.val < 33; omega⟩
  | .ss j k => .dma ⟨3 + 7 * j.val + k.val, by have := k.isLt; have := j.isLt; show 3 + 7 * j.val + k.val < 33; omega⟩
  | .rs j k => .dma ⟨6 + 7 * j.val + k.val, by have := k.isLt; have := j.isLt; show 6 + 7 * j.val + k.val < 33; omega⟩

set_option backward.proofsInPublic true in
/-- The cell of a semaphore, if it is one of the exchange's. -/
def ckOf : SemLoc sig → Option CK
  | .reg _ => some .bar
  | .dma q =>
      if q.val < 3 then none
      else if q.val < 31 then
        (if (q.val - 3) % 7 < 3 then some (.ss ⟨(q.val - 3) / 7 % 4, Nat.mod_lt _ (by decide)⟩ ⟨(q.val - 3) % 7 % 3, Nat.mod_lt _ (by decide)⟩)
         else some (.rs ⟨(q.val - 3) / 7 % 4, Nat.mod_lt _ (by decide)⟩ ⟨((q.val - 3) % 7 - 3) % 4, Nat.mod_lt _ (by decide)⟩))
      else some (.w ⟨(q.val - 31) % 2, Nat.mod_lt _ (by decide)⟩)

theorem ckOf_semOf (k : CK) : ckOf (semOf k) = some k := by
  cases k with
  | bar => rfl
  | w k => revert k; decide
  | ss j k => revert j k; decide
  | rs j k => revert j k; decide

theorem semOf_inj {k l : CK} (h : semOf k = semOf l) : k = l := by
  have := congrArg ckOf h
  rw [ckOf_semOf, ckOf_semOf] at this
  exact Option.some.inj this

/-- Device `c`'s cell of kind `k`. -/
abbrev cell (c : Dev nD) (k : CK) : GSem nD τ sig := ((c : Thread nD τ), semOf k)

/-! ## The amounts -/

/-- The credit of one slot's transfer. -/
def slotN (j : Fin 4) : ℕ := match j with
  | 0 => ((xgM.slice (Rect.unit (s := S4x128x512) ![0, 0, 0] S1x128x512.size (by decide)) (fun _ => rfl)).squeeze S128x512 squeezes_S1x128x512_S128x512).view.dmaCredit
  | 1 => ((rgM.slice (Rect.unit (s := S4x2x512) ![0, 0, 0] S1x2x512.size (by decide)) (fun _ => rfl)).squeeze S2x512 squeezes_S1x2x512_S2x512).view.dmaCredit
  | 2 => ((pyM.slice (Rect.unit (s := S4x128x8) ![0, 0, 0] S1x128x8.size (by decide)) (fun _ => rfl)).squeeze S128x8 squeezes_S1x128x8_S128x8).view.dmaCredit
  | 3 => ((rbM.slice (Rect.unit (s := S4x128x512) ![0, 0, 0] S1x128x512.size (by decide)) (fun _ => rfl)).squeeze S128x512 squeezes_S1x128x512_S128x512).view.dmaCredit

/-- The amount of a duty. -/
def amt : CK → ℕ
  | .bar => 1
  | .w k => match k with | 0 => w1M.view.dmaCredit | 1 => w2M.view.dmaCredit
  | .ss j _ => slotN j
  | .rs j _ => slotN j

theorem amt_pos (k : CK) : 0 < amt k := by
  cases k with
  | bar => exact Nat.one_pos
  | w k => fin_cases k <;> exact View.dmaCredit_pos _ (by decide)
  | ss j k => fin_cases j <;> exact View.dmaCredit_pos _ (by decide)
  | rs j k => fin_cases j <;> exact View.dmaCredit_pos _ (by decide)

/-! ## The payloads -/

/-- One slot of a buffer of device `c`, at a share and contents. -/
def xgS (c : Dev nD) (k : Fin 4) (q : PosShare TreeShare) (f : Buf (Elt F) (xgM.view.loc (c : Thread nD τ))) : sProp 𝕄 :=
  (xgM.view.loc (c : Thread nD τ) ↦[xgM.view.setOn (slotI 128 512 k)]{q} f)
def rgS (c : Dev nD) (k : Fin 4) (q : PosShare TreeShare) (f : Buf (Elt F) (rgM.view.loc (c : Thread nD τ))) : sProp 𝕄 :=
  (rgM.view.loc (c : Thread nD τ) ↦[rgM.view.setOn (slotI 2 512 k)]{q} f)
def pyS (c : Dev nD) (k : Fin 4) (q : PosShare TreeShare) (f : Buf (Elt F) (pyM.view.loc (c : Thread nD τ))) : sProp 𝕄 :=
  (pyM.view.loc (c : Thread nD τ) ↦[pyM.view.setOn (slotI 128 8 k)]{q} f)
def cbS (c : Dev nD) (k : Fin 4) (q : PosShare TreeShare) (f : Buf (Elt F) (cbM.view.loc (c : Thread nD τ))) : sProp 𝕄 :=
  (cbM.view.loc (c : Thread nD τ) ↦[cbM.view.setOn (slotI 128 512 k)]{q} f)
def rbS (c : Dev nD) (k : Fin 4) (q : PosShare TreeShare) (f : Buf (Elt F) (rbM.view.loc (c : Thread nD τ))) : sProp 𝕄 :=
  (rbM.view.loc (c : Thread nD τ) ↦[rbM.view.setOn (slotI 128 512 k)]{q} f)

omit [FloatOps F] in
instance xgS_storable (c : Dev nD) (k q f) : BI.Storable (upEmb : UEmb _ 𝕄) (xgS (F := F) c k q f) := by unfold xgS; infer_instance
omit [FloatOps F] in
instance rgS_storable (c : Dev nD) (k q f) : BI.Storable (upEmb : UEmb _ 𝕄) (rgS (F := F) c k q f) := by unfold rgS; infer_instance
omit [FloatOps F] in
instance pyS_storable (c : Dev nD) (k q f) : BI.Storable (upEmb : UEmb _ 𝕄) (pyS (F := F) c k q f) := by unfold pyS; infer_instance
omit [FloatOps F] in
instance cbS_storable (c : Dev nD) (k q f) : BI.Storable (upEmb : UEmb _ 𝕄) (cbS (F := F) c k q f) := by unfold cbS; infer_instance
omit [FloatOps F] in
instance rbS_storable (c : Dev nD) (k q f) : BI.Storable (upEmb : UEmb _ 𝕄) (rbS (F := F) c k q f) := by unfold rbS; infer_instance

/-- The share of its own slot a device lends its send `k`. -/
abbrev lend (k : Fin 3) : PosShare TreeShare := Transfers.shareTok fullShare 3 k
/-- The share it keeps. -/
abbrev keep : PosShare TreeShare := Transfers.shareDrop fullShare 3

/-- What a member `p` of `c`'s group hands `c` at the barrier: its four landing slots for `c`. -/
def barPay (c p : Dev nD) : sProp 𝕄 :=
  iprop((∃ f, rgS p (yc c) fullShare f) ∗ (∃ f, xgS p (yc c) fullShare f) ∗ (∃ f, pyS p (yc c) fullShare f) ∗ (∃ f, rbS p (yc c) fullShare f))

section
variable (m : (ℓ : Loc nD τ sig) → Buf (Elt F) ℓ)

/-- The weights' arrays, whole at their launched contents. -/
def W1Pts (c : Dev nD) : sProp 𝕄 := (W1M.view.loc (c : Thread nD τ) ↦[W1M.view.set]{fullShare} m ((c : Thread nD τ).loc main_arg2))
def W2Pts (c : Dev nD) : sProp 𝕄 := (W2M.view.loc (c : Thread nD τ) ↦[W2M.view.set]{fullShare} m ((c : Thread nD τ).loc main_arg3))
/-- Their copies in the scratch buffers. -/
def w1Pts (c : Dev nD) (f : Buf (Elt F) (w1M.view.loc (c : Thread nD τ))) : sProp 𝕄 := (w1M.view.loc (c : Thread nD τ) ↦[w1M.view.set]{fullShare} f)
def w2Pts (c : Dev nD) (f : Buf (Elt F) (w2M.view.loc (c : Thread nD τ))) : sProp 𝕄 := (w2M.view.loc (c : Thread nD τ) ↦[w2M.view.set]{fullShare} f)

omit [FloatOps F] in
instance W1Pts_storable (c : Dev nD) : BI.Storable (upEmb : UEmb _ 𝕄) (W1Pts m c) := by unfold W1Pts; infer_instance
omit [FloatOps F] in
instance W2Pts_storable (c : Dev nD) : BI.Storable (upEmb : UEmb _ 𝕄) (W2Pts m c) := by unfold W2Pts; infer_instance
omit [FloatOps F] in
instance w1Pts_storable (c : Dev nD) (f) : BI.Storable (upEmb : UEmb _ 𝕄) (w1Pts (F := F) c f) := by unfold w1Pts; infer_instance
omit [FloatOps F] in
instance w2Pts_storable (c : Dev nD) (f) : BI.Storable (upEmb : UEmb _ 𝕄) (w2Pts (F := F) c f) := by unfold w2Pts; infer_instance

/-- What completing send `k` of exchange `j` gives back. -/
def ssPay (c : Dev nD) (j : Fin 4) (k : Fin 3) : sProp 𝕄 := match j with
  | 0 => xgS c (yc c) (lend k) (xgF m c)
  | 1 => rgS c (yc c) (lend k) (rgF m c)
  | 2 => pyS c (yc c) (lend k) (pyF m c)
  | 3 => cbS c (sl c k) fullShare (cbF m c)

/-- What the arrival from member `k` in exchange `j` brings. -/
def rsPay (c : Dev nD) (j : Fin 4) (k : Fin 4) : sProp 𝕄 := match j with
  | 0 => xgS c k fullShare (xgF m c)
  | 1 => rgS c k fullShare (rgF m c)
  | 2 => pyS c k fullShare (pyF m c)
  | 3 => rbS c k fullShare (rbF m c)

/-- What a weight copy brings. -/
def wPay (c : Dev nD) (k : Fin 2) : sProp 𝕄 := match k with
  | 0 => iprop(w1Pts c (W1 m c) ∗ W1Pts m c)
  | 1 => iprop(w2Pts c (W2 m c) ∗ W2Pts m c)

def pay (c : Dev nD) (d : Fin 3) : CK → sProp 𝕄
  | .bar => barPay c (nb c d)
  | .w k => wPay m c k
  | .ss j k => ssPay m c j k
  | .rs j k => rsPay m c j k

instance pay_storable (c : Dev nD) (d : Fin 3) (k : CK) : BI.Storable (upEmb : UEmb _ 𝕄) (pay m c d k) := by
  cases k with
  | bar => show BI.Storable _ (barPay _ _); unfold barPay; infer_instance
  | w k => fin_cases k <;> (show BI.Storable _ iprop(_ ∗ _); infer_instance)
  | ss j k =>
    fin_cases j
    · show BI.Storable _ (xgS _ _ _ _); infer_instance
    · show BI.Storable _ (rgS _ _ _ _); infer_instance
    · show BI.Storable _ (pyS _ _ _ _); infer_instance
    · show BI.Storable _ (cbS _ _ _ _); infer_instance
  | rs j k =>
    fin_cases j
    · show BI.Storable _ (xgS _ _ _ _); infer_instance
    · show BI.Storable _ (rgS _ _ _ _); infer_instance
    · show BI.Storable _ (pyS _ _ _ _); infer_instance
    · show BI.Storable _ (rbS _ _ _ _); infer_instance

/-- The duties of a cell's one round. -/
def dut (c : Dev nD) : CK → Finset (Fin 3)
  | .bar => Finset.univ
  | .w _ => {0}
  | .ss _ _ => {0}
  | .rs _ k => if k = yc c then ∅ else {0}

/-- The schedule. -/
def Rd : Rounds.Schedule (GSem nD τ sig) (Fin 3) 𝕄 where
  duties g r := if r = 0 ∧ g.1.2 = .tc then (match ckOf g.2 with | none => ∅ | some k => dut g.1.1 k) else ∅
  unitless _ := False
  amount g _ _ := match ckOf g.2 with | none => 1 | some k => amt k
  payload g _ d := match ckOf g.2 with | none => iprop(emp) | some k => pay m g.1.1 d k
  amount_pos g _ _ _ := by
    split
    · exact Nat.one_pos
    · exact amt_pos _

instance Rd_storable (g : GSem nD τ sig) (r : ℕ) (d : Fin 3) :
    BI.Storable (upEmb : UEmb _ 𝕄) ((Rd (F := F) m).payload g r d) := by
  dsimp only [Rd]
  split <;> infer_instance

theorem duties_cell (c : Dev nD) (k : CK) : (Rd (F := F) m).duties (cell c k) 0 = dut c k := by
  dsimp only [Rd]; rw [if_pos ⟨rfl, rfl⟩, ckOf_semOf]
theorem duties_later (g : GSem nD τ sig) : ∀ r, 1 ≤ r → (Rd (F := F) m).duties g r = ∅ :=
  fun r hr => by dsimp only [Rd]; rw [if_neg fun h => by omega]
theorem duties_none (c : Dev nD) (j : Fin 4) : ∀ r, 0 ≤ r → (Rd (F := F) m).duties (cell c (.rs j (yc c))) r = ∅ := by
  intro r _
  rcases Nat.eq_zero_or_pos r with rfl | h
  · rw [duties_cell]; exact if_pos rfl
  · exact duties_later m _ r h
theorem amount_cell (c : Dev nD) (k : CK) (r d) : (Rd (F := F) m).amount (cell c k) r d = amt k := by
  dsimp only [Rd]; rw [ckOf_semOf]
theorem payload_cell (c : Dev nD) (k : CK) (r d) : (Rd (F := F) m).payload (cell c k) r d = pay m c d k := by
  dsimp only [Rd]; rw [ckOf_semOf]

theorem expect_one (c : Dev nD) (k : CK) (h : dut c k = {0}) : (Rd (F := F) m).expect (cell c k) 0 = amt k := by
  unfold Schedule.expect Schedule.amountOf; rw [duties_cell, h, Finset.sum_singleton, amount_cell]
theorem expect_bar (c : Dev nD) : (Rd (F := F) m).expect (cell c .bar) 0 = 3 := by
  unfold Schedule.expect Schedule.amountOf
  rw [duties_cell, show dut c .bar = Finset.univ from rfl, Finset.sum_congr rfl fun d _ => amount_cell m c .bar 0 d, Finset.sum_const]
  decide
theorem rest_one (c : Dev nD) (k : CK) (h : dut c k = {0}) :
    bigSep ((Rd (F := F) m).duties (cell c k) 0 \ ∅) (fun d => (Rd (F := F) m).payload (cell c k) 0 d) = pay m c 0 k := by
  rw [Finset.sdiff_empty, duties_cell, h, bigSep_singleton, payload_cell]
theorem rest_bar (c : Dev nD) :
    bigSep ((Rd (F := F) m).duties (cell c .bar) 0 \ ∅) (fun d => (Rd (F := F) m).payload (cell c .bar) 0 d)
      = iprop(barPay c (nb c 0) ∗ barPay c (nb c 1) ∗ barPay c (nb c 2)) := by
  rw [Finset.sdiff_empty, duties_cell, show dut c .bar = Finset.univ from rfl,
    bigSep_univ_eq_bigSepL [0, 1, 2] (by decide) (by decide), bigSepL_cons_cons, bigSepL_cons_cons, bigSepL_singleton,
    payload_cell, payload_cell, payload_cell]
  rfl
theorem dut_rs (c : Dev nD) (j : Fin 4) (r : Fin 3) : dut c (.rs j (sl c r)) = {0} := if_neg (sl_ne c r)

end

/-! ## What a device owes; the levels -/

/-- What is owed to the cells of a list, one duty's amount each, the first to be paid first. -/
def sumL : List (Dev nD × CK) → CellTallies nD τ sig Unit
  | [] => 0
  | p :: t => sumL t + tallyAt (cell p.1 p.2) () (amt p.2)

/-- The level of a kind of cell: a device waiting on a cell owes only to cells of greater level. -/
def lvK : CK → ℕ
  | .bar => 1
  | .w _ => 0
  | .ss _ _ => 0
  | .rs j _ => match j with | 0 => 3 | 1 => 2 | 2 => 3 | 3 => 4

def L (g : GSem nD τ sig) : Finset Unit := if g.1.2 = .tc then {()} else ∅
def lv (g : GSem nD τ sig) (_ : Unit) : ℕ := match ckOf g.2 with | none => 0 | some k => lvK k

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = lvK k := by unfold lv; rw [ckOf_semOf]

theorem sumL_pos {l : List (Dev nD × CK)} {g : GSem nD τ sig} {u : Unit} (h : 0 < sumL l g u) : ∃ p ∈ l, g = cell p.1 p.2 := by
  induction l with
  | nil => exact absurd h (Nat.lt_irrefl 0)
  | cons p t ih =>
    unfold sumL at h
    rw [Pi.add_apply, Finsupp.add_apply] at h
    by_cases ht : 0 < sumL t g u
    · obtain ⟨q, hq, rfl⟩ := ih ht
      exact ⟨q, List.mem_cons_of_mem _ hq, rfl⟩
    · refine ⟨p, List.mem_cons_self, ?_⟩
      by_contra hn
      rw [tallyAt_apply, if_neg (fun h' => hn h'.1)] at h
      omega

omit [FloatOps F] in
/-- A device may wait at a level while all it owes is above. -/
theorem mayWait_list (c : Dev nD) (sm : SemLoc sig) (n : ℕ) (hn : lv ((c : Thread nD τ), sm) () = n)
    (l : List (Dev nD × CK)) (h : ∀ p ∈ l, n < lvK p.2) :
    (levAts L lv : sProp 𝕄) ⊢ (MayWait (c : Thread nD τ) sm () (sumL l) : sProp 𝕄) :=
  MayOwe.of_cut (L := L) (lev := lv) n (fun p hp => by rw [Finset.mem_singleton.mp hp, L_tc]; exact Finset.mem_singleton_self _)
    (fun g u hg => by obtain ⟨p, hp, rfl⟩ := sumL_pos hg; rw [L_tc]; exact Finset.mem_singleton_self _)
    (fun p hp => by rw [Finset.mem_singleton.mp hp, hn])
    (fun g u hg => by obtain ⟨p, hp, rfl⟩ := sumL_pos hg; rw [lv_cell]; exact h p hp)

/-- The payments of device `c`, in program order. -/
def owedL (c : Dev nD) : List (Dev nD × CK) :=
  [(nb c 0, .bar), (nb c 1, .bar), (nb c 2, .bar),
   (nb c 0, .rs 1 (yc c)), (nb c 1, .rs 1 (yc c)), (nb c 2, .rs 1 (yc c)),
   (nb c 2, .rs 0 (yc c)),
   (nb c 2, .rs 2 (yc c)), (nb c 1, .rs 2 (yc c)), (nb c 0, .rs 2 (yc c)),
   (nb c 1, .rs 0 (yc c)), (nb c 0, .rs 0 (yc c)),
   (nb c 0, .rs 3 (yc c)), (nb c 1, .rs 3 (yc c)), (nb c 2, .rs 3 (yc c))]

/-- What remains after `i` payments. -/
def O (c : Dev nD) (i : ℕ) : CellTallies nD τ sig Unit := sumL ((owedL c).drop i)

end Cert.KP
-- ==== Proof.Steps.lean ====
/-
# `Steps`: each kind of operation of the body, once

A wait on a cell of one duty, the two weight copies, a signal to a member of the group, a transfer of each exchange,
and loads and stores of one slot. What a device still owes is `O c i` after `i` payments of its list.
-/
module

public import proofs.«01_k».proof.Proof.Sched

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- Running a program on core `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section
variable (m : (ℓ : Loc nD τ sig) → Buf (Elt F) ℓ) (K : Dev nD × CK → ℕ)

/-- What every device knows: every cell's invariant, that each is at its round, and the levels. -/
def base : sProp 𝕄 :=
  iprop((bigSep Finset.univ fun p : Dev nD × CK => cellInv ER (Rd m) (K p) (cell p.1 p.2))
    ∗ (bigSep Finset.univ fun p : Dev nD × CK => reached ER (cell p.1 p.2) 0) ∗ levAts L lv)

instance base_persistent : BI.Persistent (base m K) := by unfold base; infer_instance

theorem inv_at (p : Dev nD × CK) : base m K ⊢ (cellInv ER (Rd m) (K p) (cell p.1 p.2) : sProp 𝕄) := by
  unfold base; iintro ⟨H, -, -⟩
  iapply (show (bigSep Finset.univ fun p : Dev nD × CK => (cellInv ER (Rd m) (K p) (cell p.1 p.2) : sProp 𝕄)) ⊢ _ from bigSep_elim (Finset.mem_univ p)); iexact H
theorem reached_at (p : Dev nD × CK) : base m K ⊢ (reached ER (cell p.1 p.2) 0 : sProp 𝕄) := by
  unfold base; iintro ⟨-, H, -⟩
  iapply (show (bigSep Finset.univ fun p : Dev nD × CK => (reached ER (cell p.1 p.2) 0 : sProp 𝕄)) ⊢ _ from bigSep_elim (Finset.mem_univ p)); iexact H
theorem lev_at : base m K ⊢ (levAts L lv : sProp 𝕄) := by unfold base; iintro ⟨-, -, H⟩; iexact H

end

/-- A device at round 0 of a cell of its own. -/
def at0 (c : Dev nD) (k : CK) : sProp 𝕄 := atPos ER (cell c k) 0 ∅ 0
/-- A cell's counter at zero, the cell done. -/
def zero (c : Dev nD) (k : CK) : sProp 𝕄 := semVal (cell c k) 0
/-- The token of a duty. -/
def tk (c : Dev nD) (k : CK) (d : Fin 3) : sProp 𝕄 := dutyTok ER (cell c k) 0 d
/-- The credit a wait spends. -/
def cr (c : Dev nD) (k : CK) : sProp 𝕄 := cred (tallyAt (cell c k) () (amt k))
/-- What a device owes after `i` payments. -/
def ow (c : Dev nD) (i : ℕ) : sProp 𝕄 := iprop(∃ W, owes (c : Thread nD τ) (O c i) W)

/-- The levels of the payments, in order. -/
theorem lev_list (c : Dev nD) : (owedL c).map (fun p => lvK p.2) = [1, 1, 1, 2, 2, 2, 3, 3, 3, 3, 3, 3, 4, 4, 4] := rfl

theorem lev_above (c : Dev nD) (i n : ℕ) (h : ∀ a ∈ [1, 1, 1, 2, 2, 2, 3, 3, 3, 3, 3, 3, 4, 4, 4].drop i, n < a) :
    ∀ p ∈ (owedL c).drop i, n < lvK p.2 := by
  intro p hp
  refine h _ ?_
  rw [← lev_list c, ← List.map_drop]
  exact List.mem_map_of_mem (f := fun p : Dev nD × CK => lvK p.2) hp

section
variable (m : (ℓ : Loc nD τ sig) → Buf (Elt F) ℓ) (K : Dev nD × CK → ℕ)

set_option maxRecDepth 20000 in
theorem mayWait_ow (c : Dev nD) (k : CK) (i : ℕ)
    (hl : ∀ a ∈ [1, 1, 1, 2, 2, 2, 3, 3, 3, 3, 3, 3, 4, 4, 4].drop i, lvK k < a) :
    base m K ⊢ (MayWait (c : Thread nD τ) (semOf k) () (O c i) : sProp 𝕄) :=
  by
  unfold O
  exact (lev_at m K).trans (mayWait_list c (semOf k) (lvK k) (lv_cell c k ()) ((owedL c).drop i) (lev_above c i _ hl))

theorem close_cell (c : Dev nD) (k : CK) (R : ℕ) (hR : ∀ r, R ≤ r → (Rd (F := F) m).duties (cell c k) r = ∅) :
    iprop(cellInv ER (Rd m) (K (c, k)) (cell c k) ∗ atPos ER (cell c k) R ∅ 0) ⊢ iprop(|={Set.univ}=> zero c k) :=
  Rounds.cell_close ER (Rd m) (Set.mem_univ (K (c, k))) (fun h => h) (R := R) hR

/-- A wait for a cell's whole round, the cell closed after it. -/
theorem step_wait (c : Dev nD) (k : CK) (hk : dut c k = {0}) (i : ℕ)
    (hl : ∀ a ∈ [1, 1, 1, 2, 2, 2, 3, 3, 3, 3, 3, 3, 4, 4, 4].drop i, lvK k < a)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (semOf k) (amt k) Kt)
    {α : Type} {Q : α → sProp 𝕄} {kt : PUnit → Prog (TpuEff nD τ sig (Elt F) Λ₀ .tc) α} :
    iprop(base m K ∗ cr c k ∗ ow c i ∗ at0 c k)
      ⊢ iprop(((ow c i ∗ zero c k ∗ pay m c 0 k) -∗ wpc c (kt ⟨⟩) Q) -∗ wpc c (.op w kt) Q) := by
  unfold cr ow at0
  iintro ⟨#Hb, Hc, ⟨%W, HO⟩, Hat⟩ Hk
  iapply (Rounds.wp_wait_rest_token 𝒱₀ ER (Rd m) (c : Thread nD τ) none (κ := K (c, k)) hw (Set.mem_univ _) ()
      (O := O c i) (W := W) (R := 0) (m := 0) (T := ∅) ((Nat.zero_add _).trans (expect_one m c k hk).symm)) $$ [Hc HO Hat]
  · isplitr; · iapply (inv_at m K (c, k)); iexact Hb
    isplitl [Hc]; · iexact Hc
    isplitl [HO]; · iexact HO
    isplitr
    · iapply (mayWait_ow m K c k i hl); iexact Hb
    iexact Hat
  iintro ⟨HO, Hat, -, Hpay⟩
  imod (close_cell m K c k (0 + 1) (duties_later m (cell c k))) $$ [Hat] with Hz
  · isplitr; · iapply (inv_at m K (c, k)); iexact Hb
    iexact Hat
  iapply Hk
  isplitl [HO]; · iexists _; iexact HO
  isplitl [Hz]; · iexact Hz
  iapply (Entails.of_eq (rest_one m c k hk)); iexact Hpay

/-- The wait of a transfer on a cell. -/
theorem wait_dma (c : Dev nD) (k : CK) {sp sp' : Space} {s s' : Shape} {e e' : EltTy} {sem : DmaSem sig}
    {src : Memref sig .tc sp' s' e'} {dst : Memref sig .tc sp s e} {hsrc : src.view.WordExact} {hdst : dst.view.WordExact}
    (hs : SemLoc.dma sem = semOf k) (ha : dst.view.dmaCredit = amt k) (Kt : PUnit → sProp 𝕄) :
    wpE (defs₀ (F := F)) 𝒱₀ (c : Thread nD τ) none Set.univ (.waitDma2 sem src dst hsrc hdst) Kt
      = waitSpec (c : Thread nD τ) Set.univ (semOf k) (amt k) Kt := by
  rw [← hs, ← ha]
  exact wpE_waitDma2_eq 𝒱₀ (c : Thread nD τ) none Set.univ Kt

/-- The wait at the barrier: the landing slots of the group for this device. -/
theorem step_bar (c : Dev nD) {sem : Sem sig} {n : ℕ} (hs : SemLoc.reg sem = semOf .bar) (hn : n = 3)
    {α : Type} {Q : α → sProp 𝕄} {kt : PUnit → Prog (TpuEff nD τ sig (Elt F) Λ₀ .tc) α} :
    iprop(base m K ∗ cred (tallyAt (cell c .bar) () 3) ∗ ow c 3 ∗ at0 c .bar)
      ⊢ iprop(((ow c 3 ∗ zero c .bar ∗ barPay c (nb c 0) ∗ barPay c (nb c 1) ∗ barPay c (nb c 2)) -∗ wpc c (kt ⟨⟩) Q)
          -∗ wpc c (.op (.semWait sem n) kt) Q) := by
  subst hn
  unfold ow at0
  iintro ⟨#Hb, Hc, ⟨%W, HO⟩, Hat⟩ Hk
  iapply (Rounds.wp_wait_rest_token 𝒱₀ ER (Rd m) (c : Thread nD τ) none (κ := K (c, .bar)) (sm := semOf .bar) (k' := 3)
      (by rw [← hs]; exact wpE_semWait_eq 𝒱₀ (c : Thread nD τ) none Set.univ) (Set.mem_univ _) ()
      (O := O c 3) (W := W) (R := 0) (m := 0) (T := ∅) ((Nat.zero_add _).trans (expect_bar m c).symm)) $$ [Hc HO Hat]
  · isplitr; · iapply (inv_at m K (c, .bar)); iexact Hb
    isplitl [Hc]; · iexact Hc
    isplitl [HO]; · iexact HO
    isplitr
    · iapply (mayWait_ow m K c .bar 3 (by decide)); iexact Hb
    iexact Hat
  iintro ⟨HO, Hat, -, Hpay⟩
  imod (close_cell m K c .bar (0 + 1) (duties_later m (cell c .bar))) $$ [Hat] with Hz
  · isplitr; · iapply (inv_at m K (c, .bar)); iexact Hb
    iexact Hat
  iapply Hk
  isplitl [HO]; · iexists _; iexact HO
  isplitl [Hz]; · iexact Hz
  iapply (Entails.of_eq (rest_bar m c)); iexact Hpay

theorem payload_bar (n : Dev nD) (d : Fin 3) : barPay n (nb n d) ⊢ (Rd (F := F) m).payload ((n : Thread nD τ), .reg barS) 0 d :=
  Entails.of_eq (payload_cell m n .bar 0 d).symm

/-- The signal to a member of the group: this device's four landing slots for it. -/
theorem step_signal (c : Dev nD) (r : Fin 3) (n : Dev nD) (hn : n = nb c r) {sem : Sem sig} {a : ℕ} (hs : SemLoc.reg sem = semOf .bar) (ha : a = 1)
    (i i' : ℕ) (hO : O c i = O c i' + tallyAt (cell (nb c r) .bar) () (amt .bar))
    {α : Type} {Q : α → sProp 𝕄} {kt : PUnit → Prog (TpuEff nD τ sig (Elt F) Λ₀ .tc) α} :
    iprop(base m K ∗ ow c i ∗ tk (nb c r) .bar (2 - r)
        ∗ (∃ f, rgS c (sl c r) fullShare f) ∗ (∃ f, xgS c (sl c r) fullShare f) ∗ (∃ f, pyS c (sl c r) fullShare f) ∗ (∃ f, rbS c (sl c r) fullShare f))
      ⊢ iprop((ow c i' -∗ wpc c (kt ⟨⟩) Q)
          -∗ wpc c (.op (.semSignal (Dev.tc n : Thread nD τ) sem a) kt) Q) := by
  subst hn ha
  obtain rfl : sem = barS := SemLoc.reg.inj hs
  unfold ow tk
  iintro ⟨#Hb, ⟨%W, HO⟩, Ht, Hp⟩ Hk
  iapply (Rounds.wp_signal 𝒱₀ ER (Rd m) (c : Thread nD τ) none (dst := (nb c r : Thread nD τ)) (κ := K (nb c r, .bar))
      (d := 2 - r) (by have := duties_cell m (nb c r) .bar; exact this ▸ Finset.mem_univ _) (amount_cell m (nb c r) .bar 0 (2 - r)) () (O c i') hO) $$ [HO Ht Hp]
  · isplitr; · iapply (inv_at m K (nb c r, .bar)); iexact Hb
    isplitl [HO]; · iexact HO
    isplitl [Ht]; · iexact Ht
    isplitl [Hp]
    · iapply (payload_bar m (nb c r) (2 - r))
      unfold barPay
      rw [nb_nb, yc_nb]
      iexact Hp
    iapply (reached_at m K (nb c r, .bar)); iexact Hb
  iintro HO
  iapply Hk
  iexists _; iexact HO

/-- The first weights' copy. -/
theorem step_copy1 (c : Dev nD) {sem : SemLoc sig} (hs : sem = semOf (.w 0)) {hsrc : W1M.view.WordExact} {hdst : w1M.view.WordExact}
    {hsem : DmaTarget.Typed (nD := nD) (p := (.tc : Proc τ)) .hbm sem (.here w1M)}
    (fd : Buf (Elt F) (w1M.view.loc (c : Thread nD τ))) {α : Type} {Q : α → sProp 𝕄} {kt : PUnit → Prog (TpuEff nD τ sig (Elt F) Λ₀ .tc) α} :
    iprop(base m K ∗ W1Pts m c ∗ w1Pts c fd ∗ tk c (.w 0) 0)
      ⊢ iprop((cr c (.w 0) -∗ wpc c (kt ⟨⟩) Q) -∗ wpc c (.op (.enqueueDma W1M (.here w1M) sem hsrc hdst hsem) kt) Q) := by
  subst hs
  unfold W1Pts w1Pts tk cr
  iintro ⟨#Hb, Hs, Hd, Ht⟩ Hk
  iapply (Rounds.wp_copy_pointsTo 𝒱₀ ER (Rd m) (c : Thread nD τ) none (κ := K (c, .w 0)) (r := 0) (d := 0) (fd := fd)
    (by rw [duties_cell]; exact Finset.mem_singleton_self _) () (amt (.w 0)) rfl (amount_cell m c (.w 0) 0 0)
    (by rw [payload_cell]; unfold pay wPay w1Pts W1Pts; exact sep_mono_left (Entails.of_eq (pointsTo_congr fun i _ => congrFun (View.write_whole_univ cc0_scratch5 fd _) i)))) $$ [Hs Hd Ht]
  · isplitr; · iapply (inv_at m K (c, .w 0)); iexact Hb
    isplitl [Hs]; · iexact Hs
    isplitl [Hd]; · iexact Hd
    isplitl [Ht]; · iexact Ht
    iapply (reached_at m K (c, .w 0)); iexact Hb
  iexact Hk

/-- The second weights' copy. -/
theorem step_copy2 (c : Dev nD) {sem : SemLoc sig} (hs : sem = semOf (.w 1)) {hsrc : W2M.view.WordExact} {hdst : w2M.view.WordExact}
    {hsem : DmaTarget.Typed (nD := nD) (p := (.tc : Proc τ)) .hbm sem (.here w2M)}
    (fd : Buf (Elt F) (w2M.view.loc (c : Thread nD τ))) {α : Type} {Q : α → sProp 𝕄} {kt : PUnit → Prog (TpuEff nD τ sig (Elt F) Λ₀ .tc) α} :
    iprop(base m K ∗ W2Pts m c ∗ w2Pts c fd ∗ tk c (.w 1) 0)
      ⊢ iprop((cr c (.w 1) -∗ wpc c (kt ⟨⟩) Q) -∗ wpc c (.op (.enqueueDma W2M (.here w2M) sem hsrc hdst hsem) kt) Q) := by
  subst hs
  unfold W2Pts w2Pts tk cr
  iintro ⟨#Hb, Hs, Hd, Ht⟩ Hk
  iapply (Rounds.wp_copy_pointsTo 𝒱₀ ER (Rd m) (c : Thread nD τ) none (κ := K (c, .w 1)) (r := 0) (d := 0) (fd := fd)
    (by rw [duties_cell]; exact Finset.mem_singleton_self _) () (amt (.w 1)) rfl (amount_cell m c (.w 1) 0 0)
    (by rw [payload_cell]; unfold pay wPay w2Pts W2Pts; exact sep_mono_left (Entails.of_eq (pointsTo_congr fun i _ => congrFun (View.write_whole_univ cc0_scratch6 fd _) i)))) $$ [Hs Hd Ht]
  · isplitr; · iapply (inv_at m K (c, .w 1)); iexact Hb
    isplitl [Hs]; · iexact Hs
    isplitl [Hd]; · iexact Hd
    isplitl [Ht]; · iexact Ht
    iapply (reached_at m K (c, .w 1)); iexact Hb
  iexact Hk

/-- A load of one slot, its contents known. -/
theorem step_load {a b : ℕ} {e : EltTy} (c : Dev nD) (M : Memref sig .tc .vmem (Big a b) e) {off : Fin 3 → ℕ}
    {inb : ∀ x, off x + (One a b).size x ≤ (Big a b).size x} {k : Fin 4} (ho : off = ![k.val, 0, 0])
    {hl : M.view.LoadsAt (slotR off inb).toLoadRect} {q : PosShare TreeShare} {f : Buf (Elt F) (M.view.loc (c : Thread nD τ))}
    (G : Fin 4 → (One a b).Idx → Elt F e) (hf : M.view.read (Elt F) f = glue G)
    {α : Type} {Q : α → sProp 𝕄} {kt : ((slotR off inb).toLoadRect.shape.Idx → Elt F e) → Prog (TpuEff nD τ sig (Elt F) Λ₀ .tc) α} :
    (M.view.loc (c : Thread nD τ) ↦[M.view.setOn (slotI a b k)]{q} f)
      ⊢ iprop(((M.view.loc (c : Thread nD τ) ↦[M.view.setOn (slotI a b k)]{q} f) -∗ wpc c (kt (G k)) Q)
          -∗ wpc c (.op (.load M (slotR off inb).toLoadRect hl) kt) Q) := by
  have h := wp_load (Q := Q) (hl := hl) (k := kt) (q := q) (f := f) (defs := defs₀ (F := F)) (U := UU) (Ix := Unit) (Name := ℕ) (Lvl := ℕ) (Γ := []) 𝒱₀ (c : Thread nD τ) none Set.univ (m := M) (load_set M ho)
  rw [load_slot M ho f G hf] at h
  exact h

/-- A store into one slot. -/
theorem step_store {a b : ℕ} {e : EltTy} (c : Dev nD) (M : Memref sig .tc .vmem (Big a b) e) {off : Fin 3 → ℕ}
    {inb : ∀ x, off x + (One a b).size x ≤ (Big a b).size x} {k : Fin 4} (ho : off = ![k.val, 0, 0])
    {w : (slotR off inb).shape.Idx → Elt F e} {hx : (M.access (slotR off inb)).Stores Finset.univ} {hm : (Finset.univ : Finset (slotR off inb).shape.Idx) = Finset.univ ∨ ∀ a, (slotR off inb).stride a = 1}
    (f g : Buf (Elt F) (M.view.loc (c : Thread nD τ)))
    (hw : ∀ x ∈ slotI a b k, M.view.read (Elt F) ((M.access (slotR off inb)).write (Elt F) f w Finset.univ) x = M.view.read (Elt F) g x)
    (hg : ∀ (f : Buf (Elt F) (M.view.loc (c : Thread nD τ))), (∀ x ∈ slotI a b k, M.view.read (Elt F) f x = M.view.read (Elt F) g x) → ∀ y ∈ M.view.setOn (slotI a b k), f y = g y)
    {α : Type} {Q : α → sProp 𝕄} {kt : PUnit → Prog (TpuEff nD τ sig (Elt F) Λ₀ .tc) α} :
    (M.view.loc (c : Thread nD τ) ↦[M.view.setOn (slotI a b k)]{fullShare} f)
      ⊢ iprop(((M.view.loc (c : Thread nD τ) ↦[M.view.setOn (slotI a b k)]{fullShare} g) -∗ wpc c (kt ⟨⟩) Q)
          -∗ wpc c (.op (.store M (slotR off inb) w Finset.univ hx hm) kt) Q) := by
  have h := wp_store (Q := Q) (hx := hx) (hm := hm) (k := kt) (f := f) (w := w) (defs := defs₀ (F := F)) (U := UU) (Ix := Unit) (Name := ℕ) (Lvl := ℕ) (Γ := []) 𝒱₀ (c : Thread nD τ) none Set.univ (m := M) (store_set M ho)
  have h2 : ((M.access (slotR off inb)).loc (c : Thread nD τ) ↦[M.view.setOn (slotI a b k)]{fullShare} ((M.access (slotR off inb)).write (Elt F) f w Finset.univ) : sProp 𝕄)
      = (M.view.loc (c : Thread nD τ) ↦[M.view.setOn (slotI a b k)]{fullShare} g) := pointsTo_congr (hg _ hw)
  exact h.trans (wand_mono_left (wand_mono_left (Entails.of_eq h2)))

theorem xg_congr (k : Fin 4) (f g : (cc0_scratch0 : Ref sig .tc).ty.Contents (Elt F)) (h : ∀ x ∈ slotI 128 512 k, f x = g x) :
    ∀ y ∈ xgM.view.setOn (slotI 128 512 k), f y = g y := by
  intro y hy
  obtain ⟨x, hx, rfl⟩ := Finset.mem_map.mp hy
  exact h x hx

theorem rg_congr (k : Fin 4) (f g : (cc0_scratch1 : Ref sig .tc).ty.Contents (Elt F)) (h : ∀ x ∈ slotI 2 512 k, f x = g x) :
    ∀ y ∈ rgM.view.setOn (slotI 2 512 k), f y = g y := by
  intro y hy
  obtain ⟨x, hx, rfl⟩ := Finset.mem_map.mp hy
  exact h x hx

theorem py_congr (k : Fin 4) (f g : (cc0_scratch2 : Ref sig .tc).ty.Contents (Elt F)) (h : ∀ x ∈ slotI 128 8 k, f x = g x) :
    ∀ y ∈ pyM.view.setOn (slotI 128 8 k), f y = g y := by
  intro y hy
  obtain ⟨x, hx, rfl⟩ := Finset.mem_map.mp hy
  exact h x hx

theorem cb_congr (k : Fin 4) (f g : (cc0_scratch3 : Ref sig .tc).ty.Contents (Elt F)) (h : ∀ x ∈ slotI 128 512 k, f x = g x) :
    ∀ y ∈ cbM.view.setOn (slotI 128 512 k), f y = g y := by
  intro y hy
  obtain ⟨x, hx, rfl⟩ := Finset.mem_map.mp hy
  exact h x hx

theorem rb_congr (k : Fin 4) (f g : (cc0_scratch4 : Ref sig .tc).ty.Contents (Elt F)) (h : ∀ x ∈ slotI 128 512 k, f x = g x) :
    ∀ y ∈ rbM.view.setOn (slotI 128 512 k), f y = g y := by
  intro y hy
  obtain ⟨x, hx, rfl⟩ := Finset.mem_map.mp hy
  exact h x hx

theorem xgS_eq (c : Dev nD) (k : Fin 4) {off : Fin 3 → ℕ} (ho : off = ![k.val, 0, 0]) (inb : ∀ x, off x + S1x128x512.size x ≤ S4x128x512.size x)
    (q : PosShare TreeShare) (f : Buf (Elt F) (xgM.view.loc (c : Thread nD τ))) :
    xgS c k q f = ((xgM.view.loc (c : Thread nD τ) ↦[((xgM.slice (Rect.unit (s := S4x128x512) off S1x128x512.size inb) (fun _ => rfl)).squeeze S128x512 squeezes_S1x128x512_S128x512).view.set]{q} f : sProp 𝕄)) := by
  unfold xgS
  exact congrArg (fun S => (xgM.view.loc (c : Thread nD τ) ↦[S]{q} f : sProp 𝕄)) (set_slotM (a := 128) (b := 512) (off := off) (inb := inb) xgM squeezes_S1x128x512_S128x512 ho).symm

theorem rgS_eq (c : Dev nD) (k : Fin 4) {off : Fin 3 → ℕ} (ho : off = ![k.val, 0, 0]) (inb : ∀ x, off x + S1x2x512.size x ≤ S4x2x512.size x)
    (q : PosShare TreeShare) (f : Buf (Elt F) (rgM.view.loc (c : Thread nD τ))) :
    rgS c k q f = ((rgM.view.loc (c : Thread nD τ) ↦[((rgM.slice (Rect.unit (s := S4x2x512) off S1x2x512.size inb) (fun _ => rfl)).squeeze S2x512 squeezes_S1x2x512_S2x512).view.set]{q} f : sProp 𝕄)) := by
  unfold rgS
  exact congrArg (fun S => (rgM.view.loc (c : Thread nD τ) ↦[S]{q} f : sProp 𝕄)) (set_slotM (a := 2) (b := 512) (off := off) (inb := inb) rgM squeezes_S1x2x512_S2x512 ho).symm

theorem pyS_eq (c : Dev nD) (k : Fin 4) {off : Fin 3 → ℕ} (ho : off = ![k.val, 0, 0]) (inb : ∀ x, off x + S1x128x8.size x ≤ S4x128x8.size x)
    (q : PosShare TreeShare) (f : Buf (Elt F) (pyM.view.loc (c : Thread nD τ))) :
    pyS c k q f = ((pyM.view.loc (c : Thread nD τ) ↦[((pyM.slice (Rect.unit (s := S4x128x8) off S1x128x8.size inb) (fun _ => rfl)).squeeze S128x8 squeezes_S1x128x8_S128x8).view.set]{q} f : sProp 𝕄)) := by
  unfold pyS
  exact congrArg (fun S => (pyM.view.loc (c : Thread nD τ) ↦[S]{q} f : sProp 𝕄)) (set_slotM (a := 128) (b := 8) (off := off) (inb := inb) pyM squeezes_S1x128x8_S128x8 ho).symm

theorem cbS_eq (c : Dev nD) (k : Fin 4) {off : Fin 3 → ℕ} (ho : off = ![k.val, 0, 0]) (inb : ∀ x, off x + S1x128x512.size x ≤ S4x128x512.size x)
    (q : PosShare TreeShare) (f : Buf (Elt F) (cbM.view.loc (c : Thread nD τ))) :
    cbS c k q f = ((cbM.view.loc (c : Thread nD τ) ↦[((cbM.slice (Rect.unit (s := S4x128x512) off S1x128x512.size inb) (fun _ => rfl)).squeeze S128x512 squeezes_S1x128x512_S128x512).view.set]{q} f : sProp 𝕄)) := by
  unfold cbS
  exact congrArg (fun S => (cbM.view.loc (c : Thread nD τ) ↦[S]{q} f : sProp 𝕄)) (set_slotM (a := 128) (b := 512) (off := off) (inb := inb) cbM squeezes_S1x128x512_S128x512 ho).symm

theorem rbS_eq (c : Dev nD) (k : Fin 4) {off : Fin 3 → ℕ} (ho : off = ![k.val, 0, 0]) (inb : ∀ x, off x + S1x128x512.size x ≤ S4x128x512.size x)
    (q : PosShare TreeShare) (f : Buf (Elt F) (rbM.view.loc (c : Thread nD τ))) :
    rbS c k q f = ((rbM.view.loc (c : Thread nD τ) ↦[((rbM.slice (Rect.unit (s := S4x128x512) off S1x128x512.size inb) (fun _ => rfl)).squeeze S128x512 squeezes_S1x128x512_S128x512).view.set]{q} f : sProp 𝕄)) := by
  unfold rbS
  exact congrArg (fun S => (rbM.view.loc (c : Thread nD τ) ↦[S]{q} f : sProp 𝕄)) (set_slotM (a := 128) (b := 512) (off := off) (inb := inb) rbM squeezes_S1x128x512_S128x512 ho).symm

theorem load_xg (c : Dev nD) (k : Fin 4) {off : Fin 3 → ℕ} {inb : ∀ x, off x + S1x128x512.size x ≤ S4x128x512.size x} (ho : off = ![k.val, 0, 0])
    {hl : xgM.view.LoadsAt (Rect.unit (s := S4x128x512) off S1x128x512.size inb).toLoadRect} {q : PosShare TreeShare}
    {α : Type} {Q : α → sProp 𝕄} {kt : Vec F S1x128x512 .bf16 → Prog (TpuEff nD τ sig (Elt F) Λ₀ .tc) α} :
    xgS c k q (xgF m c)
      ⊢ iprop((xgS c k q (xgF m c) -∗ wpc c (kt (xG m c k)) Q)
          -∗ wpc c (.op (.load xgM (Rect.unit (s := S4x128x512) off S1x128x512.size inb).toLoadRect hl) kt) Q) :=
  step_load c xgM ho (xG m c) rfl

theorem dead_xg (c : Dev nD) (k : Fin 4) {off : Fin 3 → ℕ} {inb : ∀ x, off x + S1x128x512.size x ≤ S4x128x512.size x} (ho : off = ![k.val, 0, 0])
    {hl : xgM.view.LoadsAt (Rect.unit (s := S4x128x512) off S1x128x512.size inb).toLoadRect} {q : PosShare TreeShare}
    {α : Type} {Q : α → sProp 𝕄} {kt : Vec F S1x128x512 .bf16 → Prog (TpuEff nD τ sig (Elt F) Λ₀ .tc) α} :
    iprop(∃ f, xgS c k q f)
      ⊢ iprop((∀ v, (∃ f, xgS c k q f) -∗ wpc c (kt v) Q)
          -∗ wpc c (.op (.load xgM (Rect.unit (s := S4x128x512) off S1x128x512.size inb).toLoadRect hl) kt) Q) := by
  unfold xgS
  iintro ⟨%f, H⟩ Hk
  iapply (wp_load (Q := Q) (hl := hl) (k := kt) (q := q) (f := f) (defs := defs₀ (F := F)) (U := UU) (Ix := Unit) (Name := ℕ) (Lvl := ℕ) (Γ := []) 𝒱₀ (c : Thread nD τ) none Set.univ (m := xgM) (load_set (a := 128) (b := 512) xgM ho)) $$ H
  iintro H
  iapply Hk
  iexists f; iexact H

theorem store_xg (c : Dev nD) (k : Fin 4) {off : Fin 3 → ℕ} {inb : ∀ x, off x + S1x128x512.size x ≤ S4x128x512.size x} (ho : off = ![k.val, 0, 0])
    {w : Vec F S1x128x512 .bf16} (hw : w = xG m c k) {hx : (xgM.access (Rect.unit (s := S4x128x512) off S1x128x512.size inb)).Stores Finset.univ}
    {hm : (Finset.univ : Finset (Rect.unit (s := S4x128x512) off S1x128x512.size inb).shape.Idx) = Finset.univ ∨ ∀ a, (Rect.unit (s := S4x128x512) off S1x128x512.size inb).stride a = 1}
    {α : Type} {Q : α → sProp 𝕄} {kt : PUnit → Prog (TpuEff nD τ sig (Elt F) Λ₀ .tc) α} :
    iprop(∃ f, xgS c k fullShare f)
      ⊢ iprop((xgS c k fullShare (xgF m c) -∗ wpc c (kt ⟨⟩) Q)
          -∗ wpc c (.op (.store xgM (Rect.unit (s := S4x128x512) off S1x128x512.size inb) w Finset.univ hx hm) kt) Q) := by
  subst hw
  iintro ⟨%f, H⟩
  iapply (show xgS c k fullShare f ⊢ _ from step_store c xgM ho f (xgF m c) (fun x hx => store_slot (a := 128) (b := 512) xgM ho f (xG m c) hx) (fun f => xg_congr k f _)); iexact H

theorem load_rg (c : Dev nD) (k : Fin 4) {off : Fin 3 → ℕ} {inb : ∀ x, off x + S1x2x512.size x ≤ S4x2x512.size x} (ho : off = ![k.val, 0, 0])
    {hl : rgM.view.LoadsAt (Rect.unit (s := S4x2x512) off S1x2x512.size inb).toLoadRect} {q : PosShare TreeShare}
    {α : Type} {Q : α → sProp 𝕄} {kt : Vec F S1x2x512 .f32 → Prog (TpuEff nD τ sig (Elt F) Λ₀ .tc) α} :
    rgS c k q (rgF m c)
      ⊢ iprop((rgS c k q (rgF m c) -∗ wpc c (kt (rG m c k)) Q)
          -∗ wpc c (.op (.load rgM (Rect.unit (s := S4x2x512) off S1x2x512.size inb).toLoadRect hl) kt) Q) :=
  step_load c rgM ho (rG m c) rfl

theorem dead_rg (c : Dev nD) (k : Fin 4) {off : Fin 3 → ℕ} {inb : ∀ x, off x + S1x2x512.size x ≤ S4x2x512.size x} (ho : off = ![k.val, 0, 0])
    {hl : rgM.view.LoadsAt (Rect.unit (s := S4x2x512) off S1x2x512.size inb).toLoadRect} {q : PosShare TreeShare}
    {α : Type} {Q : α → sProp 𝕄} {kt : Vec F S1x2x512 .f32 → Prog (TpuEff nD τ sig (Elt F) Λ₀ .tc) α} :
    iprop(∃ f, rgS c k q f)
      ⊢ iprop((∀ v, (∃ f, rgS c k q f) -∗ wpc c (kt v) Q)
          -∗ wpc c (.op (.load rgM (Rect.unit (s := S4x2x512) off S1x2x512.size inb).toLoadRect hl) kt) Q) := by
  unfold rgS
  iintro ⟨%f, H⟩ Hk
  iapply (wp_load (Q := Q) (hl := hl) (k := kt) (q := q) (f := f) (defs := defs₀ (F := F)) (U := UU) (Ix := Unit) (Name := ℕ) (Lvl := ℕ) (Γ := []) 𝒱₀ (c : Thread nD τ) none Set.univ (m := rgM) (load_set (a := 2) (b := 512) rgM ho)) $$ H
  iintro H
  iapply Hk
  iexists f; iexact H

theorem store_rg (c : Dev nD) (k : Fin 4) {off : Fin 3 → ℕ} {inb : ∀ x, off x + S1x2x512.size x ≤ S4x2x512.size x} (ho : off = ![k.val, 0, 0])
    {w : Vec F S1x2x512 .f32} (hw : w = rG m c k) {hx : (rgM.access (Rect.unit (s := S4x2x512) off S1x2x512.size inb)).Stores Finset.univ}
    {hm : (Finset.univ : Finset (Rect.unit (s := S4x2x512) off S1x2x512.size inb).shape.Idx) = Finset.univ ∨ ∀ a, (Rect.unit (s := S4x2x512) off S1x2x512.size inb).stride a = 1}
    {α : Type} {Q : α → sProp 𝕄} {kt : PUnit → Prog (TpuEff nD τ sig (Elt F) Λ₀ .tc) α} :
    iprop(∃ f, rgS c k fullShare f)
      ⊢ iprop((rgS c k fullShare (rgF m c) -∗ wpc c (kt ⟨⟩) Q)
          -∗ wpc c (.op (.store rgM (Rect.unit (s := S4x2x512) off S1x2x512.size inb) w Finset.univ hx hm) kt) Q) := by
  subst hw
  iintro ⟨%f, H⟩
  iapply (show rgS c k fullShare f ⊢ _ from step_store c rgM ho f (rgF m c) (fun x hx => store_slot (a := 2) (b := 512) rgM ho f (rG m c) hx) (fun f => rg_congr k f _)); iexact H

theorem load_py (c : Dev nD) (k : Fin 4) {off : Fin 3 → ℕ} {inb : ∀ x, off x + S1x128x8.size x ≤ S4x128x8.size x} (ho : off = ![k.val, 0, 0])
    {hl : pyM.view.LoadsAt (Rect.unit (s := S4x128x8) off S1x128x8.size inb).toLoadRect} {q : PosShare TreeShare}
    {α : Type} {Q : α → sProp 𝕄} {kt : Vec F S1x128x8 .f32 → Prog (TpuEff nD τ sig (Elt F) Λ₀ .tc) α} :
    pyS c k q (pyF m c)
      ⊢ iprop((pyS c k q (pyF m c) -∗ wpc c (kt (pG m c k)) Q)
          -∗ wpc c (.op (.load pyM (Rect.unit (s := S4x128x8) off S1x128x8.size inb).toLoadRect hl) kt) Q) :=
  step_load c pyM ho (pG m c) rfl

theorem dead_py (c : Dev nD) (k : Fin 4) {off : Fin 3 → ℕ} {inb : ∀ x, off x + S1x128x8.size x ≤ S4x128x8.size x} (ho : off = ![k.val, 0, 0])
    {hl : pyM.view.LoadsAt (Rect.unit (s := S4x128x8) off S1x128x8.size inb).toLoadRect} {q : PosShare TreeShare}
    {α : Type} {Q : α → sProp 𝕄} {kt : Vec F S1x128x8 .f32 → Prog (TpuEff nD τ sig (Elt F) Λ₀ .tc) α} :
    iprop(∃ f, pyS c k q f)
      ⊢ iprop((∀ v, (∃ f, pyS c k q f) -∗ wpc c (kt v) Q)
          -∗ wpc c (.op (.load pyM (Rect.unit (s := S4x128x8) off S1x128x8.size inb).toLoadRect hl) kt) Q) := by
  unfold pyS
  iintro ⟨%f, H⟩ Hk
  iapply (wp_load (Q := Q) (hl := hl) (k := kt) (q := q) (f := f) (defs := defs₀ (F := F)) (U := UU) (Ix := Unit) (Name := ℕ) (Lvl := ℕ) (Γ := []) 𝒱₀ (c : Thread nD τ) none Set.univ (m := pyM) (load_set (a := 128) (b := 8) pyM ho)) $$ H
  iintro H
  iapply Hk
  iexists f; iexact H

theorem store_py (c : Dev nD) (k : Fin 4) {off : Fin 3 → ℕ} {inb : ∀ x, off x + S1x128x8.size x ≤ S4x128x8.size x} (ho : off = ![k.val, 0, 0])
    {w : Vec F S1x128x8 .f32} (hw : w = pG m c k) {hx : (pyM.access (Rect.unit (s := S4x128x8) off S1x128x8.size inb)).Stores Finset.univ}
    {hm : (Finset.univ : Finset (Rect.unit (s := S4x128x8) off S1x128x8.size inb).shape.Idx) = Finset.univ ∨ ∀ a, (Rect.unit (s := S4x128x8) off S1x128x8.size inb).stride a = 1}
    {α : Type} {Q : α → sProp 𝕄} {kt : PUnit → Prog (TpuEff nD τ sig (Elt F) Λ₀ .tc) α} :
    iprop(∃ f, pyS c k fullShare f)
      ⊢ iprop((pyS c k fullShare (pyF m c) -∗ wpc c (kt ⟨⟩) Q)
          -∗ wpc c (.op (.store pyM (Rect.unit (s := S4x128x8) off S1x128x8.size inb) w Finset.univ hx hm) kt) Q) := by
  subst hw
  iintro ⟨%f, H⟩
  iapply (show pyS c k fullShare f ⊢ _ from step_store c pyM ho f (pyF m c) (fun x hx => store_slot (a := 128) (b := 8) pyM ho f (pG m c) hx) (fun f => py_congr k f _)); iexact H

theorem load_cb (c : Dev nD) (k : Fin 4) {off : Fin 3 → ℕ} {inb : ∀ x, off x + S1x128x512.size x ≤ S4x128x512.size x} (ho : off = ![k.val, 0, 0])
    {hl : cbM.view.LoadsAt (Rect.unit (s := S4x128x512) off S1x128x512.size inb).toLoadRect} {q : PosShare TreeShare}
    {α : Type} {Q : α → sProp 𝕄} {kt : Vec F S1x128x512 .bf16 → Prog (TpuEff nD τ sig (Elt F) Λ₀ .tc) α} :
    cbS c k q (cbF m c)
      ⊢ iprop((cbS c k q (cbF m c) -∗ wpc c (kt (cG m c k)) Q)
          -∗ wpc c (.op (.load cbM (Rect.unit (s := S4x128x512) off S1x128x512.size inb).toLoadRect hl) kt) Q) :=
  step_load c cbM ho (cG m c) rfl

theorem dead_cb (c : Dev nD) (k : Fin 4) {off : Fin 3 → ℕ} {inb : ∀ x, off x + S1x128x512.size x ≤ S4x128x512.size x} (ho : off = ![k.val, 0, 0])
    {hl : cbM.view.LoadsAt (Rect.unit (s := S4x128x512) off S1x128x512.size inb).toLoadRect} {q : PosShare TreeShare}
    {α : Type} {Q : α → sProp 𝕄} {kt : Vec F S1x128x512 .bf16 → Prog (TpuEff nD τ sig (Elt F) Λ₀ .tc) α} :
    iprop(∃ f, cbS c k q f)
      ⊢ iprop((∀ v, (∃ f, cbS c k q f) -∗ wpc c (kt v) Q)
          -∗ wpc c (.op (.load cbM (Rect.unit (s := S4x128x512) off S1x128x512.size inb).toLoadRect hl) kt) Q) := by
  unfold cbS
  iintro ⟨%f, H⟩ Hk
  iapply (wp_load (Q := Q) (hl := hl) (k := kt) (q := q) (f := f) (defs := defs₀ (F := F)) (U := UU) (Ix := Unit) (Name := ℕ) (Lvl := ℕ) (Γ := []) 𝒱₀ (c : Thread nD τ) none Set.univ (m := cbM) (load_set (a := 128) (b := 512) cbM ho)) $$ H
  iintro H
  iapply Hk
  iexists f; iexact H

theorem store_cb (c : Dev nD) (k : Fin 4) {off : Fin 3 → ℕ} {inb : ∀ x, off x + S1x128x512.size x ≤ S4x128x512.size x} (ho : off = ![k.val, 0, 0])
    {w : Vec F S1x128x512 .bf16} (hw : w = cG m c k) {hx : (cbM.access (Rect.unit (s := S4x128x512) off S1x128x512.size inb)).Stores Finset.univ}
    {hm : (Finset.univ : Finset (Rect.unit (s := S4x128x512) off S1x128x512.size inb).shape.Idx) = Finset.univ ∨ ∀ a, (Rect.unit (s := S4x128x512) off S1x128x512.size inb).stride a = 1}
    {α : Type} {Q : α → sProp 𝕄} {kt : PUnit → Prog (TpuEff nD τ sig (Elt F) Λ₀ .tc) α} :
    iprop(∃ f, cbS c k fullShare f)
      ⊢ iprop((cbS c k fullShare (cbF m c) -∗ wpc c (kt ⟨⟩) Q)
          -∗ wpc c (.op (.store cbM (Rect.unit (s := S4x128x512) off S1x128x512.size inb) w Finset.univ hx hm) kt) Q) := by
  subst hw
  iintro ⟨%f, H⟩
  iapply (show cbS c k fullShare f ⊢ _ from step_store c cbM ho f (cbF m c) (fun x hx => store_slot (a := 128) (b := 512) cbM ho f (cG m c) hx) (fun f => cb_congr k f _)); iexact H

theorem load_rb (c : Dev nD) (k : Fin 4) {off : Fin 3 → ℕ} {inb : ∀ x, off x + S1x128x512.size x ≤ S4x128x512.size x} (ho : off = ![k.val, 0, 0])
    {hl : rbM.view.LoadsAt (Rect.unit (s := S4x128x512) off S1x128x512.size inb).toLoadRect} {q : PosShare TreeShare}
    {α : Type} {Q : α → sProp 𝕄} {kt : Vec F S1x128x512 .bf16 → Prog (TpuEff nD τ sig (Elt F) Λ₀ .tc) α} :
    rbS c k q (rbF m c)
      ⊢ iprop((rbS c k q (rbF m c) -∗ wpc c (kt (bG m c k)) Q)
          -∗ wpc c (.op (.load rbM (Rect.unit (s := S4x128x512) off S1x128x512.size inb).toLoadRect hl) kt) Q) :=
  step_load c rbM ho (bG m c) rfl

theorem dead_rb (c : Dev nD) (k : Fin 4) {off : Fin 3 → ℕ} {inb : ∀ x, off x + S1x128x512.size x ≤ S4x128x512.size x} (ho : off = ![k.val, 0, 0])
    {hl : rbM.view.LoadsAt (Rect.unit (s := S4x128x512) off S1x128x512.size inb).toLoadRect} {q : PosShare TreeShare}
    {α : Type} {Q : α → sProp 𝕄} {kt : Vec F S1x128x512 .bf16 → Prog (TpuEff nD τ sig (Elt F) Λ₀ .tc) α} :
    iprop(∃ f, rbS c k q f)
      ⊢ iprop((∀ v, (∃ f, rbS c k q f) -∗ wpc c (kt v) Q)
          -∗ wpc c (.op (.load rbM (Rect.unit (s := S4x128x512) off S1x128x512.size inb).toLoadRect hl) kt) Q) := by
  unfold rbS
  iintro ⟨%f, H⟩ Hk
  iapply (wp_load (Q := Q) (hl := hl) (k := kt) (q := q) (f := f) (defs := defs₀ (F := F)) (U := UU) (Ix := Unit) (Name := ℕ) (Lvl := ℕ) (Γ := []) 𝒱₀ (c : Thread nD τ) none Set.univ (m := rbM) (load_set (a := 128) (b := 512) rbM ho)) $$ H
  iintro H
  iapply Hk
  iexists f; iexact H

theorem credit_xg (c : Dev nD) (offd : Fin 3 → ℕ) (inbd : ∀ x, offd x + S1x128x512.size x ≤ S4x128x512.size x) (k : Fin 3) :
    ((xgM.slice (Rect.unit (s := S4x128x512) offd S1x128x512.size inbd) (fun _ => rfl)).squeeze S128x512 squeezes_S1x128x512_S128x512).view.amount (semOf (.rs 0 (yc c))) = amt (.ss 0 k) := rfl

/-- A transfer of exchange 0 to member `k` after this one. -/
theorem send_xg (c : Dev nD) (k : Fin 3) (k' : Fin 3) (n : Dev nD) (hn : n = nb c k)
    {offs offd : Fin 3 → ℕ} {inbs : ∀ x, offs x + S1x128x512.size x ≤ S4x128x512.size x} {inbd : ∀ x, offd x + S1x128x512.size x ≤ S4x128x512.size x}
    (hos : offs = ![(yc c).val, 0, 0]) (hod : offd = ![(yc c).val, 0, 0])
    {sS sem : SemLoc sig} (hs : sS = semOf (.ss 0 k')) (hr : sem = semOf (.rs 0 (yc c)))
    (i i' : ℕ) (hO : O c i = O c i' + tallyAt (cell (nb c k) (.rs 0 (yc c))) () (amt (.rs 0 (yc c))))
    {hsc : (((xgM : Memref sig (Dev.tc n : Thread nD τ).2.kind .vmem S4x128x512 .bf16).slice (Rect.unit (s := S4x128x512) offd S1x128x512.size inbd) (fun _ => rfl)).squeeze S128x512 squeezes_S1x128x512_S128x512).view.ref.isScScratch = false}
    {hsrc : ((xgM.slice (Rect.unit (s := S4x128x512) offs S1x128x512.size inbs) (fun _ => rfl)).squeeze S128x512 squeezes_S1x128x512_S128x512).view.WordExact}
    {hdst : ((xgM.slice (Rect.unit (s := S4x128x512) offd S1x128x512.size inbd) (fun _ => rfl)).squeeze S128x512 squeezes_S1x128x512_S128x512).view.WordExact}
    {hsem : DmaTarget.Typed .vmem sem (.remote (Dev.tc n : Thread nD τ) (((xgM : Memref sig (Dev.tc n : Thread nD τ).2.kind .vmem S4x128x512 .bf16).slice (Rect.unit (s := S4x128x512) offd S1x128x512.size inbd) (fun _ => rfl)).squeeze S128x512 squeezes_S1x128x512_S128x512) sS hsc)}
    {α : Type} {Q : α → sProp 𝕄} {kt : PUnit → Prog (TpuEff nD τ sig (Elt F) Λ₀ .tc) α} :
    iprop(base m K ∗ xgS c (yc c) (lend k') (xgF m c) ∗ (∃ f, xgS (nb c k) (yc c) fullShare f) ∗ ow c i ∗ tk c (.ss 0 k') 0 ∗ tk (nb c k) (.rs 0 (yc c)) 0)
      ⊢ iprop(((cr c (.ss 0 k') ∗ ow c i') -∗ wpc c (kt ⟨⟩) Q)
          -∗ wpc c (.op (.enqueueDma ((xgM.slice (Rect.unit (s := S4x128x512) offs S1x128x512.size inbs) (fun _ => rfl)).squeeze S128x512 squeezes_S1x128x512_S128x512)
              (.remote (Dev.tc n : Thread nD τ) (((xgM : Memref sig (Dev.tc n : Thread nD τ).2.kind .vmem S4x128x512 .bf16).slice (Rect.unit (s := S4x128x512) offd S1x128x512.size inbd) (fun _ => rfl)).squeeze S128x512 squeezes_S1x128x512_S128x512) sS hsc)
              sem hsrc hdst hsem) kt) Q) := by
  subst hn hs hr
  unfold ow tk cr
  iintro ⟨#Hb, Hs, ⟨%fd, Hd⟩, ⟨%W, HO⟩, Ht1, Ht2⟩ Hk
  ihave Hs := (Entails.of_eq (xgS_eq c (yc c) hos inbs (lend k') (xgF m c))) $$ Hs
  ihave Hd := (Entails.of_eq (xgS_eq (nb c k) (yc c) hod inbd fullShare fd)) $$ Hd
  iapply (Rounds.wp_send_pointsTo 𝒱₀ ER (Rd m) (c : Thread nD τ) none (κ₁ := K (c, .ss 0 k')) (κ₂ := K (nb c k, .rs 0 (yc c)))
    (src := ((xgM.slice (Rect.unit (s := S4x128x512) offs S1x128x512.size inbs) (fun _ => rfl)).squeeze S128x512 squeezes_S1x128x512_S128x512))
    (dst := (((xgM : Memref sig (Dev.tc (nb c k) : Thread nD τ).2.kind .vmem S4x128x512 .bf16).slice (Rect.unit (s := S4x128x512) offd S1x128x512.size inbd) (fun _ => rfl)).squeeze S128x512 squeezes_S1x128x512_S128x512))
    (r₁ := 0) (r₂ := 0) (d₁ := 0) (d₂ := 0) (c' := (nb c k : Thread nD τ)) (fd := fd) (W := W)
    (by rw [duties_cell]; exact Finset.mem_singleton_self _)
    (by rw [duties_cell]; show 0 ∈ (if yc c = yc (nb c k) then ∅ else {0}); rw [if_neg (by rw [yc_nb]; exact (sl_ne c k).symm)]; exact Finset.mem_singleton_self _)
    () () (amt (.ss 0 k')) (credit_xg c offd inbd k') (amount_cell m c (.ss 0 k') 0 0) (amount_cell m (nb c k) (.rs 0 (yc c)) 0 0) (O c i') hO
    (by rw [payload_cell]; exact Entails.of_eq (xgS_eq c (yc c) hos inbs (lend k') (xgF m c)).symm)
    (by
      rw [payload_cell]
      show _ ⊢ xgS (nb c k) (yc c) fullShare (xgF m (nb c k))
      rw [xgS_eq (nb c k) (yc c) hod inbd]
      refine Entails.of_eq (pointsTo_congr ?_)
      rw [set_slotM (a := 128) (b := 512) (off := offd) (inb := inbd) xgM squeezes_S1x128x512_S128x512 hod]
      exact xg_congr (yc c) _ _ fun x hx => copy_slot (a := 128) (b := 512) xgM xgM squeezes_S1x128x512_S128x512 squeezes_S1x128x512_S128x512 hos hod (xgF m c) fd (xG m c) (xG m (nb c k)) rfl (by rw [xG_nb]) hx)) $$ [Hs Hd HO Ht1 Ht2]
  · isplitr; · iapply (inv_at m K (c, .ss 0 k')); iexact Hb
    isplitr; · iapply (inv_at m K (nb c k, .rs 0 (yc c))); iexact Hb
    isplitl [Hs]; · iexact Hs
    isplitl [Hd]; · iexact Hd
    isplitl [HO]; · iexact HO
    isplitl [Ht1]; · iexact Ht1
    isplitr; · iapply (reached_at m K (c, .ss 0 k')); iexact Hb
    isplitl [Ht2]; · iexact Ht2
    iapply (reached_at m K (nb c k, .rs 0 (yc c))); iexact Hb
  iintro ⟨Hc, HO⟩
  iapply Hk
  isplitl [Hc]; · iexact Hc
  iexists _; iexact HO

theorem credit_rg (c : Dev nD) (offd : Fin 3 → ℕ) (inbd : ∀ x, offd x + S1x2x512.size x ≤ S4x2x512.size x) (k : Fin 3) :
    ((rgM.slice (Rect.unit (s := S4x2x512) offd S1x2x512.size inbd) (fun _ => rfl)).squeeze S2x512 squeezes_S1x2x512_S2x512).view.amount (semOf (.rs 1 (yc c))) = amt (.ss 1 k) := rfl

/-- A transfer of exchange 1 to member `k` after this one. -/
theorem send_rg (c : Dev nD) (k : Fin 3) (k' : Fin 3) (n : Dev nD) (hn : n = nb c k)
    {offs offd : Fin 3 → ℕ} {inbs : ∀ x, offs x + S1x2x512.size x ≤ S4x2x512.size x} {inbd : ∀ x, offd x + S1x2x512.size x ≤ S4x2x512.size x}
    (hos : offs = ![(yc c).val, 0, 0]) (hod : offd = ![(yc c).val, 0, 0])
    {sS sem : SemLoc sig} (hs : sS = semOf (.ss 1 k')) (hr : sem = semOf (.rs 1 (yc c)))
    (i i' : ℕ) (hO : O c i = O c i' + tallyAt (cell (nb c k) (.rs 1 (yc c))) () (amt (.rs 1 (yc c))))
    {hsc : (((rgM : Memref sig (Dev.tc n : Thread nD τ).2.kind .vmem S4x2x512 .f32).slice (Rect.unit (s := S4x2x512) offd S1x2x512.size inbd) (fun _ => rfl)).squeeze S2x512 squeezes_S1x2x512_S2x512).view.ref.isScScratch = false}
    {hsrc : ((rgM.slice (Rect.unit (s := S4x2x512) offs S1x2x512.size inbs) (fun _ => rfl)).squeeze S2x512 squeezes_S1x2x512_S2x512).view.WordExact}
    {hdst : ((rgM.slice (Rect.unit (s := S4x2x512) offd S1x2x512.size inbd) (fun _ => rfl)).squeeze S2x512 squeezes_S1x2x512_S2x512).view.WordExact}
    {hsem : DmaTarget.Typed .vmem sem (.remote (Dev.tc n : Thread nD τ) (((rgM : Memref sig (Dev.tc n : Thread nD τ).2.kind .vmem S4x2x512 .f32).slice (Rect.unit (s := S4x2x512) offd S1x2x512.size inbd) (fun _ => rfl)).squeeze S2x512 squeezes_S1x2x512_S2x512) sS hsc)}
    {α : Type} {Q : α → sProp 𝕄} {kt : PUnit → Prog (TpuEff nD τ sig (Elt F) Λ₀ .tc) α} :
    iprop(base m K ∗ rgS c (yc c) (lend k') (rgF m c) ∗ (∃ f, rgS (nb c k) (yc c) fullShare f) ∗ ow c i ∗ tk c (.ss 1 k') 0 ∗ tk (nb c k) (.rs 1 (yc c)) 0)
      ⊢ iprop(((cr c (.ss 1 k') ∗ ow c i') -∗ wpc c (kt ⟨⟩) Q)
          -∗ wpc c (.op (.enqueueDma ((rgM.slice (Rect.unit (s := S4x2x512) offs S1x2x512.size inbs) (fun _ => rfl)).squeeze S2x512 squeezes_S1x2x512_S2x512)
              (.remote (Dev.tc n : Thread nD τ) (((rgM : Memref sig (Dev.tc n : Thread nD τ).2.kind .vmem S4x2x512 .f32).slice (Rect.unit (s := S4x2x512) offd S1x2x512.size inbd) (fun _ => rfl)).squeeze S2x512 squeezes_S1x2x512_S2x512) sS hsc)
              sem hsrc hdst hsem) kt) Q) := by
  subst hn hs hr
  unfold ow tk cr
  iintro ⟨#Hb, Hs, ⟨%fd, Hd⟩, ⟨%W, HO⟩, Ht1, Ht2⟩ Hk
  ihave Hs := (Entails.of_eq (rgS_eq c (yc c) hos inbs (lend k') (rgF m c))) $$ Hs
  ihave Hd := (Entails.of_eq (rgS_eq (nb c k) (yc c) hod inbd fullShare fd)) $$ Hd
  iapply (Rounds.wp_send_pointsTo 𝒱₀ ER (Rd m) (c : Thread nD τ) none (κ₁ := K (c, .ss 1 k')) (κ₂ := K (nb c k, .rs 1 (yc c)))
    (src := ((rgM.slice (Rect.unit (s := S4x2x512) offs S1x2x512.size inbs) (fun _ => rfl)).squeeze S2x512 squeezes_S1x2x512_S2x512))
    (dst := (((rgM : Memref sig (Dev.tc (nb c k) : Thread nD τ).2.kind .vmem S4x2x512 .f32).slice (Rect.unit (s := S4x2x512) offd S1x2x512.size inbd) (fun _ => rfl)).squeeze S2x512 squeezes_S1x2x512_S2x512))
    (r₁ := 0) (r₂ := 0) (d₁ := 0) (d₂ := 0) (c' := (nb c k : Thread nD τ)) (fd := fd) (W := W)
    (by rw [duties_cell]; exact Finset.mem_singleton_self _)
    (by rw [duties_cell]; show 0 ∈ (if yc c = yc (nb c k) then ∅ else {0}); rw [if_neg (by rw [yc_nb]; exact (sl_ne c k).symm)]; exact Finset.mem_singleton_self _)
    () () (amt (.ss 1 k')) (credit_rg c offd inbd k') (amount_cell m c (.ss 1 k') 0 0) (amount_cell m (nb c k) (.rs 1 (yc c)) 0 0) (O c i') hO
    (by rw [payload_cell]; exact Entails.of_eq (rgS_eq c (yc c) hos inbs (lend k') (rgF m c)).symm)
    (by
      rw [payload_cell]
      show _ ⊢ rgS (nb c k) (yc c) fullShare (rgF m (nb c k))
      rw [rgS_eq (nb c k) (yc c) hod inbd]
      refine Entails.of_eq (pointsTo_congr ?_)
      rw [set_slotM (a := 2) (b := 512) (off := offd) (inb := inbd) rgM squeezes_S1x2x512_S2x512 hod]
      exact rg_congr (yc c) _ _ fun x hx => copy_slot (a := 2) (b := 512) rgM rgM squeezes_S1x2x512_S2x512 squeezes_S1x2x512_S2x512 hos hod (rgF m c) fd (rG m c) (rG m (nb c k)) rfl (by rw [rG_nb]) hx)) $$ [Hs Hd HO Ht1 Ht2]
  · isplitr; · iapply (inv_at m K (c, .ss 1 k')); iexact Hb
    isplitr; · iapply (inv_at m K (nb c k, .rs 1 (yc c))); iexact Hb
    isplitl [Hs]; · iexact Hs
    isplitl [Hd]; · iexact Hd
    isplitl [HO]; · iexact HO
    isplitl [Ht1]; · iexact Ht1
    isplitr; · iapply (reached_at m K (c, .ss 1 k')); iexact Hb
    isplitl [Ht2]; · iexact Ht2
    iapply (reached_at m K (nb c k, .rs 1 (yc c))); iexact Hb
  iintro ⟨Hc, HO⟩
  iapply Hk
  isplitl [Hc]; · iexact Hc
  iexists _; iexact HO

theorem credit_py (c : Dev nD) (offd : Fin 3 → ℕ) (inbd : ∀ x, offd x + S1x128x8.size x ≤ S4x128x8.size x) (k : Fin 3) :
    ((pyM.slice (Rect.unit (s := S4x128x8) offd S1x128x8.size inbd) (fun _ => rfl)).squeeze S128x8 squeezes_S1x128x8_S128x8).view.amount (semOf (.rs 2 (yc c))) = amt (.ss 2 k) := rfl

/-- A transfer of exchange 2 to member `k` after this one. -/
theorem send_py (c : Dev nD) (k : Fin 3) (k' : Fin 3) (n : Dev nD) (hn : n = nb c k)
    {offs offd : Fin 3 → ℕ} {inbs : ∀ x, offs x + S1x128x8.size x ≤ S4x128x8.size x} {inbd : ∀ x, offd x + S1x128x8.size x ≤ S4x128x8.size x}
    (hos : offs = ![(yc c).val, 0, 0]) (hod : offd = ![(yc c).val, 0, 0])
    {sS sem : SemLoc sig} (hs : sS = semOf (.ss 2 k')) (hr : sem = semOf (.rs 2 (yc c)))
    (i i' : ℕ) (hO : O c i = O c i' + tallyAt (cell (nb c k) (.rs 2 (yc c))) () (amt (.rs 2 (yc c))))
    {hsc : (((pyM : Memref sig (Dev.tc n : Thread nD τ).2.kind .vmem S4x128x8 .f32).slice (Rect.unit (s := S4x128x8) offd S1x128x8.size inbd) (fun _ => rfl)).squeeze S128x8 squeezes_S1x128x8_S128x8).view.ref.isScScratch = false}
    {hsrc : ((pyM.slice (Rect.unit (s := S4x128x8) offs S1x128x8.size inbs) (fun _ => rfl)).squeeze S128x8 squeezes_S1x128x8_S128x8).view.WordExact}
    {hdst : ((pyM.slice (Rect.unit (s := S4x128x8) offd S1x128x8.size inbd) (fun _ => rfl)).squeeze S128x8 squeezes_S1x128x8_S128x8).view.WordExact}
    {hsem : DmaTarget.Typed .vmem sem (.remote (Dev.tc n : Thread nD τ) (((pyM : Memref sig (Dev.tc n : Thread nD τ).2.kind .vmem S4x128x8 .f32).slice (Rect.unit (s := S4x128x8) offd S1x128x8.size inbd) (fun _ => rfl)).squeeze S128x8 squeezes_S1x128x8_S128x8) sS hsc)}
    {α : Type} {Q : α → sProp 𝕄} {kt : PUnit → Prog (TpuEff nD τ sig (Elt F) Λ₀ .tc) α} :
    iprop(base m K ∗ pyS c (yc c) (lend k') (pyF m c) ∗ (∃ f, pyS (nb c k) (yc c) fullShare f) ∗ ow c i ∗ tk c (.ss 2 k') 0 ∗ tk (nb c k) (.rs 2 (yc c)) 0)
      ⊢ iprop(((cr c (.ss 2 k') ∗ ow c i') -∗ wpc c (kt ⟨⟩) Q)
          -∗ wpc c (.op (.enqueueDma ((pyM.slice (Rect.unit (s := S4x128x8) offs S1x128x8.size inbs) (fun _ => rfl)).squeeze S128x8 squeezes_S1x128x8_S128x8)
              (.remote (Dev.tc n : Thread nD τ) (((pyM : Memref sig (Dev.tc n : Thread nD τ).2.kind .vmem S4x128x8 .f32).slice (Rect.unit (s := S4x128x8) offd S1x128x8.size inbd) (fun _ => rfl)).squeeze S128x8 squeezes_S1x128x8_S128x8) sS hsc)
              sem hsrc hdst hsem) kt) Q) := by
  subst hn hs hr
  unfold ow tk cr
  iintro ⟨#Hb, Hs, ⟨%fd, Hd⟩, ⟨%W, HO⟩, Ht1, Ht2⟩ Hk
  ihave Hs := (Entails.of_eq (pyS_eq c (yc c) hos inbs (lend k') (pyF m c))) $$ Hs
  ihave Hd := (Entails.of_eq (pyS_eq (nb c k) (yc c) hod inbd fullShare fd)) $$ Hd
  iapply (Rounds.wp_send_pointsTo 𝒱₀ ER (Rd m) (c : Thread nD τ) none (κ₁ := K (c, .ss 2 k')) (κ₂ := K (nb c k, .rs 2 (yc c)))
    (src := ((pyM.slice (Rect.unit (s := S4x128x8) offs S1x128x8.size inbs) (fun _ => rfl)).squeeze S128x8 squeezes_S1x128x8_S128x8))
    (dst := (((pyM : Memref sig (Dev.tc (nb c k) : Thread nD τ).2.kind .vmem S4x128x8 .f32).slice (Rect.unit (s := S4x128x8) offd S1x128x8.size inbd) (fun _ => rfl)).squeeze S128x8 squeezes_S1x128x8_S128x8))
    (r₁ := 0) (r₂ := 0) (d₁ := 0) (d₂ := 0) (c' := (nb c k : Thread nD τ)) (fd := fd) (W := W)
    (by rw [duties_cell]; exact Finset.mem_singleton_self _)
    (by rw [duties_cell]; show 0 ∈ (if yc c = yc (nb c k) then ∅ else {0}); rw [if_neg (by rw [yc_nb]; exact (sl_ne c k).symm)]; exact Finset.mem_singleton_self _)
    () () (amt (.ss 2 k')) (credit_py c offd inbd k') (amount_cell m c (.ss 2 k') 0 0) (amount_cell m (nb c k) (.rs 2 (yc c)) 0 0) (O c i') hO
    (by rw [payload_cell]; exact Entails.of_eq (pyS_eq c (yc c) hos inbs (lend k') (pyF m c)).symm)
    (by
      rw [payload_cell]
      show _ ⊢ pyS (nb c k) (yc c) fullShare (pyF m (nb c k))
      rw [pyS_eq (nb c k) (yc c) hod inbd]
      refine Entails.of_eq (pointsTo_congr ?_)
      rw [set_slotM (a := 128) (b := 8) (off := offd) (inb := inbd) pyM squeezes_S1x128x8_S128x8 hod]
      exact py_congr (yc c) _ _ fun x hx => copy_slot (a := 128) (b := 8) pyM pyM squeezes_S1x128x8_S128x8 squeezes_S1x128x8_S128x8 hos hod (pyF m c) fd (pG m c) (pG m (nb c k)) rfl (by rw [pG_nb]) hx)) $$ [Hs Hd HO Ht1 Ht2]
  · isplitr; · iapply (inv_at m K (c, .ss 2 k')); iexact Hb
    isplitr; · iapply (inv_at m K (nb c k, .rs 2 (yc c))); iexact Hb
    isplitl [Hs]; · iexact Hs
    isplitl [Hd]; · iexact Hd
    isplitl [HO]; · iexact HO
    isplitl [Ht1]; · iexact Ht1
    isplitr; · iapply (reached_at m K (c, .ss 2 k')); iexact Hb
    isplitl [Ht2]; · iexact Ht2
    iapply (reached_at m K (nb c k, .rs 2 (yc c))); iexact Hb
  iintro ⟨Hc, HO⟩
  iapply Hk
  isplitl [Hc]; · iexact Hc
  iexists _; iexact HO

theorem credit_rb (c : Dev nD) (offd : Fin 3 → ℕ) (inbd : ∀ x, offd x + S1x128x512.size x ≤ S4x128x512.size x) (k : Fin 3) :
    ((rbM.slice (Rect.unit (s := S4x128x512) offd S1x128x512.size inbd) (fun _ => rfl)).squeeze S128x512 squeezes_S1x128x512_S128x512).view.amount (semOf (.rs 3 (yc c))) = amt (.ss 3 k) := rfl

/-- A transfer of exchange 3 to member `k` after this one. -/
theorem send_cb (c : Dev nD) (k : Fin 3) (n : Dev nD) (hn : n = nb c k)
    {offs offd : Fin 3 → ℕ} {inbs : ∀ x, offs x + S1x128x512.size x ≤ S4x128x512.size x} {inbd : ∀ x, offd x + S1x128x512.size x ≤ S4x128x512.size x}
    (hos : offs = ![(sl c k).val, 0, 0]) (hod : offd = ![(yc c).val, 0, 0])
    {sS sem : SemLoc sig} (hs : sS = semOf (.ss 3 k)) (hr : sem = semOf (.rs 3 (yc c)))
    (i i' : ℕ) (hO : O c i = O c i' + tallyAt (cell (nb c k) (.rs 3 (yc c))) () (amt (.rs 3 (yc c))))
    {hsc : (((rbM : Memref sig (Dev.tc n : Thread nD τ).2.kind .vmem S4x128x512 .bf16).slice (Rect.unit (s := S4x128x512) offd S1x128x512.size inbd) (fun _ => rfl)).squeeze S128x512 squeezes_S1x128x512_S128x512).view.ref.isScScratch = false}
    {hsrc : ((cbM.slice (Rect.unit (s := S4x128x512) offs S1x128x512.size inbs) (fun _ => rfl)).squeeze S128x512 squeezes_S1x128x512_S128x512).view.WordExact}
    {hdst : ((rbM.slice (Rect.unit (s := S4x128x512) offd S1x128x512.size inbd) (fun _ => rfl)).squeeze S128x512 squeezes_S1x128x512_S128x512).view.WordExact}
    {hsem : DmaTarget.Typed .vmem sem (.remote (Dev.tc n : Thread nD τ) (((rbM : Memref sig (Dev.tc n : Thread nD τ).2.kind .vmem S4x128x512 .bf16).slice (Rect.unit (s := S4x128x512) offd S1x128x512.size inbd) (fun _ => rfl)).squeeze S128x512 squeezes_S1x128x512_S128x512) sS hsc)}
    {α : Type} {Q : α → sProp 𝕄} {kt : PUnit → Prog (TpuEff nD τ sig (Elt F) Λ₀ .tc) α} :
    iprop(base m K ∗ cbS c (sl c k) fullShare (cbF m c) ∗ (∃ f, rbS (nb c k) (yc c) fullShare f) ∗ ow c i ∗ tk c (.ss 3 k) 0 ∗ tk (nb c k) (.rs 3 (yc c)) 0)
      ⊢ iprop(((cr c (.ss 3 k) ∗ ow c i') -∗ wpc c (kt ⟨⟩) Q)
          -∗ wpc c (.op (.enqueueDma ((cbM.slice (Rect.unit (s := S4x128x512) offs S1x128x512.size inbs) (fun _ => rfl)).squeeze S128x512 squeezes_S1x128x512_S128x512)
              (.remote (Dev.tc n : Thread nD τ) (((rbM : Memref sig (Dev.tc n : Thread nD τ).2.kind .vmem S4x128x512 .bf16).slice (Rect.unit (s := S4x128x512) offd S1x128x512.size inbd) (fun _ => rfl)).squeeze S128x512 squeezes_S1x128x512_S128x512) sS hsc)
              sem hsrc hdst hsem) kt) Q) := by
  subst hn hs hr
  unfold ow tk cr
  iintro ⟨#Hb, Hs, ⟨%fd, Hd⟩, ⟨%W, HO⟩, Ht1, Ht2⟩ Hk
  ihave Hs := (Entails.of_eq (cbS_eq c (sl c k) hos inbs fullShare (cbF m c))) $$ Hs
  ihave Hd := (Entails.of_eq (rbS_eq (nb c k) (yc c) hod inbd fullShare fd)) $$ Hd
  iapply (Rounds.wp_send_pointsTo 𝒱₀ ER (Rd m) (c : Thread nD τ) none (κ₁ := K (c, .ss 3 k)) (κ₂ := K (nb c k, .rs 3 (yc c)))
    (src := ((cbM.slice (Rect.unit (s := S4x128x512) offs S1x128x512.size inbs) (fun _ => rfl)).squeeze S128x512 squeezes_S1x128x512_S128x512))
    (dst := (((rbM : Memref sig (Dev.tc (nb c k) : Thread nD τ).2.kind .vmem S4x128x512 .bf16).slice (Rect.unit (s := S4x128x512) offd S1x128x512.size inbd) (fun _ => rfl)).squeeze S128x512 squeezes_S1x128x512_S128x512))
    (r₁ := 0) (r₂ := 0) (d₁ := 0) (d₂ := 0) (c' := (nb c k : Thread nD τ)) (fd := fd) (W := W)
    (by rw [duties_cell]; exact Finset.mem_singleton_self _)
    (by rw [duties_cell]; show 0 ∈ (if yc c = yc (nb c k) then ∅ else {0}); rw [if_neg (by rw [yc_nb]; exact (sl_ne c k).symm)]; exact Finset.mem_singleton_self _)
    () () (amt (.ss 3 k)) (credit_rb c offd inbd k) (amount_cell m c (.ss 3 k) 0 0) (amount_cell m (nb c k) (.rs 3 (yc c)) 0 0) (O c i') hO
    (by rw [payload_cell]; exact Entails.of_eq (cbS_eq c (sl c k) hos inbs fullShare (cbF m c)).symm)
    (by
      rw [payload_cell]
      show _ ⊢ rbS (nb c k) (yc c) fullShare (rbF m (nb c k))
      rw [rbS_eq (nb c k) (yc c) hod inbd]
      refine Entails.of_eq (pointsTo_congr ?_)
      rw [set_slotM (a := 128) (b := 512) (off := offd) (inb := inbd) rbM squeezes_S1x128x512_S128x512 hod]
      exact rb_congr (yc c) _ _ fun x hx => copy_slot (a := 128) (b := 512) cbM rbM squeezes_S1x128x512_S128x512 squeezes_S1x128x512_S128x512 hos hod (cbF m c) fd (cG m c) (bG m (nb c k)) rfl ((bG_nb m c k).symm) hx)) $$ [Hs Hd HO Ht1 Ht2]
  · isplitr; · iapply (inv_at m K (c, .ss 3 k)); iexact Hb
    isplitr; · iapply (inv_at m K (nb c k, .rs 3 (yc c))); iexact Hb
    isplitl [Hs]; · iexact Hs
    isplitl [Hd]; · iexact Hd
    isplitl [HO]; · iexact HO
    isplitl [Ht1]; · iexact Ht1
    isplitr; · iapply (reached_at m K (c, .ss 3 k)); iexact Hb
    isplitl [Ht2]; · iexact Ht2
    iapply (reached_at m K (nb c k, .rs 3 (yc c))); iexact Hb
  iintro ⟨Hc, HO⟩
  iapply Hk
  isplitl [Hc]; · iexact Hc
  iexists _; iexact HO

end

end Cert.KP
-- ==== Proof.Bits.lean ====
/-
# `Bits`: the small steps the parts of the body share
-/
module

public import proofs.«01_k».proof.Proof.Steps

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem rs_sem0 (k : Fin 4) {off : Fin 1 → ℕ} (ho : off = ![k.val]) (inb : ∀ x, off x + S1.size x ≤ S4.size x) :
    SemLoc.dma ((cc0_scratch8.slice (Rect.unit (s := S4) off S1.size inb)).squeeze S_ squeezes_S1_S_).sem = semOf (.rs 0 k) := by
  subst ho; fin_cases k <;> first | rfl | exact congrArg SemLoc.dma (Fin.ext rfl) | exact congrArg SemLoc.dma (Fin.ext (by decide +revert))

theorem rs_sem1 (k : Fin 4) {off : Fin 1 → ℕ} (ho : off = ![k.val]) (inb : ∀ x, off x + S1.size x ≤ S4.size x) :
    SemLoc.dma ((cc0_scratch10.slice (Rect.unit (s := S4) off S1.size inb)).squeeze S_ squeezes_S1_S_).sem = semOf (.rs 1 k) := by
  subst ho; fin_cases k <;> first | rfl | exact congrArg SemLoc.dma (Fin.ext rfl) | exact congrArg SemLoc.dma (Fin.ext (by decide +revert))

theorem rs_sem2 (k : Fin 4) {off : Fin 1 → ℕ} (ho : off = ![k.val]) (inb : ∀ x, off x + S1.size x ≤ S4.size x) :
    SemLoc.dma ((cc0_scratch12.slice (Rect.unit (s := S4) off S1.size inb)).squeeze S_ squeezes_S1_S_).sem = semOf (.rs 2 k) := by
  subst ho; fin_cases k <;> first | rfl | exact congrArg SemLoc.dma (Fin.ext rfl) | exact congrArg SemLoc.dma (Fin.ext (by decide +revert))

theorem rs_sem3 (k : Fin 4) {off : Fin 1 → ℕ} (ho : off = ![k.val]) (inb : ∀ x, off x + S1.size x ≤ S4.size x) :
    SemLoc.dma ((cc0_scratch14.slice (Rect.unit (s := S4) off S1.size inb)).squeeze S_ squeezes_S1_S_).sem = semOf (.rs 3 k) := by
  subst ho; fin_cases k <;> first | rfl | exact congrArg SemLoc.dma (Fin.ext rfl) | exact congrArg SemLoc.dma (Fin.ext (by decide +revert))

theorem wait_xg (c : Dev nD) (k : CK) {sp' : Space} {s' : Shape} {e' : EltTy} {sem : DmaSem sig}
    {src : Memref sig .tc sp' s' e'} {off : Fin 3 → ℕ} {inb : ∀ x, off x + S1x128x512.size x ≤ S4x128x512.size x} {hsrc : src.view.WordExact}
    {hdst : ((xgM.slice (Rect.unit (s := S4x128x512) off S1x128x512.size inb) (fun _ => rfl)).squeeze S128x512 squeezes_S1x128x512_S128x512).view.WordExact}
    (hs : SemLoc.dma sem = semOf k) (ha : slotN 0 = amt k) (Kt : PUnit → sProp 𝕄) :
    wpE (defs₀ (F := F)) 𝒱₀ (c : Thread nD τ) none Set.univ (.waitDma2 sem src ((xgM.slice (Rect.unit (s := S4x128x512) off S1x128x512.size inb) (fun _ => rfl)).squeeze S128x512 squeezes_S1x128x512_S128x512) hsrc hdst) Kt
      = waitSpec (c : Thread nD τ) Set.univ (semOf k) (amt k) Kt := by
  refine wait_dma c k hs ?_ Kt
  exact Eq.trans rfl ha

theorem wait_rg (c : Dev nD) (k : CK) {sp' : Space} {s' : Shape} {e' : EltTy} {sem : DmaSem sig}
    {src : Memref sig .tc sp' s' e'} {off : Fin 3 → ℕ} {inb : ∀ x, off x + S1x2x512.size x ≤ S4x2x512.size x} {hsrc : src.view.WordExact}
    {hdst : ((rgM.slice (Rect.unit (s := S4x2x512) off S1x2x512.size inb) (fun _ => rfl)).squeeze S2x512 squeezes_S1x2x512_S2x512).view.WordExact}
    (hs : SemLoc.dma sem = semOf k) (ha : slotN 1 = amt k) (Kt : PUnit → sProp 𝕄) :
    wpE (defs₀ (F := F)) 𝒱₀ (c : Thread nD τ) none Set.univ (.waitDma2 sem src ((rgM.slice (Rect.unit (s := S4x2x512) off S1x2x512.size inb) (fun _ => rfl)).squeeze S2x512 squeezes_S1x2x512_S2x512) hsrc hdst) Kt
      = waitSpec (c : Thread nD τ) Set.univ (semOf k) (amt k) Kt := by
  refine wait_dma c k hs ?_ Kt
  exact Eq.trans rfl ha

theorem wait_py (c : Dev nD) (k : CK) {sp' : Space} {s' : Shape} {e' : EltTy} {sem : DmaSem sig}
    {src : Memref sig .tc sp' s' e'} {off : Fin 3 → ℕ} {inb : ∀ x, off x + S1x128x8.size x ≤ S4x128x8.size x} {hsrc : src.view.WordExact}
    {hdst : ((pyM.slice (Rect.unit (s := S4x128x8) off S1x128x8.size inb) (fun _ => rfl)).squeeze S128x8 squeezes_S1x128x8_S128x8).view.WordExact}
    (hs : SemLoc.dma sem = semOf k) (ha : slotN 2 = amt k) (Kt : PUnit → sProp 𝕄) :
    wpE (defs₀ (F := F)) 𝒱₀ (c : Thread nD τ) none Set.univ (.waitDma2 sem src ((pyM.slice (Rect.unit (s := S4x128x8) off S1x128x8.size inb) (fun _ => rfl)).squeeze S128x8 squeezes_S1x128x8_S128x8) hsrc hdst) Kt
      = waitSpec (c : Thread nD τ) Set.univ (semOf k) (amt k) Kt := by
  refine wait_dma c k hs ?_ Kt
  exact Eq.trans rfl ha

theorem wait_cb (c : Dev nD) (k : CK) {sp' : Space} {s' : Shape} {e' : EltTy} {sem : DmaSem sig}
    {src : Memref sig .tc sp' s' e'} {off : Fin 3 → ℕ} {inb : ∀ x, off x + S1x128x512.size x ≤ S4x128x512.size x} {hsrc : src.view.WordExact}
    {hdst : ((cbM.slice (Rect.unit (s := S4x128x512) off S1x128x512.size inb) (fun _ => rfl)).squeeze S128x512 squeezes_S1x128x512_S128x512).view.WordExact}
    (hs : SemLoc.dma sem = semOf k) (ha : slotN 3 = amt k) (Kt : PUnit → sProp 𝕄) :
    wpE (defs₀ (F := F)) 𝒱₀ (c : Thread nD τ) none Set.univ (.waitDma2 sem src ((cbM.slice (Rect.unit (s := S4x128x512) off S1x128x512.size inb) (fun _ => rfl)).squeeze S128x512 squeezes_S1x128x512_S128x512) hsrc hdst) Kt
      = waitSpec (c : Thread nD τ) Set.univ (semOf k) (amt k) Kt := by
  refine wait_dma c k hs ?_ Kt
  exact Eq.trans rfl ha

theorem wait_rb (c : Dev nD) (k : CK) {sp' : Space} {s' : Shape} {e' : EltTy} {sem : DmaSem sig}
    {src : Memref sig .tc sp' s' e'} {off : Fin 3 → ℕ} {inb : ∀ x, off x + S1x128x512.size x ≤ S4x128x512.size x} {hsrc : src.view.WordExact}
    {hdst : ((rbM.slice (Rect.unit (s := S4x128x512) off S1x128x512.size inb) (fun _ => rfl)).squeeze S128x512 squeezes_S1x128x512_S128x512).view.WordExact}
    (hs : SemLoc.dma sem = semOf k) (ha : slotN 3 = amt k) (Kt : PUnit → sProp 𝕄) :
    wpE (defs₀ (F := F)) 𝒱₀ (c : Thread nD τ) none Set.univ (.waitDma2 sem src ((rbM.slice (Rect.unit (s := S4x128x512) off S1x128x512.size inb) (fun _ => rfl)).squeeze S128x512 squeezes_S1x128x512_S128x512) hsrc hdst) Kt
      = waitSpec (c : Thread nD τ) Set.univ (semOf k) (amt k) Kt := by
  refine wait_dma c k hs ?_ Kt
  exact Eq.trans rfl ha

section
variable (m : (ℓ : Loc nD τ sig) → Buf (Elt F) ℓ)

/-- The token block in its buffer. -/
def xP (c : Dev nD) : sProp 𝕄 := (xM.view.loc (c : Thread nD τ) ↦[Finset.univ]{fullShare} X m c)

/-- The router columns in their buffer. -/
def rtP (c : Dev nD) : sProp 𝕄 := (rtM.view.loc (c : Thread nD τ) ↦[Finset.univ]{fullShare} R m c)

/-- The output block's buffer. -/
def oP (c : Dev nD) (f : Buf (Elt F) (oM.view.loc (c : Thread nD τ))) : sProp 𝕄 := (oM.view.loc (c : Thread nD τ) ↦[Finset.univ]{fullShare} f)

theorem zero2 : (![0, 0] : Fin 2 → Nat) = fun _ => 0 := by funext i; fin_cases i <;> rfl

theorem load_x (c : Dev nD) {inb : ∀ x, (![0, 0] : Fin 2 → ℕ) x + S128x512.size x ≤ S128x512.size x}
    {hl : xM.view.LoadsAt (Rect.unit (s := S128x512) ![0, 0] S128x512.size inb).toLoadRect}
    {α : Type} {Q : α → sProp 𝕄} {kt : Vec F S128x512 .f32 → Prog (TpuEff nD τ sig (Elt F) Λ₀ .tc) α} :
    (xP m c : sProp 𝕄) ⊢ iprop((xP m c -∗ wpc c (kt (X m c)) Q)
          -∗ wpc c (.op (.load xM (Rect.unit (s := S128x512) ![0, 0] S128x512.size inb).toLoadRect hl) kt) Q : sProp 𝕄) := by
  have hr : xM.view.readAt (Elt F) (Rect.unit (s := S128x512) ![0, 0] S128x512.size inb).toLoadRect (X m c) = X m c := Memref.readAt_unit_zero (Elt F) cc0_stg0_0 zero2 _ (X m c)
  unfold xP
  iintro H Hk
  iapply (wp_load (Q := Q) (hl := hl) (k := kt) (q := fullShare) (f := X m c) (defs := defs₀ (F := F)) (U := UU) (Ix := Unit) (Name := ℕ) (Lvl := ℕ) (Γ := []) 𝒱₀ (c : Thread nD τ) none Set.univ (m := xM) (Finset.subset_univ _)) $$ H
  rw [hr]
  iexact Hk

theorem load_rt (c : Dev nD) {inb : ∀ x, (![0, 0] : Fin 2 → ℕ) x + S512x2.size x ≤ S512x2.size x}
    {hl : rtM.view.LoadsAt (Rect.unit (s := S512x2) ![0, 0] S512x2.size inb).toLoadRect}
    {α : Type} {Q : α → sProp 𝕄} {kt : Vec F S512x2 .f32 → Prog (TpuEff nD τ sig (Elt F) Λ₀ .tc) α} :
    (rtP m c : sProp 𝕄) ⊢ iprop((rtP m c -∗ wpc c (kt (R m c)) Q)
          -∗ wpc c (.op (.load rtM (Rect.unit (s := S512x2) ![0, 0] S512x2.size inb).toLoadRect hl) kt) Q : sProp 𝕄) := by
  have hr : rtM.view.readAt (Elt F) (Rect.unit (s := S512x2) ![0, 0] S512x2.size inb).toLoadRect (R m c) = R m c := Memref.readAt_unit_zero (Elt F) cc0_stg1_0 zero2 _ (R m c)
  unfold rtP
  iintro H Hk
  iapply (wp_load (Q := Q) (hl := hl) (k := kt) (q := fullShare) (f := R m c) (defs := defs₀ (F := F)) (U := UU) (Ix := Unit) (Name := ℕ) (Lvl := ℕ) (Γ := []) 𝒱₀ (c : Thread nD τ) none Set.univ (m := rtM) (Finset.subset_univ _)) $$ H
  rw [hr]
  iexact Hk

theorem dead_out (c : Dev nD) {inb : ∀ x, (![0, 0] : Fin 2 → ℕ) x + S128x512.size x ≤ S128x512.size x}
    {hl : oM.view.LoadsAt (Rect.unit (s := S128x512) ![0, 0] S128x512.size inb).toLoadRect}
    {α : Type} {Q : α → sProp 𝕄} {kt : Vec F S128x512 .f32 → Prog (TpuEff nD τ sig (Elt F) Λ₀ .tc) α} :
    (iprop(∃ f, oP c f) : sProp 𝕄) ⊢ iprop((∀ v, (∃ f, oP c f) -∗ wpc c (kt v) Q)
          -∗ wpc c (.op (.load oM (Rect.unit (s := S128x512) ![0, 0] S128x512.size inb).toLoadRect hl) kt) Q : sProp 𝕄) := by
  unfold oP
  iintro ⟨%f, H⟩ Hk
  iapply (wp_load (Q := Q) (hl := hl) (k := kt) (q := fullShare) (f := f) (defs := defs₀ (F := F)) (U := UU) (Ix := Unit) (Name := ℕ) (Lvl := ℕ) (Γ := []) 𝒱₀ (c : Thread nD τ) none Set.univ (m := oM) (Finset.subset_univ _)) $$ H
  iintro H
  iapply Hk
  iexists f; iexact H

theorem store_out (c : Dev nD) {inb : ∀ x, (![0, 0] : Fin 2 → ℕ) x + S128x512.size x ≤ S128x512.size x}
    (w : Vec F S128x512 .f32) {hx : (oM.access (Rect.unit (s := S128x512) ![0, 0] S128x512.size inb)).Stores Finset.univ}
    {hm : (Finset.univ : Finset (Rect.unit (s := S128x512) ![0, 0] S128x512.size inb).shape.Idx) = Finset.univ ∨ ∀ a, (Rect.unit (s := S128x512) ![0, 0] S128x512.size inb).stride a = 1}
    {α : Type} {Q : α → sProp 𝕄} {kt : PUnit → Prog (TpuEff nD τ sig (Elt F) Λ₀ .tc) α} :
    (iprop(∃ f, oP c f) : sProp 𝕄) ⊢ iprop((oP c w -∗ wpc c (kt ⟨⟩) Q)
          -∗ wpc c (.op (.store oM (Rect.unit (s := S128x512) ![0, 0] S128x512.size inb) w Finset.univ hx hm) kt) Q : sProp 𝕄) := by
  unfold oP
  iintro ⟨%f, H⟩ Hk
  have hw : (oM.access (Rect.unit (s := S128x512) ![0, 0] S128x512.size inb)).write (Elt F) f w Finset.univ = w := Memref.write_access_unit_zero_univ (Elt F) cc0_stg2_0 zero2 inb f w
  have h := wp_store (Q := Q) (hx := hx) (hm := hm) (k := kt) (f := f) (defs := defs₀ (F := F)) (U := UU) (Ix := Unit) (Name := ℕ) (Lvl := ℕ) (Γ := []) 𝒱₀ (c : Thread nD τ) none Set.univ (m := oM) (w := w) (S := Finset.univ) (Finset.subset_univ _)
  iapply h $$ H
  rw [hw]
  iexact Hk

theorem load_w10 (c : Dev nD) {inb : ∀ x, (![0, 0, 0] : Fin 3 → ℕ) x + S1x512x1024.size x ≤ S2x512x1024.size x}
    {hl : w1M.view.LoadsAt (Rect.unit (s := S2x512x1024) ![0, 0, 0] S1x512x1024.size inb).toLoadRect}
    {α : Type} {Q : α → sProp 𝕄} {kt : Vec F S1x512x1024 .f32 → Prog (TpuEff nD τ sig (Elt F) Λ₀ .tc) α} :
    (w1Pts c (W1 m c) : sProp 𝕄) ⊢ iprop((w1Pts c (W1 m c) -∗ wpc c (kt (w1s (W1 m c) 0)) Q)
          -∗ wpc c (.op (.load w1M (Rect.unit (s := S2x512x1024) ![0, 0, 0] S1x512x1024.size inb).toLoadRect hl) kt) Q : sProp 𝕄) := by
  have hr : w1M.view.readAt (Elt F) (Rect.unit (s := S2x512x1024) ![0, 0, 0] S1x512x1024.size inb).toLoadRect (W1 m c) = w1s (W1 m c) 0 := rfl
  unfold w1Pts
  iintro H Hk
  iapply (wp_load (Q := Q) (hl := hl) (k := kt) (q := fullShare) (f := W1 m c) (defs := defs₀ (F := F)) (U := UU) (Ix := Unit) (Name := ℕ) (Lvl := ℕ) (Γ := []) 𝒱₀ (c : Thread nD τ) none Set.univ (m := w1M) (by rw [View.set_whole]; exact Finset.subset_univ _)) $$ H
  rw [hr]
  iexact Hk

theorem load_w11 (c : Dev nD) {inb : ∀ x, (![1, 0, 0] : Fin 3 → ℕ) x + S1x512x1024.size x ≤ S2x512x1024.size x}
    {hl : w1M.view.LoadsAt (Rect.unit (s := S2x512x1024) ![1, 0, 0] S1x512x1024.size inb).toLoadRect}
    {α : Type} {Q : α → sProp 𝕄} {kt : Vec F S1x512x1024 .f32 → Prog (TpuEff nD τ sig (Elt F) Λ₀ .tc) α} :
    (w1Pts c (W1 m c) : sProp 𝕄) ⊢ iprop((w1Pts c (W1 m c) -∗ wpc c (kt (w1s (W1 m c) 1)) Q)
          -∗ wpc c (.op (.load w1M (Rect.unit (s := S2x512x1024) ![1, 0, 0] S1x512x1024.size inb).toLoadRect hl) kt) Q : sProp 𝕄) := by
  have hr : w1M.view.readAt (Elt F) (Rect.unit (s := S2x512x1024) ![1, 0, 0] S1x512x1024.size inb).toLoadRect (W1 m c) = w1s (W1 m c) 1 := rfl
  unfold w1Pts
  iintro H Hk
  iapply (wp_load (Q := Q) (hl := hl) (k := kt) (q := fullShare) (f := W1 m c) (defs := defs₀ (F := F)) (U := UU) (Ix := Unit) (Name := ℕ) (Lvl := ℕ) (Γ := []) 𝒱₀ (c : Thread nD τ) none Set.univ (m := w1M) (by rw [View.set_whole]; exact Finset.subset_univ _)) $$ H
  rw [hr]
  iexact Hk

theorem load_w20 (c : Dev nD) {inb : ∀ x, (![0, 0, 0] : Fin 3 → ℕ) x + S1x1024x512.size x ≤ S2x1024x512.size x}
    {hl : w2M.view.LoadsAt (Rect.unit (s := S2x1024x512) ![0, 0, 0] S1x1024x512.size inb).toLoadRect}
    {α : Type} {Q : α → sProp 𝕄} {kt : Vec F S1x1024x512 .f32 → Prog (TpuEff nD τ sig (Elt F) Λ₀ .tc) α} :
    (w2Pts c (W2 m c) : sProp 𝕄) ⊢ iprop((w2Pts c (W2 m c) -∗ wpc c (kt (w2s (W2 m c) 0)) Q)
          -∗ wpc c (.op (.load w2M (Rect.unit (s := S2x1024x512) ![0, 0, 0] S1x1024x512.size inb).toLoadRect hl) kt) Q : sProp 𝕄) := by
  have hr : w2M.view.readAt (Elt F) (Rect.unit (s := S2x1024x512) ![0, 0, 0] S1x1024x512.size inb).toLoadRect (W2 m c) = w2s (W2 m c) 0 := rfl
  unfold w2Pts
  iintro H Hk
  iapply (wp_load (Q := Q) (hl := hl) (k := kt) (q := fullShare) (f := W2 m c) (defs := defs₀ (F := F)) (U := UU) (Ix := Unit) (Name := ℕ) (Lvl := ℕ) (Γ := []) 𝒱₀ (c : Thread nD τ) none Set.univ (m := w2M) (by rw [View.set_whole]; exact Finset.subset_univ _)) $$ H
  rw [hr]
  iexact Hk

theorem load_w21 (c : Dev nD) {inb : ∀ x, (![1, 0, 0] : Fin 3 → ℕ) x + S1x1024x512.size x ≤ S2x1024x512.size x}
    {hl : w2M.view.LoadsAt (Rect.unit (s := S2x1024x512) ![1, 0, 0] S1x1024x512.size inb).toLoadRect}
    {α : Type} {Q : α → sProp 𝕄} {kt : Vec F S1x1024x512 .f32 → Prog (TpuEff nD τ sig (Elt F) Λ₀ .tc) α} :
    (w2Pts c (W2 m c) : sProp 𝕄) ⊢ iprop((w2Pts c (W2 m c) -∗ wpc c (kt (w2s (W2 m c) 1)) Q)
          -∗ wpc c (.op (.load w2M (Rect.unit (s := S2x1024x512) ![1, 0, 0] S1x1024x512.size inb).toLoadRect hl) kt) Q : sProp 𝕄) := by
  have hr : w2M.view.readAt (Elt F) (Rect.unit (s := S2x1024x512) ![1, 0, 0] S1x1024x512.size inb).toLoadRect (W2 m c) = w2s (W2 m c) 1 := rfl
  unfold w2Pts
  iintro H Hk
  iapply (wp_load (Q := Q) (hl := hl) (k := kt) (q := fullShare) (f := W2 m c) (defs := defs₀ (F := F)) (U := UU) (Ix := Unit) (Name := ℕ) (Lvl := ℕ) (Γ := []) 𝒱₀ (c : Thread nD τ) none Set.univ (m := w2M) (by rw [View.set_whole]; exact Finset.subset_univ _)) $$ H
  rw [hr]
  iexact Hk

theorem xg_toks (c : Dev nD) (f : Buf (Elt F) (xgM.view.loc (c : Thread nD τ))) (k : Fin 4) :
    (xgS c k fullShare f : sProp 𝕄) ⊣⊢ iprop(xgS c k keep f ∗ xgS c k (lend 0) f ∗ xgS c k (lend 1) f ∗ xgS c k (lend 2) f) := by
  have h := Transfers.pointsTo_toks (Val := Elt F) (U := UU) (Ix := Unit) (Name := ℕ) (Lvl := ℕ) (ℓ := xgM.view.loc (c : Thread nD τ)) (S := xgM.view.setOn (slotI _ _ k)) (f := f) fullShare 3
  rw [bigSep_univ_eq_bigSepL [(0 : Fin 3), 1, 2] (by decide) (by decide)] at h
  rw [bigSepL_cons_cons, bigSepL_cons_cons, bigSepL_singleton] at h
  exact h

theorem xg_split (c : Dev nD) : (xgS c (yc c) fullShare (xgF m c) : sProp 𝕄) ⊢
    iprop(xgS c (yc c) keep (xgF m c) ∗ xgS c (yc c) (lend 0) (xgF m c) ∗ xgS c (yc c) (lend 1) (xgF m c) ∗ xgS c (yc c) (lend 2) (xgF m c)) :=
  (xg_toks c (xgF m c) (yc c)).1

theorem rg_toks (c : Dev nD) (f : Buf (Elt F) (rgM.view.loc (c : Thread nD τ))) (k : Fin 4) :
    (rgS c k fullShare f : sProp 𝕄) ⊣⊢ iprop(rgS c k keep f ∗ rgS c k (lend 0) f ∗ rgS c k (lend 1) f ∗ rgS c k (lend 2) f) := by
  have h := Transfers.pointsTo_toks (Val := Elt F) (U := UU) (Ix := Unit) (Name := ℕ) (Lvl := ℕ) (ℓ := rgM.view.loc (c : Thread nD τ)) (S := rgM.view.setOn (slotI _ _ k)) (f := f) fullShare 3
  rw [bigSep_univ_eq_bigSepL [(0 : Fin 3), 1, 2] (by decide) (by decide)] at h
  rw [bigSepL_cons_cons, bigSepL_cons_cons, bigSepL_singleton] at h
  exact h

theorem rg_split (c : Dev nD) : (rgS c (yc c) fullShare (rgF m c) : sProp 𝕄) ⊢
    iprop(rgS c (yc c) keep (rgF m c) ∗ rgS c (yc c) (lend 0) (rgF m c) ∗ rgS c (yc c) (lend 1) (rgF m c) ∗ rgS c (yc c) (lend 2) (rgF m c)) :=
  (rg_toks c (rgF m c) (yc c)).1

theorem py_toks (c : Dev nD) (f : Buf (Elt F) (pyM.view.loc (c : Thread nD τ))) (k : Fin 4) :
    (pyS c k fullShare f : sProp 𝕄) ⊣⊢ iprop(pyS c k keep f ∗ pyS c k (lend 0) f ∗ pyS c k (lend 1) f ∗ pyS c k (lend 2) f) := by
  have h := Transfers.pointsTo_toks (Val := Elt F) (U := UU) (Ix := Unit) (Name := ℕ) (Lvl := ℕ) (ℓ := pyM.view.loc (c : Thread nD τ)) (S := pyM.view.setOn (slotI _ _ k)) (f := f) fullShare 3
  rw [bigSep_univ_eq_bigSepL [(0 : Fin 3), 1, 2] (by decide) (by decide)] at h
  rw [bigSepL_cons_cons, bigSepL_cons_cons, bigSepL_singleton] at h
  exact h

theorem py_split (c : Dev nD) : (pyS c (yc c) fullShare (pyF m c) : sProp 𝕄) ⊢
    iprop(pyS c (yc c) keep (pyF m c) ∗ pyS c (yc c) (lend 0) (pyF m c) ∗ pyS c (yc c) (lend 1) (pyF m c) ∗ pyS c (yc c) (lend 2) (pyF m c)) :=
  (py_toks c (pyF m c) (yc c)).1

/-- The share a device holds of its slot `k` of the router columns while the rest is lent. -/
def qk (c : Dev nD) (k : Fin 4) : PosShare TreeShare := if k = yc c then keep else fullShare

theorem slots_around (c : Dev nD) (P : Fin 4 → sProp 𝕄) :
    (iprop(P (yc c) ∗ P (sl c 0) ∗ P (sl c 1) ∗ P (sl c 2)) : sProp 𝕄) = bigSep Finset.univ P := by
  rw [bigSep_univ_eq_bigSepL [yc c, sl c 0, sl c 1, sl c 2] (by revert c; decide +kernel) (by revert c; decide +kernel)]
  simp only [bigSepL_cons_cons, bigSepL_singleton]
  rfl

theorem slots_plain (P : Fin 4 → sProp 𝕄) :
    (iprop(P 0 ∗ P 1 ∗ P 2 ∗ P 3) : sProp 𝕄) = bigSep Finset.univ P := by
  rw [bigSep_univ_eq_bigSepL [(0 : Fin 4), 1, 2, 3] (by decide) (by decide)]
  simp only [bigSepL_cons_cons, bigSepL_singleton]
  rfl

theorem rg_both (c : Dev nD) :
    (iprop(rgS c (yc c) keep (rgF m c) ∗ rgS c (sl c 0) fullShare (rgF m c) ∗ rgS c (sl c 1) fullShare (rgF m c) ∗ rgS c (sl c 2) fullShare (rgF m c)) : sProp 𝕄)
      = iprop(rgS c 0 (qk c 0) (rgF m c) ∗ rgS c 1 (qk c 1) (rgF m c) ∗ rgS c 2 (qk c 2) (rgF m c) ∗ rgS c 3 (qk c 3) (rgF m c)) := by
  have h := (slots_around c (fun k => (rgS c k (qk c k) (rgF m c) : sProp 𝕄))).trans (slots_plain _).symm
  have h0 : qk c (yc c) = keep := if_pos rfl
  have h1 (r : Fin 3) : qk c (sl c r) = fullShare := if_neg (sl_ne c r)
  rw [h0, h1, h1, h1] at h
  exact h

theorem rg_sort (c : Dev nD) :
    (iprop(rgS c (yc c) keep (rgF m c) ∗ rgS c (sl c 0) fullShare (rgF m c) ∗ rgS c (sl c 1) fullShare (rgF m c) ∗ rgS c (sl c 2) fullShare (rgF m c)) : sProp 𝕄)
      ⊢ iprop(rgS c 0 (qk c 0) (rgF m c) ∗ rgS c 1 (qk c 1) (rgF m c) ∗ rgS c 2 (qk c 2) (rgF m c) ∗ rgS c 3 (qk c 3) (rgF m c)) := Entails.of_eq (rg_both m c)

theorem rg_unsort (c : Dev nD) :
    (iprop(rgS c 0 (qk c 0) (rgF m c) ∗ rgS c 1 (qk c 1) (rgF m c) ∗ rgS c 2 (qk c 2) (rgF m c) ∗ rgS c 3 (qk c 3) (rgF m c)) : sProp 𝕄)
      ⊢ iprop(rgS c (yc c) keep (rgF m c) ∗ rgS c (sl c 0) fullShare (rgF m c) ∗ rgS c (sl c 1) fullShare (rgF m c) ∗ rgS c (sl c 2) fullShare (rgF m c)) := Entails.of_eq (rg_both m c).symm

end

end Cert.KP
-- ==== Proof.PartsA.lean ====
/-
# `PartsA`: the opening parts of the body: the weights' copies, the barrier, the gathers' sends
-/
module

public import proofs.«01_k».proof.Proof.Bits

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : (ℓ : Loc nD τ sig) → Buf (Elt F) ℓ) (K : Dev nD × CK → ℕ)

theorem part1 (c : Dev nD)
    {Q : _ → sProp 𝕄} :
    iprop(base m K ∗ W1Pts m c ∗ (∃ f, w1Pts c f) ∗ tk c (.w 0) 0 ∗ W2Pts m c ∗ (∃ f, w2Pts c f) ∗ tk c (.w 1) 0 ∗ ow c 0 ∗ at0 c (.w 0) ∗ at0 c (.w 1))
      ⊢ iprop((∀ (v2 v8 v31 v32 : BitVec 32), zero c (.w 0) ∗ w1Pts c (W1 m c) ∗ W1Pts m c ∗ ow c 0 ∗ zero c (.w 1) ∗ w2Pts c (W2 m c) ∗ W2Pts m c -∗ Q ⟨c, v2, Scalar.remsi (Scalar.divsi (Dev.word c) 4#32) 4#32, v8, SemArray.scalar (sig.barrier 0 rfl), v31, v32⟩)
          -∗ wpc c (k0_part1 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 ) Q : sProp 𝕄) := by
  rw [k0_part1_eq_skeleton]; unfold k0_part1_skel
  simp only [wpc, semSignalWord, semWaitWord, Prog.lift, Prog.bind_op, Prog.bind_ret, Prog.pure_eq_ret, wp_deviceId]
  iintro ⟨#Hb, HW0, Hw0, tkW0, HW1, Hw1, tkW1, HO, atW0, atW1⟩ Hk
  icases Hw0 with ⟨%f, Hw0⟩
  iapply (step_copy1 m K c (hs := rfl) f) $$ [HW0 Hw0 tkW0]
  · isplitr; · iexact Hb
    isplitl [HW0]; · iexact HW0
    isplitl [Hw0]; · iexact Hw0
    iexact tkW0
  iintro crW0
  icases Hw1 with ⟨%f, Hw1⟩
  iapply (step_copy2 m K c (hs := rfl) f) $$ [HW1 Hw1 tkW1]
  · isplitr; · iexact Hb
    isplitl [HW1]; · iexact HW1
    isplitl [Hw1]; · iexact Hw1
    iexact tkW1
  iintro crW1
  iapply (step_wait m K c (.w 0) rfl 0 (by decide) (wait_dma c (.w 0) rfl rfl)) $$ [crW0 HO atW0]
  · isplitr; · iexact Hb
    isplitl [crW0]; · iexact crW0
    isplitl [HO]; · iexact HO
    iexact atW0
  iintro ⟨HO, zW0, Hp⟩
  ihave Hp := (Entails.of_eq (show pay m c 0 (.w 0) = iprop(w1Pts c (W1 m c) ∗ W1Pts m c) from rfl)) $$ Hp
  icases Hp with ⟨Hw0, HW0⟩
  iapply (step_wait m K c (.w 1) rfl 0 (by decide) (wait_dma c (.w 1) rfl rfl)) $$ [crW1 HO atW1]
  · isplitr; · iexact Hb
    isplitl [crW1]; · iexact crW1
    isplitl [HO]; · iexact HO
    iexact atW1
  iintro ⟨HO, zW1, Hp⟩
  ihave Hp := (Entails.of_eq (show pay m c 0 (.w 1) = iprop(w2Pts c (W2 m c) ∗ W2Pts m c) from rfl)) $$ Hp
  icases Hp with ⟨Hw1, HW1⟩
  try simp only [wpc]
  rw [wp_ret]; imodintro
  iapply Hk
  isplitl [zW0]; · iexact zW0
  isplitl [Hw0]; · iexact Hw0
  isplitl [HW0]; · iexact HW0
  isplitl [HO]; · iexact HO
  isplitl [zW1]; · iexact zW1
  isplitl [Hw1]; · iexact Hw1
  iexact HW1

theorem part2 (c : Dev nD) (v2 : BitVec 32) (v5 : BitVec 32) (v8 : BitVec 32) (v31 : BitVec 32) (v32 : BitVec 32)
    {Q : _ → sProp 𝕄} :
    iprop(base m K ∗ ow c 0 ∗ tk (nb c 0) .bar (2 - 0) ∗ (∃ f, rgS c (sl c 0) fullShare f) ∗ (∃ f, xgS c (sl c 0) fullShare f) ∗ (∃ f, pyS c (sl c 0) fullShare f) ∗ (∃ f, rbS c (sl c 0) fullShare f) ∗ tk (nb c 1) .bar (2 - 1) ∗ (∃ f, rgS c (sl c 1) fullShare f) ∗ (∃ f, xgS c (sl c 1) fullShare f) ∗ (∃ f, pyS c (sl c 1) fullShare f) ∗ (∃ f, rbS c (sl c 1) fullShare f))
      ⊢ iprop((∀ (a b : BitVec 32), ow c 2 -∗ Q ⟨a, b⟩)
          -∗ wpc c (k0_part2 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 (SemArray.scalar (sig.barrier 0 rfl)) v31 v32) Q : sProp 𝕄) := by
  rw [k0_part2_eq_skeleton]; unfold k0_part2_skel
  simp only [wpc, semSignalWord, semWaitWord, Prog.lift, Prog.bind_op, Prog.bind_ret, Prog.pure_eq_ret, wp_deviceId]
  iintro ⟨#Hb, HO, tkB0, rgL0, xgL0, pyL0, rbL0, tkB1, rgL1, xgL1, pyL1, rbL1⟩ Hk
  iapply (step_signal m K c 0 _ (dev1_eq c) rfl rfl 0 1 rfl) $$ [HO tkB0 rgL0 xgL0 pyL0 rbL0]
  · isplitr; · iexact Hb
    isplitl [HO]; · iexact HO
    isplitl [tkB0]; · iexact tkB0
    isplitl [rgL0]; · iexact rgL0
    isplitl [xgL0]; · iexact xgL0
    isplitl [pyL0]; · iexact pyL0
    iexact rbL0
  iintro HO
  iapply (step_signal m K c 1 _ (dev2_eq c) rfl rfl 1 2 rfl) $$ [HO tkB1 rgL1 xgL1 pyL1 rbL1]
  · isplitr; · iexact Hb
    isplitl [HO]; · iexact HO
    isplitl [tkB1]; · iexact tkB1
    isplitl [rgL1]; · iexact rgL1
    isplitl [xgL1]; · iexact xgL1
    isplitl [pyL1]; · iexact pyL1
    iexact rbL1
  iintro HO
  try simp only [wpc]
  rw [wp_ret]; imodintro
  iapply Hk
  iexact HO

theorem part3 (c : Dev nD) (v2 : BitVec 32) (v5 : BitVec 32) (v8 : BitVec 32) (v65 : BitVec 32) (v66 : BitVec 32) (hr : k0_pay1 (R m c) = rG m c (yc c)) (hx : k0_pay2 (X m c) = xG m c (yc c))
    {Q : _ → sProp 𝕄} :
    iprop(base m K ∗ ow c 2 ∗ tk (nb c 2) .bar (2 - 2) ∗ (∃ f, rgS c (sl c 2) fullShare f) ∗ (∃ f, xgS c (sl c 2) fullShare f) ∗ (∃ f, pyS c (sl c 2) fullShare f) ∗ (∃ f, rbS c (sl c 2) fullShare f) ∗ cred (tallyAt (cell c .bar) () 3) ∗ at0 c .bar ∗ rtP m c ∗ (∃ f, rgS c (yc c) fullShare f) ∗ xP m c ∗ (∃ f, xgS c (yc c) fullShare f))
      ⊢ iprop((∀ (a b : BitVec 32), ow c 3 ∗ zero c .bar ∗ (∃ f, rgS (nb c 0) (yc c) fullShare f) ∗ (∃ f, xgS (nb c 0) (yc c) fullShare f) ∗ (∃ f, pyS (nb c 0) (yc c) fullShare f) ∗ (∃ f, rbS (nb c 0) (yc c) fullShare f) ∗ (∃ f, rgS (nb c 1) (yc c) fullShare f) ∗ (∃ f, xgS (nb c 1) (yc c) fullShare f) ∗ (∃ f, pyS (nb c 1) (yc c) fullShare f) ∗ (∃ f, rbS (nb c 1) (yc c) fullShare f) ∗ (∃ f, rgS (nb c 2) (yc c) fullShare f) ∗ (∃ f, xgS (nb c 2) (yc c) fullShare f) ∗ (∃ f, pyS (nb c 2) (yc c) fullShare f) ∗ (∃ f, rbS (nb c 2) (yc c) fullShare f) ∗ rtP m c ∗ xP m c ∗ rgS c (yc c) keep (rgF m c) ∗ rgS c (yc c) (lend 0) (rgF m c) ∗ rgS c (yc c) (lend 1) (rgF m c) ∗ rgS c (yc c) (lend 2) (rgF m c) ∗ xgS c (yc c) keep (xgF m c) ∗ xgS c (yc c) (lend 0) (xgF m c) ∗ xgS c (yc c) (lend 1) (xgF m c) ∗ xgS c (yc c) (lend 2) (xgF m c) -∗ Q ⟨a, b, 0#32⟩)
          -∗ wpc c (k0_part3 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 (SemArray.scalar (sig.barrier 0 rfl)) v65 v66) Q : sProp 𝕄) := by
  rw [k0_part3_eq_skeleton]; unfold k0_part3_skel
  simp only [wpc, semSignalWord, semWaitWord, Prog.lift, Prog.bind_op, Prog.bind_ret, Prog.pure_eq_ret, wp_deviceId]
  iintro ⟨#Hb, HO, tkB2, rgL2, xgL2, pyL2, rbL2, crB, atB, Hrt, rgY, Hx, xgY⟩ Hk
  iapply (step_signal m K c 2 _ (dev3_eq c) rfl rfl 2 3 rfl) $$ [HO tkB2 rgL2 xgL2 pyL2 rbL2]
  · isplitr; · iexact Hb
    isplitl [HO]; · iexact HO
    isplitl [tkB2]; · iexact tkB2
    isplitl [rgL2]; · iexact rgL2
    isplitl [xgL2]; · iexact xgL2
    isplitl [pyL2]; · iexact pyL2
    iexact rbL2
  iintro HO
  iapply (step_bar m K c rfl rfl) $$ [crB HO atB]
  · isplitr; · iexact Hb
    isplitl [crB]; · iexact crB
    isplitl [HO]; · iexact HO
    iexact atB
  unfold barPay
  iintro ⟨HO, zB, ⟨rgN0, xgN0, pyN0, rbN0⟩, ⟨rgN1, xgN1, pyN1, rbN1⟩, ⟨rgN2, xgN2, pyN2, rbN2⟩⟩
  iapply (load_rt m c) $$ Hrt; iintro Hrt
  iapply (dead_rg c (yc c) (off1_eq c)) $$ rgY; iintro %vd rgY
  iapply (store_rg m c (yc c) (off1_eq c) (hr)) $$ rgY; iintro rgY
  iapply (load_x m c) $$ Hx; iintro Hx
  iapply (dead_xg c (yc c) (off2_eq c)) $$ xgY; iintro %vd xgY
  iapply (store_xg m c (yc c) (off2_eq c) (hx)) $$ xgY; iintro xgY
  ihave Hs := (rg_split m c) $$ rgY
  icases Hs with ⟨rgK, rgT0, rgT1, rgT2⟩
  ihave Hs := (xg_split m c) $$ xgY
  icases Hs with ⟨xgK, xgT0, xgT1, xgT2⟩
  try simp only [wpc]
  rw [wp_ret]; imodintro
  iapply Hk
  isplitl [HO]; · iexact HO
  isplitl [zB]; · iexact zB
  isplitl [rgN0]; · iexact rgN0
  isplitl [xgN0]; · iexact xgN0
  isplitl [pyN0]; · iexact pyN0
  isplitl [rbN0]; · iexact rbN0
  isplitl [rgN1]; · iexact rgN1
  isplitl [xgN1]; · iexact xgN1
  isplitl [pyN1]; · iexact pyN1
  isplitl [rbN1]; · iexact rbN1
  isplitl [rgN2]; · iexact rgN2
  isplitl [xgN2]; · iexact xgN2
  isplitl [pyN2]; · iexact pyN2
  isplitl [rbN2]; · iexact rbN2
  isplitl [Hrt]; · iexact Hrt
  isplitl [Hx]; · iexact Hx
  isplitl [rgK]; · iexact rgK
  isplitl [rgT0]; · iexact rgT0
  isplitl [rgT1]; · iexact rgT1
  isplitl [rgT2]; · iexact rgT2
  isplitl [xgK]; · iexact xgK
  isplitl [xgT0]; · iexact xgT0
  isplitl [xgT1]; · iexact xgT1
  iexact xgT2

theorem part4 (c : Dev nD) (v2 : BitVec 32) (v5 : BitVec 32) (v8 : BitVec 32) (v97 : BitVec 32) (v98 : BitVec 32) (c0_i32_61 : BitVec 32)
    {Q : _ → sProp 𝕄} :
    iprop(base m K ∗ rgS c (yc c) (lend 0) (rgF m c) ∗ (∃ f, rgS (nb c 0) (yc c) fullShare f) ∗ ow c 3 ∗ tk c (.ss 1 0) 0 ∗ tk (nb c 0) (.rs 1 (yc c)) 0)
      ⊢ iprop((cr c (.ss 1 0) ∗ ow c 4 -∗ Q ⟨⟩)
          -∗ wpc c (k0_part4 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v97 v98 c0_i32_61) Q : sProp 𝕄) := by
  rw [k0_part4_eq_skeleton]; unfold k0_part4_skel
  simp only [wpc, semSignalWord, semWaitWord, Prog.lift, Prog.bind_op, Prog.bind_ret, Prog.pure_eq_ret, wp_deviceId]
  iintro ⟨#Hb, rgT0, rgN0, HO, tkS10, tkR10⟩ Hk
  iapply (send_rg m K c 0 0 _ (dev4_eq c) (off4_eq c) (off4_eq c) rfl (rs_sem1 (yc c) (off3_eq c) _) 3 4 rfl) $$ [rgT0 rgN0 HO tkS10 tkR10]
  · isplitr; · iexact Hb
    isplitl [rgT0]; · iexact rgT0
    isplitl [rgN0]; · iexact rgN0
    isplitl [HO]; · iexact HO
    isplitl [tkS10]; · iexact tkS10
    iexact tkR10
  iintro ⟨crS10, HO⟩
  try simp only [wpc]
  rw [wp_ret]; imodintro
  iapply Hk
  isplitl [crS10]; · iexact crS10
  iexact HO

theorem part5 (c : Dev nD) (v2 : BitVec 32) (v5 : BitVec 32) (v8 : BitVec 32)
    {Q : _ → sProp 𝕄} :
    iprop(base m K ∗ rgS c (yc c) (lend 1) (rgF m c) ∗ (∃ f, rgS (nb c 1) (yc c) fullShare f) ∗ ow c 4 ∗ tk c (.ss 1 1) 0 ∗ tk (nb c 1) (.rs 1 (yc c)) 0 ∗ rgS c (yc c) (lend 2) (rgF m c) ∗ (∃ f, rgS (nb c 2) (yc c) fullShare f) ∗ tk c (.ss 1 2) 0 ∗ tk (nb c 2) (.rs 1 (yc c)) 0)
      ⊢ iprop((∀ (a b : BitVec 32) (d e : BitVec 1), cr c (.ss 1 1) ∗ cr c (.ss 1 2) ∗ ow c 6 -∗ Q ⟨a, b, d, e⟩)
          -∗ wpc c (k0_part5 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8) Q : sProp 𝕄) := by
  rw [k0_part5_eq_skeleton]; unfold k0_part5_skel
  simp only [wpc, semSignalWord, semWaitWord, Prog.lift, Prog.bind_op, Prog.bind_ret, Prog.pure_eq_ret, wp_deviceId]
  iintro ⟨#Hb, rgT1, rgN1, HO, tkS11, tkR11, rgT2, rgN2, tkS12, tkR12⟩ Hk
  iapply (send_rg m K c 1 1 _ (dev5_eq c) (off4_eq c) (off4_eq c) rfl (rs_sem1 (yc c) (off3_eq c) _) 4 5 rfl) $$ [rgT1 rgN1 HO tkS11 tkR11]
  · isplitr; · iexact Hb
    isplitl [rgT1]; · iexact rgT1
    isplitl [rgN1]; · iexact rgN1
    isplitl [HO]; · iexact HO
    isplitl [tkS11]; · iexact tkS11
    iexact tkR11
  iintro ⟨crS11, HO⟩
  iapply (send_rg m K c 2 2 _ (dev6_eq c) (off4_eq c) (off4_eq c) rfl (rs_sem1 (yc c) (off3_eq c) _) 5 6 rfl) $$ [rgT2 rgN2 HO tkS12 tkR12]
  · isplitr; · iexact Hb
    isplitl [rgT2]; · iexact rgT2
    isplitl [rgN2]; · iexact rgN2
    isplitl [HO]; · iexact HO
    isplitl [tkS12]; · iexact tkS12
    iexact tkR12
  iintro ⟨crS12, HO⟩
  try simp only [wpc]
  rw [wp_ret]; imodintro
  iapply Hk
  isplitl [crS11]; · iexact crS11
  isplitl [crS12]; · iexact crS12
  iexact HO

theorem part6 (c : Dev nD) (v2 : BitVec 32) (v5 : BitVec 32) (v8 : BitVec 32) (v166 : BitVec 32) (v167 : BitVec 32) (v168 : BitVec 1) (v169 : BitVec 1)
    {Q : _ → sProp 𝕄} :
    iprop(base m K ∗ xgS c (yc c) (lend 0) (xgF m c) ∗ (∃ f, xgS (nb c 2) (yc c) fullShare f) ∗ ow c 6 ∗ tk c (.ss 0 0) 0 ∗ tk (nb c 2) (.rs 0 (yc c)) 0)
      ⊢ iprop((cr c (.ss 0 0) ∗ ow c 7 -∗ Q ⟨⟩)
          -∗ wpc c (k0_part6 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v166 v167 v168 v169) Q : sProp 𝕄) := by
  rw [k0_part6_eq_skeleton]; unfold k0_part6_skel
  simp only [wpc, semSignalWord, semWaitWord, Prog.lift, Prog.bind_op, Prog.bind_ret, Prog.pure_eq_ret, wp_deviceId]
  iintro ⟨#Hb, xgT0, xgN2, HO, tkS00, tkR02⟩ Hk
  iapply (send_xg m K c 2 0 _ (dev7_eq c) (off5_eq c) (off5_eq c) rfl (rs_sem0 (yc c) (off3_eq c) _) 6 7 rfl) $$ [xgT0 xgN2 HO tkS00 tkR02]
  · isplitr; · iexact Hb
    isplitl [xgT0]; · iexact xgT0
    isplitl [xgN2]; · iexact xgN2
    isplitl [HO]; · iexact HO
    isplitl [tkS00]; · iexact tkS00
    iexact tkR02
  iintro ⟨crS00, HO⟩
  try simp only [wpc]
  rw [wp_ret]; imodintro
  iapply Hk
  isplitl [crS00]; · iexact crS00
  iexact HO

theorem part7 (c : Dev nD) (v2 : BitVec 32) (v5 : BitVec 32) (v8 : BitVec 32)
    {Q : _ → sProp 𝕄} :
    iprop(base m K ∗ cr c (.rs 1 (sl c 0)) ∗ ow c 7 ∗ at0 c (.rs 1 (sl c 0)) ∗ cr c (.rs 1 (sl c 1)) ∗ at0 c (.rs 1 (sl c 1)))
      ⊢ iprop((∀ (a : BitVec 32) (b : BitVec 1), zero c (.rs 1 (sl c 0)) ∗ rgS c (sl c 0) fullShare (rgF m c) ∗ ow c 7 ∗ zero c (.rs 1 (sl c 1)) ∗ rgS c (sl c 1) fullShare (rgF m c) -∗ Q ⟨a, 4#32, b, 1#32⟩)
          -∗ wpc c (k0_part7 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8) Q : sProp 𝕄) := by
  rw [k0_part7_eq_skeleton]; unfold k0_part7_skel
  simp only [wpc, semSignalWord, semWaitWord, Prog.lift, Prog.bind_op, Prog.bind_ret, Prog.pure_eq_ret, wp_deviceId]
  iintro ⟨#Hb, crR10, HO, atR10, crR11, atR11⟩ Hk
  iapply (step_wait m K c (.rs 1 (sl c 0)) (dut_rs c 1 0) 7 (by show ∀ a ∈ List.drop _ _, lvK (.rs 1 0) < a; decide) (wait_rg c (.rs 1 (sl c 0)) (rs_sem1 (sl c 0) (off6_eq c 0) _) rfl)) $$ [crR10 HO atR10]
  · isplitr; · iexact Hb
    isplitl [crR10]; · iexact crR10
    isplitl [HO]; · iexact HO
    iexact atR10
  iintro ⟨HO, zR10, Hp⟩
  ihave Hp := (Entails.of_eq (show pay m c 0 (.rs 1 (sl c 0)) = iprop(rgS c (sl c 0) fullShare (rgF m c)) from rfl)) $$ Hp
  irename Hp => rgL0
  iapply (step_wait m K c (.rs 1 (sl c 1)) (dut_rs c 1 1) 7 (by show ∀ a ∈ List.drop _ _, lvK (.rs 1 0) < a; decide) (wait_rg c (.rs 1 (sl c 1)) (rs_sem1 (sl c 1) (off6_eq c 1) _) rfl)) $$ [crR11 HO atR11]
  · isplitr; · iexact Hb
    isplitl [crR11]; · iexact crR11
    isplitl [HO]; · iexact HO
    iexact atR11
  iintro ⟨HO, zR11, Hp⟩
  ihave Hp := (Entails.of_eq (show pay m c 0 (.rs 1 (sl c 1)) = iprop(rgS c (sl c 1) fullShare (rgF m c)) from rfl)) $$ Hp
  irename Hp => rgL1
  try simp only [wpc]
  rw [wp_ret]; imodintro
  iapply Hk
  isplitl [zR10]; · iexact zR10
  isplitl [rgL0]; · iexact rgL0
  isplitl [HO]; · iexact HO
  isplitl [zR11]; · iexact zR11
  iexact rgL1

end

end Cert.KP
-- ==== Proof.PartsB.lean ====
/-
# `PartsB`: the gates, and the device's own share
-/
module

public import proofs.«01_k».proof.Proof.Bits

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : (ℓ : Loc nD τ sig) → Buf (Elt F) ℓ) (K : Dev nD × CK → ℕ)

theorem part8 (c : Dev nD) (v2 : BitVec 32) (v5 : BitVec 32) (v8 : BitVec 32) (v238 : BitVec 32) (c4_i32_152 : BitVec 32) (v239 : BitVec 1) (c1_i32_154 : BitVec 32)
    {Q : _ → sProp 𝕄} :
    iprop(base m K ∗ cr c (.rs 1 (sl c 2)) ∗ ow c 7 ∗ at0 c (.rs 1 (sl c 2)) ∗ xP m c ∗ rgS c (yc c) keep (rgF m c) ∗ rgS c (sl c 0) fullShare (rgF m c) ∗ rgS c (sl c 1) fullShare (rgF m c))
      ⊢ iprop((ow c 7 ∗ zero c (.rs 1 (sl c 2)) ∗ xP m c ∗ rgS c 1 (qk c 1) (rgF m c) ∗ rgS c 2 (qk c 2) (rgF m c) ∗ rgS c 3 (qk c 3) (rgF m c) ∗ rgS c 0 (qk c 0) (rgF m c) -∗ Q ⟨k0_pay3 (X m c), k0_pay4, k0_pay6, k0_pay7 (X m c) (rG m c 0), k0_pay8 (X m c) (rG m c 0), k0_pay9 (X m c) (rG m c 0), k0_pay11 (X m c) (rG m c 0), k0_pay12 (X m c) (rG m c 0)⟩)
          -∗ wpc c (k0_part8 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v238 c4_i32_152 v239 c1_i32_154) Q : sProp 𝕄) := by
  rw [k0_part8_eq_skeleton]; unfold k0_part8_skel
  simp only [wpc, semSignalWord, semWaitWord, Prog.lift, Prog.bind_op, Prog.bind_ret, Prog.pure_eq_ret, wp_deviceId]
  iintro ⟨#Hb, crR12, HO, atR12, Hx, rgK, rgL0, rgL1⟩ Hk
  iapply (step_wait m K c (.rs 1 (sl c 2)) (dut_rs c 1 2) 7 (by show ∀ a ∈ List.drop _ _, lvK (.rs 1 0) < a; decide) (wait_rg c (.rs 1 (sl c 2)) (rs_sem1 (sl c 2) (off6_eq c 2) _) rfl)) $$ [crR12 HO atR12]
  · isplitr; · iexact Hb
    isplitl [crR12]; · iexact crR12
    isplitl [HO]; · iexact HO
    iexact atR12
  iintro ⟨HO, zR12, Hp⟩
  ihave Hp := (Entails.of_eq (show pay m c 0 (.rs 1 (sl c 2)) = iprop(rgS c (sl c 2) fullShare (rgF m c)) from rfl)) $$ Hp
  irename Hp => rgL2
  iapply (load_x m c) $$ Hx; iintro Hx
  ihave Hs := (rg_sort m c) $$ [rgK rgL0 rgL1 rgL2]
  · isplitl [rgK]; · iexact rgK
    isplitl [rgL0]; · iexact rgL0
    isplitl [rgL1]; · iexact rgL1
    iexact rgL2
  icases Hs with ⟨rgQ0, rgQ1, rgQ2, rgQ3⟩
  iapply (load_rg m c 0 (rfl)) $$ rgQ0; iintro rgQ0
  try simp only [wpc]
  rw [wp_ret]; imodintro
  iapply Hk
  isplitl [HO]; · iexact HO
  isplitl [zR12]; · iexact zR12
  isplitl [Hx]; · iexact Hx
  isplitl [rgQ1]; · iexact rgQ1
  isplitl [rgQ2]; · iexact rgQ2
  isplitl [rgQ3]; · iexact rgQ3
  iexact rgQ0

theorem part9 (c : Dev nD) (v262 : FVec F S128x512 .f32) (v263 : FVec F S128x1 .f32) (v265 : IVec S128x1 32) (v269 : FVec F S128x2 .f32) (v270 : FVec F S128x1 .f32) (v271 : IVec S128x1 1) (v274 : FVec F S128x1 .f32) (v276 : IVec S128x1 32)
    {Q : _ → sProp 𝕄} :
    iprop(base m K ∗ rgS c 1 (qk c 1) (rgF m c) ∗ rgS c 2 (qk c 2) (rgF m c))
      ⊢ iprop((rgS c 1 (qk c 1) (rgF m c) ∗ rgS c 2 (qk c 2) (rgF m c) -∗ Q ⟨k0_pay31 v262 v263 v269 v270 v271 v274 (rG m c 1), k0_pay32 v262 v263 v265 v269 v270 v271 v274 v276 (rG m c 1), k0_pay33 v262 v263 v269 v270 v271 (rG m c 1), k0_pay34 v262 v263 v265 v269 v270 v271 (rG m c 1), k0_pay35 v262 (rG m c 2), k0_pay36 v262 (rG m c 2), k0_pay37 v262 v263 v269 v270 v271 (rG m c 1) (rG m c 2)⟩)
          -∗ wpc c (k0_part9 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 v262 v263 v265 v269 v270 v271 v274 v276) Q : sProp 𝕄) := by
  rw [k0_part9_eq_skeleton]; unfold k0_part9_skel
  simp only [wpc, semSignalWord, semWaitWord, Prog.lift, Prog.bind_op, Prog.bind_ret, Prog.pure_eq_ret, wp_deviceId]
  iintro ⟨#Hb, rgQ1, rgQ2⟩ Hk
  iapply (load_rg m c 1 (rfl)) $$ rgQ1; iintro rgQ1
  iapply (load_rg m c 2 (rfl)) $$ rgQ2; iintro rgQ2
  try simp only [wpc]
  rw [wp_ret]; imodintro
  iapply Hk
  isplitl [rgQ1]; · iexact rgQ1
  iexact rgQ2

theorem part10 (c : Dev nD) (v262 : FVec F S128x512 .f32) (v310 : FVec F S128x1 .f32) (v313 : IVec S128x1 32) (v314 : FVec F S128x1 .f32) (v316 : IVec S128x1 32) (v319 : FVec F S128x2 .f32) (v320 : FVec F S128x1 .f32) (v321 : IVec S128x1 1)
    {Q : _ → sProp 𝕄} :
    iprop(base m K ∗ rgS c 3 (qk c 3) (rgF m c) ∗ rgS c 0 (qk c 0) (rgF m c) ∗ rgS c 1 (qk c 1) (rgF m c) ∗ rgS c 2 (qk c 2) (rgF m c))
      ⊢ iprop((rgS c (yc c) keep (rgF m c) ∗ rgS c (sl c 0) fullShare (rgF m c) ∗ rgS c (sl c 1) fullShare (rgF m c) ∗ rgS c (sl c 2) fullShare (rgF m c) -∗ Q ⟨k0_pay58 v262 v310 v313 v314 v316 v319 v320 v321 (rG m c 3), k0_pay59 v262 v314 v316 v319 v320 v321 (rG m c 3), k0_pay60 v262 v310 v314 v319 v320 v321 (rG m c 3), Scalar.ofBits .f32 0x3F800000#32⟩)
          -∗ wpc c (k0_part10 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 v262 v310 v313 v314 v316 v319 v320 v321) Q : sProp 𝕄) := by
  rw [k0_part10_eq_skeleton]; unfold k0_part10_skel
  simp only [wpc, semSignalWord, semWaitWord, Prog.lift, Prog.bind_op, Prog.bind_ret, Prog.pure_eq_ret, wp_deviceId]
  iintro ⟨#Hb, rgQ3, rgQ0, rgQ1, rgQ2⟩ Hk
  iapply (load_rg m c 3 (rfl)) $$ rgQ3; iintro rgQ3
  ihave Hs := (rg_unsort m c) $$ [rgQ0 rgQ1 rgQ2 rgQ3]
  · isplitl [rgQ0]; · iexact rgQ0
    isplitl [rgQ1]; · iexact rgQ1
    isplitl [rgQ2]; · iexact rgQ2
    iexact rgQ3
  icases Hs with ⟨rgK, rgL0, rgL1, rgL2⟩
  try simp only [wpc]
  rw [wp_ret]; imodintro
  iapply Hk
  isplitl [rgK]; · iexact rgK
  isplitl [rgL0]; · iexact rgL0
  isplitl [rgL1]; · iexact rgL1
  iexact rgL2

theorem part11 (c : Dev nD) (v5 : BitVec 32) (v363 : IVec S128x1 32) (v366 : IVec S128x1 32) (v368 : FVec F S128x1 .f32) (cst_197 : F .f32) (hv : k0_pay61 v363 v366 v368 cst_197 = pG m c (yc c))
    {Q : _ → sProp 𝕄} :
    iprop(base m K ∗ (∃ f, pyS c (yc c) fullShare f))
      ⊢ iprop((∀ (a : BitVec 32), pyS c (yc c) keep (pyF m c) ∗ pyS c (yc c) (lend 0) (pyF m c) ∗ pyS c (yc c) (lend 1) (pyF m c) ∗ pyS c (yc c) (lend 2) (pyF m c) -∗ Q ⟨a, 4#32, 0#32⟩)
          -∗ wpc c (k0_part11 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v5 v363 v366 v368 cst_197) Q : sProp 𝕄) := by
  rw [k0_part11_eq_skeleton]; unfold k0_part11_skel
  simp only [wpc, semSignalWord, semWaitWord, Prog.lift, Prog.bind_op, Prog.bind_ret, Prog.pure_eq_ret, wp_deviceId]
  iintro ⟨#Hb, pyY⟩ Hk
  iapply (dead_py c (yc c) (off8_eq c)) $$ pyY; iintro %vd pyY
  iapply (store_py m c (yc c) (off8_eq c) (hv)) $$ pyY; iintro pyY
  ihave Hs := (py_split m c) $$ pyY
  icases Hs with ⟨pyK, pyT0, pyT1, pyT2⟩
  try simp only [wpc]
  rw [wp_ret]; imodintro
  iapply Hk
  isplitl [pyK]; · iexact pyK
  isplitl [pyT0]; · iexact pyT0
  isplitl [pyT1]; · iexact pyT1
  iexact pyT2

theorem part12 (c : Dev nD) (v2 : BitVec 32) (v5 : BitVec 32) (v8 : BitVec 32) (v411 : BitVec 32) (c4_i32_212 : BitVec 32) (c0_i32_213 : BitVec 32)
    {Q : _ → sProp 𝕄} :
    iprop(base m K ∗ pyS c (yc c) (lend 0) (pyF m c) ∗ (∃ f, pyS (nb c 2) (yc c) fullShare f) ∗ ow c 7 ∗ tk c (.ss 2 0) 0 ∗ tk (nb c 2) (.rs 2 (yc c)) 0)
      ⊢ iprop((∀ (a : BitVec 32), cr c (.ss 2 0) ∗ ow c 8 -∗ Q ⟨a, 16#32⟩)
          -∗ wpc c (k0_part12 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v411 c4_i32_212 c0_i32_213) Q : sProp 𝕄) := by
  rw [k0_part12_eq_skeleton]; unfold k0_part12_skel
  simp only [wpc, semSignalWord, semWaitWord, Prog.lift, Prog.bind_op, Prog.bind_ret, Prog.pure_eq_ret, wp_deviceId]
  iintro ⟨#Hb, pyT0, pyN2, HO, tkS20, tkR22⟩ Hk
  iapply (send_py m K c 2 0 _ (dev8_eq c) (off9_eq c) (off9_eq c) rfl (rs_sem2 (yc c) (off3_eq c) _) 7 8 rfl) $$ [pyT0 pyN2 HO tkS20 tkR22]
  · isplitr; · iexact Hb
    isplitl [pyT0]; · iexact pyT0
    isplitl [pyN2]; · iexact pyN2
    isplitl [HO]; · iexact HO
    isplitl [tkS20]; · iexact tkS20
    iexact tkR22
  iintro ⟨crS20, HO⟩
  try simp only [wpc]
  rw [wp_ret]; imodintro
  iapply Hk
  isplitl [crS20]; · iexact crS20
  iexact HO

theorem part13 (c : Dev nD) (v2 : BitVec 32) (v5 : BitVec 32) (v8 : BitVec 32) (v447 : BitVec 32) (c16_i32_236 : BitVec 32)
    {Q : _ → sProp 𝕄} :
    iprop(base m K ∗ pyS c (yc c) (lend 1) (pyF m c) ∗ (∃ f, pyS (nb c 1) (yc c) fullShare f) ∗ ow c 8 ∗ tk c (.ss 2 1) 0 ∗ tk (nb c 1) (.rs 2 (yc c)) 0)
      ⊢ iprop((cr c (.ss 2 1) ∗ ow c 9 -∗ Q ⟨⟩)
          -∗ wpc c (k0_part13 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v447 c16_i32_236) Q : sProp 𝕄) := by
  rw [k0_part13_eq_skeleton]; unfold k0_part13_skel
  simp only [wpc, semSignalWord, semWaitWord, Prog.lift, Prog.bind_op, Prog.bind_ret, Prog.pure_eq_ret, wp_deviceId]
  iintro ⟨#Hb, pyT1, pyN1, HO, tkS21, tkR21⟩ Hk
  iapply (send_py m K c 1 1 _ (dev9_eq c) (off9_eq c) (off9_eq c) rfl (rs_sem2 (yc c) (off3_eq c) _) 8 9 rfl) $$ [pyT1 pyN1 HO tkS21 tkR21]
  · isplitr; · iexact Hb
    isplitl [pyT1]; · iexact pyT1
    isplitl [pyN1]; · iexact pyN1
    isplitl [HO]; · iexact HO
    isplitl [tkS21]; · iexact tkS21
    iexact tkR21
  iintro ⟨crS21, HO⟩
  try simp only [wpc]
  rw [wp_ret]; imodintro
  iapply Hk
  isplitl [crS21]; · iexact crS21
  iexact HO

theorem part14 (c : Dev nD) (v2 : BitVec 32) (v5 : BitVec 32) (v8 : BitVec 32)
    {Q : _ → sProp 𝕄} :
    iprop(base m K ∗ pyS c (yc c) (lend 2) (pyF m c) ∗ (∃ f, pyS (nb c 0) (yc c) fullShare f) ∗ ow c 9 ∗ tk c (.ss 2 2) 0 ∗ tk (nb c 0) (.rs 2 (yc c)) 0 ∗ xgS c (yc c) (lend 1) (xgF m c) ∗ (∃ f, xgS (nb c 1) (yc c) fullShare f) ∗ tk c (.ss 0 1) 0 ∗ tk (nb c 1) (.rs 0 (yc c)) 0)
      ⊢ iprop((∀ (a b : BitVec 32), cr c (.ss 2 2) ∗ cr c (.ss 0 1) ∗ ow c 11 -∗ Q ⟨a, b⟩)
          -∗ wpc c (k0_part14 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8) Q : sProp 𝕄) := by
  rw [k0_part14_eq_skeleton]; unfold k0_part14_skel
  simp only [wpc, semSignalWord, semWaitWord, Prog.lift, Prog.bind_op, Prog.bind_ret, Prog.pure_eq_ret, wp_deviceId]
  iintro ⟨#Hb, pyT2, pyN0, HO, tkS22, tkR20, xgT1, xgN1, tkS01, tkR01⟩ Hk
  iapply (send_py m K c 0 2 _ (dev10_eq c) (off9_eq c) (off9_eq c) rfl (rs_sem2 (yc c) (off3_eq c) _) 9 10 rfl) $$ [pyT2 pyN0 HO tkS22 tkR20]
  · isplitr; · iexact Hb
    isplitl [pyT2]; · iexact pyT2
    isplitl [pyN0]; · iexact pyN0
    isplitl [HO]; · iexact HO
    isplitl [tkS22]; · iexact tkS22
    iexact tkR20
  iintro ⟨crS22, HO⟩
  iapply (send_xg m K c 1 1 _ (dev11_eq c) (off5_eq c) (off5_eq c) rfl (rs_sem0 (yc c) (off3_eq c) _) 10 11 rfl) $$ [xgT1 xgN1 HO tkS01 tkR01]
  · isplitr; · iexact Hb
    isplitl [xgT1]; · iexact xgT1
    isplitl [xgN1]; · iexact xgN1
    isplitl [HO]; · iexact HO
    isplitl [tkS01]; · iexact tkS01
    iexact tkR01
  iintro ⟨crS01, HO⟩
  try simp only [wpc]
  rw [wp_ret]; imodintro
  iapply Hk
  isplitl [crS22]; · iexact crS22
  isplitl [crS01]; · iexact crS01
  iexact HO

theorem part15 (c : Dev nD) (v2 : BitVec 32) (v5 : BitVec 32) (v8 : BitVec 32) (v517 : BitVec 32) (v518 : BitVec 32)
    {Q : _ → sProp 𝕄} :
    iprop(base m K ∗ xgS c (yc c) (lend 2) (xgF m c) ∗ (∃ f, xgS (nb c 0) (yc c) fullShare f) ∗ ow c 11 ∗ tk c (.ss 0 2) 0 ∗ tk (nb c 0) (.rs 0 (yc c)) 0 ∗ xgS c (yc c) keep (xgF m c))
      ⊢ iprop((∀ (a : BitVec 32), cr c (.ss 0 2) ∗ ow c 12 ∗ xgS c (yc c) keep (xgF m c) -∗ Q ⟨a, k0_pay62 (xG m c (yc c)), k0_pay63 (xG m c (yc c))⟩)
          -∗ wpc c (k0_part15 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v517 v518) Q : sProp 𝕄) := by
  rw [k0_part15_eq_skeleton]; unfold k0_part15_skel
  simp only [wpc, semSignalWord, semWaitWord, Prog.lift, Prog.bind_op, Prog.bind_ret, Prog.pure_eq_ret, wp_deviceId]
  iintro ⟨#Hb, xgT2, xgN0, HO, tkS02, tkR00, xgK⟩ Hk
  iapply (send_xg m K c 0 2 _ (dev12_eq c) (off5_eq c) (off5_eq c) rfl (rs_sem0 (yc c) (off3_eq c) _) 11 12 rfl) $$ [xgT2 xgN0 HO tkS02 tkR00]
  · isplitr; · iexact Hb
    isplitl [xgT2]; · iexact xgT2
    isplitl [xgN0]; · iexact xgN0
    isplitl [HO]; · iexact HO
    isplitl [tkS02]; · iexact tkS02
    iexact tkR00
  iintro ⟨crS02, HO⟩
  iapply (load_xg m c (yc c) ((off10_eq c 0).trans (by rw [so_zero]))) $$ xgK; iintro xgK
  try simp only [wpc]
  rw [wp_ret]; imodintro
  iapply Hk
  isplitl [crS02]; · iexact crS02
  isplitl [HO]; · iexact HO
  iexact xgK

theorem part16 (c : Dev nD) (v5 : BitVec 32) (v550 : BitVec 32) (v553 : FVec F S128x512 .bf16) (v554 : FVec F S128x512 .f32)
    {Q : _ → sProp 𝕄} :
    iprop(base m K ∗ w1Pts c (W1 m c) ∗ w2Pts c (W2 m c) ∗ pyS c (yc c) keep (pyF m c))
      ⊢ iprop((w1Pts c (W1 m c) ∗ w2Pts c (W2 m c) ∗ pyS c (yc c) keep (pyF m c) -∗ Q ⟨k0_pay64 v554 (w1s (W1 m c) 0) (w2s (W2 m c) 0), k0_pay65 v553 (w1s (W1 m c) 1) (w2s (W2 m c) 1), k0_pay67 (pG m c (yc c)), k0_pay68 (pG m c (yc c)), k0_pay69 (pG m c (yc c)), k0_pay70 (pG m c (yc c)), k0_pay71 (F := F), k0_pay72 v5 (pG m c (yc c)), k0_pay73 v5 (pG m c (yc c))⟩)
          -∗ wpc c (k0_part16 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v5 v550 v553 v554) Q : sProp 𝕄) := by
  rw [k0_part16_eq_skeleton]; unfold k0_part16_skel
  simp only [wpc, semSignalWord, semWaitWord, Prog.lift, Prog.bind_op, Prog.bind_ret, Prog.pure_eq_ret, wp_deviceId]
  iintro ⟨#Hb, Hw0, Hw1, pyK⟩ Hk
  iapply (load_w10 m c) $$ Hw0; iintro Hw0
  iapply (load_w20 m c) $$ Hw1; iintro Hw1
  iapply (load_w11 m c) $$ Hw0; iintro Hw0
  iapply (load_w21 m c) $$ Hw1; iintro Hw1
  iapply (load_py m c (yc c) ((off11_eq c 0).trans (by rw [so_zero]))) $$ pyK; iintro pyK
  try simp only [wpc]
  rw [wp_ret]; imodintro
  iapply Hk
  isplitl [Hw0]; · iexact Hw0
  isplitl [Hw1]; · iexact Hw1
  iexact pyK

theorem part17 (c : Dev nD) (v2 : BitVec 32) (v5 : BitVec 32) (v8 : BitVec 32) (v562 : FVec F S128x512 .f32) (v571 : FVec F S128x512 .f32) (v576 : IVec S128x1 32) (v578 : IVec S128x1 32) (v579 : FVec F S128x1 .f32) (v580 : FVec F S128x1 .f32) (v581 : FVec F S128x512 .f32) (v588 : FVec F S128x1 .f32) (v593 : FVec F S128x1 .f32)
    {Q : _ → sProp 𝕄} :
    iprop(base m K)
      ⊢ iprop((∀ (a : BitVec 32), Q ⟨k0_pay74 v5 v562 v571 v576 v578 v579 v580 v581 v588 v593, a⟩)
          -∗ wpc c (k0_part17 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v562 v571 v576 v578 v579 v580 v581 v588 v593) Q : sProp 𝕄) := by
  rw [k0_part17_eq_skeleton]; unfold k0_part17_skel
  simp only [wpc, semSignalWord, semWaitWord, Prog.lift, Prog.bind_op, Prog.bind_ret, Prog.pure_eq_ret, wp_deviceId]
  iintro #Hb Hk

  try simp only [wpc]
  rw [wp_ret]; imodintro
  iapply Hk

end

end Cert.KP
-- ==== Proof.PartsC.lean ====
/-
# `PartsC`: the shares of the other members of the group, and the final waits
-/
module

public import proofs.«01_k».proof.Proof.Bits

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : (ℓ : Loc nD τ sig) → Buf (Elt F) ℓ) (K : Dev nD × CK → ℕ)

theorem part18 (c : Dev nD) (v2 : BitVec 32) (v5 : BitVec 32) (v8 : BitVec 32) (v624 : BitVec 32)
    {Q : _ → sProp 𝕄} :
    iprop(base m K ∗ cr c (.rs 0 (sl c 0)) ∗ ow c 12 ∗ at0 c (.rs 0 (sl c 0)) ∗ w1Pts c (W1 m c) ∗ w2Pts c (W2 m c))
      ⊢ iprop((ow c 12 ∗ zero c (.rs 0 (sl c 0)) ∗ xgS c (sl c 0) fullShare (xgF m c) ∗ w1Pts c (W1 m c) ∗ w2Pts c (W2 m c) -∗ Q ⟨k0_pay76 (xG m c (sl c 0)) (w1s (W1 m c) 0) (w2s (W2 m c) 0), k0_pay77 (xG m c (sl c 0)) (w1s (W1 m c) 1) (w2s (W2 m c) 1)⟩)
          -∗ wpc c (k0_part18 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v624) Q : sProp 𝕄) := by
  rw [k0_part18_eq_skeleton]; unfold k0_part18_skel
  simp only [wpc, semSignalWord, semWaitWord, Prog.lift, Prog.bind_op, Prog.bind_ret, Prog.pure_eq_ret, wp_deviceId]
  iintro ⟨#Hb, crR00, HO, atR00, Hw0, Hw1⟩ Hk
  iapply (step_wait m K c (.rs 0 (sl c 0)) (dut_rs c 0 0) 12 (by show ∀ a ∈ List.drop _ _, lvK (.rs 0 0) < a; decide) (wait_xg c (.rs 0 (sl c 0)) (rs_sem0 (sl c 0) (off12_eq c 0) _) rfl)) $$ [crR00 HO atR00]
  · isplitr; · iexact Hb
    isplitl [crR00]; · iexact crR00
    isplitl [HO]; · iexact HO
    iexact atR00
  iintro ⟨HO, zR00, Hp⟩
  ihave Hp := (Entails.of_eq (show pay m c 0 (.rs 0 (sl c 0)) = iprop(xgS c (sl c 0) fullShare (xgF m c)) from rfl)) $$ Hp
  irename Hp => xgL0
  iapply (load_xg m c (sl c 0) ((off10_eq c 1).trans (by rw [so_one]))) $$ xgL0; iintro xgL0
  iapply (load_w10 m c) $$ Hw0; iintro Hw0
  iapply (load_w20 m c) $$ Hw1; iintro Hw1
  iapply (load_w11 m c) $$ Hw0; iintro Hw0
  iapply (load_w21 m c) $$ Hw1; iintro Hw1
  try simp only [wpc]
  rw [wp_ret]; imodintro
  iapply Hk
  isplitl [HO]; · iexact HO
  isplitl [zR00]; · iexact zR00
  isplitl [xgL0]; · iexact xgL0
  isplitl [Hw0]; · iexact Hw0
  iexact Hw1

theorem part19 (c : Dev nD) (v5 : BitVec 32) (v624 : BitVec 32) (v648 : FVec F S128x512 .f32) (v657 : FVec F S128x512 .f32) (hv : k0_pay78 v5 v648 v657 (pG m c (sl c 0)) = cG m c (sl c 0))
    {Q : _ → sProp 𝕄} :
    iprop(base m K ∗ cr c (.rs 2 (sl c 0)) ∗ ow c 12 ∗ at0 c (.rs 2 (sl c 0)) ∗ (∃ f, cbS c (sl c 0) fullShare f))
      ⊢ iprop((ow c 12 ∗ zero c (.rs 2 (sl c 0)) ∗ pyS c (sl c 0) fullShare (pyF m c) ∗ cbS c (sl c 0) fullShare (cbF m c) -∗ Q ⟨⟩)
          -∗ wpc c (k0_part19 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v5 v624 v648 v657) Q : sProp 𝕄) := by
  rw [k0_part19_eq_skeleton]; unfold k0_part19_skel
  simp only [wpc, semSignalWord, semWaitWord, Prog.lift, Prog.bind_op, Prog.bind_ret, Prog.pure_eq_ret, wp_deviceId]
  iintro ⟨#Hb, crR20, HO, atR20, cbL0⟩ Hk
  iapply (step_wait m K c (.rs 2 (sl c 0)) (dut_rs c 2 0) 12 (by show ∀ a ∈ List.drop _ _, lvK (.rs 2 0) < a; decide) (wait_py c (.rs 2 (sl c 0)) (rs_sem2 (sl c 0) (off12_eq c 0) _) rfl)) $$ [crR20 HO atR20]
  · isplitr; · iexact Hb
    isplitl [crR20]; · iexact crR20
    isplitl [HO]; · iexact HO
    iexact atR20
  iintro ⟨HO, zR20, Hp⟩
  ihave Hp := (Entails.of_eq (show pay m c 0 (.rs 2 (sl c 0)) = iprop(pyS c (sl c 0) fullShare (pyF m c)) from rfl)) $$ Hp
  irename Hp => pyL0
  iapply (load_py m c (sl c 0) ((off11_eq c 1).trans (by rw [so_one]))) $$ pyL0; iintro pyL0
  iapply (dead_cb c (sl c 0) ((off10_eq c 1).trans (by rw [so_one]))) $$ cbL0; iintro %vd cbL0
  iapply (store_cb m c (sl c 0) ((off10_eq c 1).trans (by rw [so_one])) (hv)) $$ cbL0; iintro cbL0
  try simp only [wpc]
  rw [wp_ret]; imodintro
  iapply Hk
  isplitl [HO]; · iexact HO
  isplitl [zR20]; · iexact zR20
  isplitl [pyL0]; · iexact pyL0
  iexact cbL0

theorem part20 (c : Dev nD) (v2 : BitVec 32) (v5 : BitVec 32) (v8 : BitVec 32) (v624 : BitVec 32)
    {Q : _ → sProp 𝕄} :
    iprop(base m K ∗ cbS c (sl c 0) fullShare (cbF m c) ∗ (∃ f, rbS (nb c 0) (yc c) fullShare f) ∗ ow c 12 ∗ tk c (.ss 3 0) 0 ∗ tk (nb c 0) (.rs 3 (yc c)) 0)
      ⊢ iprop((∀ (a : BitVec 32), cr c (.ss 3 0) ∗ ow c 13 -∗ Q a)
          -∗ wpc c (k0_part20 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v624) Q : sProp 𝕄) := by
  rw [k0_part20_eq_skeleton]; unfold k0_part20_skel
  simp only [wpc, semSignalWord, semWaitWord, Prog.lift, Prog.bind_op, Prog.bind_ret, Prog.pure_eq_ret, wp_deviceId]
  iintro ⟨#Hb, cbL0, rbN0, HO, tkS30, tkR30⟩ Hk
  iapply (send_cb m K c 0 _ (dev13_eq c) (off13_eq c 0) (off5_eq c) rfl (rs_sem3 (yc c) (off3_eq c) _) 12 13 rfl) $$ [cbL0 rbN0 HO tkS30 tkR30]
  · isplitr; · iexact Hb
    isplitl [cbL0]; · iexact cbL0
    isplitl [rbN0]; · iexact rbN0
    isplitl [HO]; · iexact HO
    isplitl [tkS30]; · iexact tkS30
    iexact tkR30
  iintro ⟨crS30, HO⟩
  try simp only [wpc]
  rw [wp_ret]; imodintro
  iapply Hk
  isplitl [crS30]; · iexact crS30
  iexact HO

theorem part21 (c : Dev nD) (v2 : BitVec 32) (v5 : BitVec 32) (v8 : BitVec 32) (v741 : BitVec 32)
    {Q : _ → sProp 𝕄} :
    iprop(base m K ∗ cr c (.rs 0 (sl c 1)) ∗ ow c 13 ∗ at0 c (.rs 0 (sl c 1)) ∗ w1Pts c (W1 m c) ∗ w2Pts c (W2 m c))
      ⊢ iprop((ow c 13 ∗ zero c (.rs 0 (sl c 1)) ∗ xgS c (sl c 1) fullShare (xgF m c) ∗ w1Pts c (W1 m c) ∗ w2Pts c (W2 m c) -∗ Q ⟨k0_pay80 (xG m c (sl c 1)) (w1s (W1 m c) 0) (w2s (W2 m c) 0), k0_pay81 (xG m c (sl c 1)) (w1s (W1 m c) 1) (w2s (W2 m c) 1)⟩)
          -∗ wpc c (k0_part21 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v741) Q : sProp 𝕄) := by
  rw [k0_part21_eq_skeleton]; unfold k0_part21_skel
  simp only [wpc, semSignalWord, semWaitWord, Prog.lift, Prog.bind_op, Prog.bind_ret, Prog.pure_eq_ret, wp_deviceId]
  iintro ⟨#Hb, crR01, HO, atR01, Hw0, Hw1⟩ Hk
  iapply (step_wait m K c (.rs 0 (sl c 1)) (dut_rs c 0 1) 13 (by show ∀ a ∈ List.drop _ _, lvK (.rs 0 0) < a; decide) (wait_xg c (.rs 0 (sl c 1)) (rs_sem0 (sl c 1) (off12_eq c 1) _) rfl)) $$ [crR01 HO atR01]
  · isplitr; · iexact Hb
    isplitl [crR01]; · iexact crR01
    isplitl [HO]; · iexact HO
    iexact atR01
  iintro ⟨HO, zR01, Hp⟩
  ihave Hp := (Entails.of_eq (show pay m c 0 (.rs 0 (sl c 1)) = iprop(xgS c (sl c 1) fullShare (xgF m c)) from rfl)) $$ Hp
  irename Hp => xgL1
  iapply (load_xg m c (sl c 1) ((off10_eq c 2).trans (by rw [so_two]))) $$ xgL1; iintro xgL1
  iapply (load_w10 m c) $$ Hw0; iintro Hw0
  iapply (load_w20 m c) $$ Hw1; iintro Hw1
  iapply (load_w11 m c) $$ Hw0; iintro Hw0
  iapply (load_w21 m c) $$ Hw1; iintro Hw1
  try simp only [wpc]
  rw [wp_ret]; imodintro
  iapply Hk
  isplitl [HO]; · iexact HO
  isplitl [zR01]; · iexact zR01
  isplitl [xgL1]; · iexact xgL1
  isplitl [Hw0]; · iexact Hw0
  iexact Hw1

theorem part22 (c : Dev nD) (v5 : BitVec 32) (v741 : BitVec 32) (v765 : FVec F S128x512 .f32) (v774 : FVec F S128x512 .f32)
    {Q : _ → sProp 𝕄} :
    iprop(base m K ∗ cr c (.rs 2 (sl c 1)) ∗ ow c 13 ∗ at0 c (.rs 2 (sl c 1)) ∗ (∃ f, cbS c (sl c 1) fullShare f))
      ⊢ iprop((ow c 13 ∗ zero c (.rs 2 (sl c 1)) ∗ pyS c (sl c 1) fullShare (pyF m c) ∗ (∃ f, cbS c (sl c 1) fullShare f) -∗ Q (k0_pay82 v5 v765 v774 (pG m c (sl c 1))))
          -∗ wpc c (k0_part22 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v5 v741 v765 v774) Q : sProp 𝕄) := by
  rw [k0_part22_eq_skeleton]; unfold k0_part22_skel
  simp only [wpc, semSignalWord, semWaitWord, Prog.lift, Prog.bind_op, Prog.bind_ret, Prog.pure_eq_ret, wp_deviceId]
  iintro ⟨#Hb, crR21, HO, atR21, cbL1⟩ Hk
  iapply (step_wait m K c (.rs 2 (sl c 1)) (dut_rs c 2 1) 13 (by show ∀ a ∈ List.drop _ _, lvK (.rs 2 0) < a; decide) (wait_py c (.rs 2 (sl c 1)) (rs_sem2 (sl c 1) (off12_eq c 1) _) rfl)) $$ [crR21 HO atR21]
  · isplitr; · iexact Hb
    isplitl [crR21]; · iexact crR21
    isplitl [HO]; · iexact HO
    iexact atR21
  iintro ⟨HO, zR21, Hp⟩
  ihave Hp := (Entails.of_eq (show pay m c 0 (.rs 2 (sl c 1)) = iprop(pyS c (sl c 1) fullShare (pyF m c)) from rfl)) $$ Hp
  irename Hp => pyL1
  iapply (load_py m c (sl c 1) ((off11_eq c 2).trans (by rw [so_two]))) $$ pyL1; iintro pyL1
  iapply (dead_cb c (sl c 1) ((off10_eq c 2).trans (by rw [so_two]))) $$ cbL1; iintro %vd cbL1
  try simp only [wpc]
  rw [wp_ret]; imodintro
  iapply Hk
  isplitl [HO]; · iexact HO
  isplitl [zR21]; · iexact zR21
  isplitl [pyL1]; · iexact pyL1
  iexact cbL1

theorem part23 (c : Dev nD) (v2 : BitVec 32) (v5 : BitVec 32) (v8 : BitVec 32) (v741 : BitVec 32) (v829 : FVec F S128x512 .bf16) (hv : k0_pay83 v829 = cG m c (sl c 1))
    {Q : _ → sProp 𝕄} :
    iprop(base m K ∗ (∃ f, cbS c (sl c 1) fullShare f) ∗ (∃ f, rbS (nb c 1) (yc c) fullShare f) ∗ ow c 13 ∗ tk c (.ss 3 1) 0 ∗ tk (nb c 1) (.rs 3 (yc c)) 0)
      ⊢ iprop((∀ (a : BitVec 32), cr c (.ss 3 1) ∗ ow c 14 -∗ Q a)
          -∗ wpc c (k0_part23 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v741 v829) Q : sProp 𝕄) := by
  rw [k0_part23_eq_skeleton]; unfold k0_part23_skel
  simp only [wpc, semSignalWord, semWaitWord, Prog.lift, Prog.bind_op, Prog.bind_ret, Prog.pure_eq_ret, wp_deviceId]
  iintro ⟨#Hb, cbL1, rbN1, HO, tkS31, tkR31⟩ Hk
  iapply (store_cb m c (sl c 1) ((off10_eq c 2).trans (by rw [so_two])) (hv)) $$ cbL1; iintro cbL1
  iapply (send_cb m K c 1 _ (dev14_eq c) (off13_eq c 1) (off5_eq c) rfl (rs_sem3 (yc c) (off3_eq c) _) 13 14 rfl) $$ [cbL1 rbN1 HO tkS31 tkR31]
  · isplitr; · iexact Hb
    isplitl [cbL1]; · iexact cbL1
    isplitl [rbN1]; · iexact rbN1
    isplitl [HO]; · iexact HO
    isplitl [tkS31]; · iexact tkS31
    iexact tkR31
  iintro ⟨crS31, HO⟩
  try simp only [wpc]
  rw [wp_ret]; imodintro
  iapply Hk
  isplitl [crS31]; · iexact crS31
  iexact HO

theorem part24 (c : Dev nD) (v2 : BitVec 32) (v5 : BitVec 32) (v8 : BitVec 32) (v858 : BitVec 32)
    {Q : _ → sProp 𝕄} :
    iprop(base m K ∗ cr c (.rs 0 (sl c 2)) ∗ ow c 14 ∗ at0 c (.rs 0 (sl c 2)) ∗ w1Pts c (W1 m c) ∗ w2Pts c (W2 m c))
      ⊢ iprop((ow c 14 ∗ zero c (.rs 0 (sl c 2)) ∗ xgS c (sl c 2) fullShare (xgF m c) ∗ w1Pts c (W1 m c) ∗ w2Pts c (W2 m c) -∗ Q ⟨k0_pay85 (xG m c (sl c 2)) (w1s (W1 m c) 0) (w2s (W2 m c) 0), k0_pay86 (xG m c (sl c 2)) (w1s (W1 m c) 1) (w2s (W2 m c) 1)⟩)
          -∗ wpc c (k0_part24 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v858) Q : sProp 𝕄) := by
  rw [k0_part24_eq_skeleton]; unfold k0_part24_skel
  simp only [wpc, semSignalWord, semWaitWord, Prog.lift, Prog.bind_op, Prog.bind_ret, Prog.pure_eq_ret, wp_deviceId]
  iintro ⟨#Hb, crR02, HO, atR02, Hw0, Hw1⟩ Hk
  iapply (step_wait m K c (.rs 0 (sl c 2)) (dut_rs c 0 2) 14 (by show ∀ a ∈ List.drop _ _, lvK (.rs 0 0) < a; decide) (wait_xg c (.rs 0 (sl c 2)) (rs_sem0 (sl c 2) (off12_eq c 2) _) rfl)) $$ [crR02 HO atR02]
  · isplitr; · iexact Hb
    isplitl [crR02]; · iexact crR02
    isplitl [HO]; · iexact HO
    iexact atR02
  iintro ⟨HO, zR02, Hp⟩
  ihave Hp := (Entails.of_eq (show pay m c 0 (.rs 0 (sl c 2)) = iprop(xgS c (sl c 2) fullShare (xgF m c)) from rfl)) $$ Hp
  irename Hp => xgL2
  iapply (load_xg m c (sl c 2) ((off10_eq c 3).trans (by rw [so_three]))) $$ xgL2; iintro xgL2
  iapply (load_w10 m c) $$ Hw0; iintro Hw0
  iapply (load_w20 m c) $$ Hw1; iintro Hw1
  iapply (load_w11 m c) $$ Hw0; iintro Hw0
  iapply (load_w21 m c) $$ Hw1; iintro Hw1
  try simp only [wpc]
  rw [wp_ret]; imodintro
  iapply Hk
  isplitl [HO]; · iexact HO
  isplitl [zR02]; · iexact zR02
  isplitl [xgL2]; · iexact xgL2
  isplitl [Hw0]; · iexact Hw0
  iexact Hw1

theorem part25 (c : Dev nD) (v5 : BitVec 32) (v858 : BitVec 32) (v882 : FVec F S128x512 .f32) (v891 : FVec F S128x512 .f32)
    {Q : _ → sProp 𝕄} :
    iprop(base m K ∗ cr c (.rs 2 (sl c 2)) ∗ ow c 14 ∗ at0 c (.rs 2 (sl c 2)))
      ⊢ iprop((ow c 14 ∗ zero c (.rs 2 (sl c 2)) ∗ pyS c (sl c 2) fullShare (pyF m c) -∗ Q (k0_pay87 v5 v882 v891 (pG m c (sl c 2))))
          -∗ wpc c (k0_part25 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v5 v858 v882 v891) Q : sProp 𝕄) := by
  rw [k0_part25_eq_skeleton]; unfold k0_part25_skel
  simp only [wpc, semSignalWord, semWaitWord, Prog.lift, Prog.bind_op, Prog.bind_ret, Prog.pure_eq_ret, wp_deviceId]
  iintro ⟨#Hb, crR22, HO, atR22⟩ Hk
  iapply (step_wait m K c (.rs 2 (sl c 2)) (dut_rs c 2 2) 14 (by show ∀ a ∈ List.drop _ _, lvK (.rs 2 0) < a; decide) (wait_py c (.rs 2 (sl c 2)) (rs_sem2 (sl c 2) (off12_eq c 2) _) rfl)) $$ [crR22 HO atR22]
  · isplitr; · iexact Hb
    isplitl [crR22]; · iexact crR22
    isplitl [HO]; · iexact HO
    iexact atR22
  iintro ⟨HO, zR22, Hp⟩
  ihave Hp := (Entails.of_eq (show pay m c 0 (.rs 2 (sl c 2)) = iprop(pyS c (sl c 2) fullShare (pyF m c)) from rfl)) $$ Hp
  irename Hp => pyL2
  iapply (load_py m c (sl c 2) ((off11_eq c 3).trans (by rw [so_three]))) $$ pyL2; iintro pyL2
  try simp only [wpc]
  rw [wp_ret]; imodintro
  iapply Hk
  isplitl [HO]; · iexact HO
  isplitl [zR22]; · iexact zR22
  iexact pyL2

theorem part26 (c : Dev nD) (v2 : BitVec 32) (v5 : BitVec 32) (v8 : BitVec 32) (v858 : BitVec 32) (v946 : FVec F S128x512 .bf16) (hv : k0_pay88 v946 = cG m c (sl c 2))
    {Q : _ → sProp 𝕄} :
    iprop(base m K ∗ (∃ f, cbS c (sl c 2) fullShare f) ∗ (∃ f, rbS (nb c 2) (yc c) fullShare f) ∗ ow c 14 ∗ tk c (.ss 3 2) 0 ∗ tk (nb c 2) (.rs 3 (yc c)) 0)
      ⊢ iprop((∀ (a : BitVec 32), cr c (.ss 3 2) ∗ ow c 15 -∗ Q a)
          -∗ wpc c (k0_part26 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v858 v946) Q : sProp 𝕄) := by
  rw [k0_part26_eq_skeleton]; unfold k0_part26_skel
  simp only [wpc, semSignalWord, semWaitWord, Prog.lift, Prog.bind_op, Prog.bind_ret, Prog.pure_eq_ret, wp_deviceId]
  iintro ⟨#Hb, cbL2, rbN2, HO, tkS32, tkR32⟩ Hk
  iapply (dead_cb c (sl c 2) ((off10_eq c 3).trans (by rw [so_three]))) $$ cbL2; iintro %vd cbL2
  iapply (store_cb m c (sl c 2) ((off10_eq c 3).trans (by rw [so_three])) (hv)) $$ cbL2; iintro cbL2
  iapply (send_cb m K c 2 _ (dev15_eq c) (off13_eq c 2) (off5_eq c) rfl (rs_sem3 (yc c) (off3_eq c) _) 14 15 rfl) $$ [cbL2 rbN2 HO tkS32 tkR32]
  · isplitr; · iexact Hb
    isplitl [cbL2]; · iexact cbL2
    isplitl [rbN2]; · iexact rbN2
    isplitl [HO]; · iexact HO
    isplitl [tkS32]; · iexact tkS32
    iexact tkR32
  iintro ⟨crS32, HO⟩
  try simp only [wpc]
  rw [wp_ret]; imodintro
  iapply Hk
  isplitl [crS32]; · iexact crS32
  iexact HO

theorem part27 (c : Dev nD) (v2 : BitVec 32) (v5 : BitVec 32) (v8 : BitVec 32) (v613 : FVec F S128x512 .f32) (v976 : BitVec 32)
    {Q : _ → sProp 𝕄} :
    iprop(base m K ∗ cr c (.rs 3 (sl c 2)) ∗ ow c 15 ∗ at0 c (.rs 3 (sl c 2)) ∗ cr c (.rs 3 (sl c 1)) ∗ at0 c (.rs 3 (sl c 1)))
      ⊢ iprop((zero c (.rs 3 (sl c 2)) ∗ rbS c (sl c 2) fullShare (rbF m c) ∗ ow c 15 ∗ zero c (.rs 3 (sl c 1)) ∗ rbS c (sl c 1) fullShare (rbF m c) -∗ Q (k0_pay89 v613 (bG m c (sl c 2))))
          -∗ wpc c (k0_part27 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v613 v976) Q : sProp 𝕄) := by
  rw [k0_part27_eq_skeleton]; unfold k0_part27_skel
  simp only [wpc, semSignalWord, semWaitWord, Prog.lift, Prog.bind_op, Prog.bind_ret, Prog.pure_eq_ret, wp_deviceId]
  iintro ⟨#Hb, crR32, HO, atR32, crR31, atR31⟩ Hk
  iapply (step_wait m K c (.rs 3 (sl c 2)) (dut_rs c 3 2) 15 (by show ∀ a ∈ List.drop _ _, lvK (.rs 3 0) < a; decide) (wait_rb c (.rs 3 (sl c 2)) (rs_sem3 (sl c 2) (off15_eq c 0) _) rfl)) $$ [crR32 HO atR32]
  · isplitr; · iexact Hb
    isplitl [crR32]; · iexact crR32
    isplitl [HO]; · iexact HO
    iexact atR32
  iintro ⟨HO, zR32, Hp⟩
  ihave Hp := (Entails.of_eq (show pay m c 0 (.rs 3 (sl c 2)) = iprop(rbS c (sl c 2) fullShare (rbF m c)) from rfl)) $$ Hp
  irename Hp => rbL2
  iapply (load_rb m c (sl c 2) (off17_eq c 0)) $$ rbL2; iintro rbL2
  iapply (step_wait m K c (.rs 3 (sl c 1)) (dut_rs c 3 1) 15 (by show ∀ a ∈ List.drop _ _, lvK (.rs 3 0) < a; decide) (wait_rb c (.rs 3 (sl c 1)) (rs_sem3 (sl c 1) (off15_eq c 1) _) rfl)) $$ [crR31 HO atR31]
  · isplitr; · iexact Hb
    isplitl [crR31]; · iexact crR31
    isplitl [HO]; · iexact HO
    iexact atR31
  iintro ⟨HO, zR31, Hp⟩
  ihave Hp := (Entails.of_eq (show pay m c 0 (.rs 3 (sl c 1)) = iprop(rbS c (sl c 1) fullShare (rbF m c)) from rfl)) $$ Hp
  irename Hp => rbL1
  try simp only [wpc]
  rw [wp_ret]; imodintro
  iapply Hk
  isplitl [zR32]; · iexact zR32
  isplitl [rbL2]; · iexact rbL2
  isplitl [HO]; · iexact HO
  isplitl [zR31]; · iexact zR31
  iexact rbL1

theorem part28 (c : Dev nD) (v2 : BitVec 32) (v5 : BitVec 32) (v8 : BitVec 32) (v993 : FVec F S128x512 .f32)
    {Q : _ → sProp 𝕄} :
    iprop(base m K ∗ rbS c (sl c 1) fullShare (rbF m c) ∗ cr c (.rs 3 (sl c 0)) ∗ ow c 15 ∗ at0 c (.rs 3 (sl c 0)) ∗ (∃ f, oP c f))
      ⊢ iprop((rbS c (sl c 1) fullShare (rbF m c) ∗ ow c 15 ∗ zero c (.rs 3 (sl c 0)) ∗ rbS c (sl c 0) fullShare (rbF m c) ∗ oP c (k0_pay90 v993 (bG m c (sl c 1)) (bG m c (sl c 0))) -∗ Q ⟨⟩)
          -∗ wpc c (k0_part28 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c v2 v5 v8 v993) Q : sProp 𝕄) := by
  rw [k0_part28_eq_skeleton]; unfold k0_part28_skel
  simp only [wpc, semSignalWord, semWaitWord, Prog.lift, Prog.bind_op, Prog.bind_ret, Prog.pure_eq_ret, wp_deviceId]
  iintro ⟨#Hb, rbL1, crR30, HO, atR30, Hout⟩ Hk
  iapply (load_rb m c (sl c 1) (off17_eq c 1)) $$ rbL1; iintro rbL1
  iapply (step_wait m K c (.rs 3 (sl c 0)) (dut_rs c 3 0) 15 (by show ∀ a ∈ List.drop _ _, lvK (.rs 3 0) < a; decide) (wait_rb c (.rs 3 (sl c 0)) (rs_sem3 (sl c 0) (off15_eq c 2) _) rfl)) $$ [crR30 HO atR30]
  · isplitr; · iexact Hb
    isplitl [crR30]; · iexact crR30
    isplitl [HO]; · iexact HO
    iexact atR30
  iintro ⟨HO, zR30, Hp⟩
  ihave Hp := (Entails.of_eq (show pay m c 0 (.rs 3 (sl c 0)) = iprop(rbS c (sl c 0) fullShare (rbF m c)) from rfl)) $$ Hp
  irename Hp => rbL0
  iapply (load_rb m c (sl c 0) (off17_eq c 2)) $$ rbL0; iintro rbL0
  iapply (dead_out c) $$ Hout; iintro %vd Hout
  iapply (store_out c _) $$ Hout; iintro Hout
  try simp only [wpc]
  rw [wp_ret]; imodintro
  iapply Hk
  isplitl [rbL1]; · iexact rbL1
  isplitl [HO]; · iexact HO
  isplitl [zR30]; · iexact zR30
  isplitl [rbL0]; · iexact rbL0
  iexact Hout

theorem part29 (c : Dev nD)
    {Q : _ → sProp 𝕄} :
    iprop(base m K ∗ cr c (.ss 1 0) ∗ ow c 15 ∗ at0 c (.ss 1 0) ∗ cr c (.ss 1 1) ∗ at0 c (.ss 1 1) ∗ cr c (.ss 1 2) ∗ at0 c (.ss 1 2) ∗ cr c (.ss 0 0) ∗ at0 c (.ss 0 0))
      ⊢ iprop((zero c (.ss 1 0) ∗ rgS c (yc c) (lend 0) (rgF m c) ∗ zero c (.ss 1 1) ∗ rgS c (yc c) (lend 1) (rgF m c) ∗ zero c (.ss 1 2) ∗ rgS c (yc c) (lend 2) (rgF m c) ∗ ow c 15 ∗ zero c (.ss 0 0) ∗ xgS c (yc c) (lend 0) (xgF m c) -∗ Q ⟨⟩)
          -∗ wpc c (k0_part29 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c) Q : sProp 𝕄) := by
  rw [k0_part29_eq_skeleton]; unfold k0_part29_skel
  simp only [wpc, semSignalWord, semWaitWord, Prog.lift, Prog.bind_op, Prog.bind_ret, Prog.pure_eq_ret, wp_deviceId]
  iintro ⟨#Hb, crS10, HO, atS10, crS11, atS11, crS12, atS12, crS00, atS00⟩ Hk
  iapply (step_wait m K c (.ss 1 0) rfl 15 (by decide) (wait_rg c (.ss 1 0) rfl rfl)) $$ [crS10 HO atS10]
  · isplitr; · iexact Hb
    isplitl [crS10]; · iexact crS10
    isplitl [HO]; · iexact HO
    iexact atS10
  iintro ⟨HO, zS10, Hp⟩
  ihave Hp := (Entails.of_eq (show pay m c 0 (.ss 1 0) = iprop(rgS c (yc c) (lend 0) (rgF m c)) from rfl)) $$ Hp
  irename Hp => rgT0
  iapply (step_wait m K c (.ss 1 1) rfl 15 (by decide) (wait_rg c (.ss 1 1) rfl rfl)) $$ [crS11 HO atS11]
  · isplitr; · iexact Hb
    isplitl [crS11]; · iexact crS11
    isplitl [HO]; · iexact HO
    iexact atS11
  iintro ⟨HO, zS11, Hp⟩
  ihave Hp := (Entails.of_eq (show pay m c 0 (.ss 1 1) = iprop(rgS c (yc c) (lend 1) (rgF m c)) from rfl)) $$ Hp
  irename Hp => rgT1
  iapply (step_wait m K c (.ss 1 2) rfl 15 (by decide) (wait_rg c (.ss 1 2) rfl rfl)) $$ [crS12 HO atS12]
  · isplitr; · iexact Hb
    isplitl [crS12]; · iexact crS12
    isplitl [HO]; · iexact HO
    iexact atS12
  iintro ⟨HO, zS12, Hp⟩
  ihave Hp := (Entails.of_eq (show pay m c 0 (.ss 1 2) = iprop(rgS c (yc c) (lend 2) (rgF m c)) from rfl)) $$ Hp
  irename Hp => rgT2
  iapply (step_wait m K c (.ss 0 0) rfl 15 (by decide) (wait_xg c (.ss 0 0) rfl rfl)) $$ [crS00 HO atS00]
  · isplitr; · iexact Hb
    isplitl [crS00]; · iexact crS00
    isplitl [HO]; · iexact HO
    iexact atS00
  iintro ⟨HO, zS00, Hp⟩
  ihave Hp := (Entails.of_eq (show pay m c 0 (.ss 0 0) = iprop(xgS c (yc c) (lend 0) (xgF m c)) from rfl)) $$ Hp
  irename Hp => xgT0
  try simp only [wpc]
  rw [wp_ret]; imodintro
  iapply Hk
  isplitl [zS10]; · iexact zS10
  isplitl [rgT0]; · iexact rgT0
  isplitl [zS11]; · iexact zS11
  isplitl [rgT1]; · iexact rgT1
  isplitl [zS12]; · iexact zS12
  isplitl [rgT2]; · iexact rgT2
  isplitl [HO]; · iexact HO
  isplitl [zS00]; · iexact zS00
  iexact xgT0

theorem part30 (c : Dev nD)
    {Q : _ → sProp 𝕄} :
    iprop(base m K ∗ cr c (.ss 2 0) ∗ ow c 15 ∗ at0 c (.ss 2 0) ∗ cr c (.ss 2 1) ∗ at0 c (.ss 2 1) ∗ cr c (.ss 2 2) ∗ at0 c (.ss 2 2) ∗ cr c (.ss 0 1) ∗ at0 c (.ss 0 1) ∗ cr c (.ss 0 2) ∗ at0 c (.ss 0 2))
      ⊢ iprop((zero c (.ss 2 0) ∗ pyS c (yc c) (lend 0) (pyF m c) ∗ zero c (.ss 2 1) ∗ pyS c (yc c) (lend 1) (pyF m c) ∗ zero c (.ss 2 2) ∗ pyS c (yc c) (lend 2) (pyF m c) ∗ zero c (.ss 0 1) ∗ xgS c (yc c) (lend 1) (xgF m c) ∗ ow c 15 ∗ zero c (.ss 0 2) ∗ xgS c (yc c) (lend 2) (xgF m c) -∗ Q ⟨⟩)
          -∗ wpc c (k0_part30 (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15 c) Q : sProp 𝕄) := by
  rw [k0_part30_eq_skeleton]; unfold k0_part30_skel
  simp only [wpc, semSignalWord, semWaitWord, Prog.lift, Prog.bind_op, Prog.bind_ret, Prog.pure_eq_ret, wp_deviceId]
  iintro ⟨#Hb, crS20, HO, atS20, crS21, atS21, crS22, atS22, crS01, atS01, crS02, atS02⟩ Hk
  iapply (step_wait m K c (.ss 2 0) rfl 15 (by decide) (wait_py c (.ss 2 0) rfl rfl)) $$ [crS20 HO atS20]
  · isplitr; · iexact Hb
    isplitl [crS20]; · iexact crS20
    isplitl [HO]; · iexact HO
    iexact atS20
  iintro ⟨HO, zS20, Hp⟩
  ihave Hp := (Entails.of_eq (show pay m c 0 (.ss 2 0) = iprop(pyS c (yc c) (lend 0) (pyF m c)) from rfl)) $$ Hp
  irename Hp => pyT0
  iapply (step_wait m K c (.ss 2 1) rfl 15 (by decide) (wait_py c (.ss 2 1) rfl rfl)) $$ [crS21 HO atS21]
  · isplitr; · iexact Hb
    isplitl [crS21]; · iexact crS21
    isplitl [HO]; · iexact HO
    iexact atS21
  iintro ⟨HO, zS21, Hp⟩
  ihave Hp := (Entails.of_eq (show pay m c 0 (.ss 2 1) = iprop(pyS c (yc c) (lend 1) (pyF m c)) from rfl)) $$ Hp
  irename Hp => pyT1
  iapply (step_wait m K c (.ss 2 2) rfl 15 (by decide) (wait_py c (.ss 2 2) rfl rfl)) $$ [crS22 HO atS22]
  · isplitr; · iexact Hb
    isplitl [crS22]; · iexact crS22
    isplitl [HO]; · iexact HO
    iexact atS22
  iintro ⟨HO, zS22, Hp⟩
  ihave Hp := (Entails.of_eq (show pay m c 0 (.ss 2 2) = iprop(pyS c (yc c) (lend 2) (pyF m c)) from rfl)) $$ Hp
  irename Hp => pyT2
  iapply (step_wait m K c (.ss 0 1) rfl 15 (by decide) (wait_xg c (.ss 0 1) rfl rfl)) $$ [crS01 HO atS01]
  · isplitr; · iexact Hb
    isplitl [crS01]; · iexact crS01
    isplitl [HO]; · iexact HO
    iexact atS01
  iintro ⟨HO, zS01, Hp⟩
  ihave Hp := (Entails.of_eq (show pay m c 0 (.ss 0 1) = iprop(xgS c (yc c) (lend 1) (xgF m c)) from rfl)) $$ Hp
  irename Hp => xgT1
  iapply (step_wait m K c (.ss 0 2) rfl 15 (by decide) (wait_xg c (.ss 0 2) rfl rfl)) $$ [crS02 HO atS02]
  · isplitr; · iexact Hb
    isplitl [crS02]; · iexact crS02
    isplitl [HO]; · iexact HO
    iexact atS02
  iintro ⟨HO, zS02, Hp⟩
  ihave Hp := (Entails.of_eq (show pay m c 0 (.ss 0 2) = iprop(xgS c (yc c) (lend 2) (xgF m c)) from rfl)) $$ Hp
  irename Hp => xgT2
  try simp only [wpc]
  rw [wp_ret]; imodintro
  iapply Hk
  isplitl [zS20]; · iexact zS20
  isplitl [pyT0]; · iexact pyT0
  isplitl [zS21]; · iexact zS21
  isplitl [pyT1]; · iexact pyT1
  isplitl [zS22]; · iexact zS22
  isplitl [pyT2]; · iexact pyT2
  isplitl [zS01]; · iexact zS01
  isplitl [xgT1]; · iexact xgT1
  isplitl [HO]; · iexact HO
  isplitl [zS02]; · iexact zS02
  iexact xgT2

end

end Cert.KP
-- ==== Proof.Ends.lean ====
/-
# `Ends`: what a device holds when its body starts and ends
-/
module

public import proofs.«01_k».proof.Proof.Bits

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : (ℓ : Loc nD τ sig) → Buf (Elt F) ℓ) (K : Dev nD × CK → ℕ)

/-- What a device holds when its body starts. -/
def pre (c : Dev nD) : sProp 𝕄 := iprop(ow c 0 ∗ at0 c .bar ∗ cred (tallyAt (cell c .bar) () 3) ∗ at0 c (.w 0) ∗ tk c (.w 0) 0 ∗ W1Pts m c ∗ (∃ f, w1Pts c f) ∗ at0 c (.w 1) ∗ tk c (.w 1) 0 ∗ W2Pts m c ∗ (∃ f, w2Pts c f) ∗ at0 c (.ss 0 0) ∗ tk c (.ss 0 0) 0 ∗ tk (nb c 0) (.rs 0 (yc c)) 0 ∗ at0 c (.rs 0 (sl c 0)) ∗ cr c (.rs 0 (sl c 0)) ∗ at0 c (.ss 0 1) ∗ tk c (.ss 0 1) 0 ∗ tk (nb c 1) (.rs 0 (yc c)) 0 ∗ at0 c (.rs 0 (sl c 1)) ∗ cr c (.rs 0 (sl c 1)) ∗ at0 c (.ss 0 2) ∗ tk c (.ss 0 2) 0 ∗ tk (nb c 2) (.rs 0 (yc c)) 0 ∗ at0 c (.rs 0 (sl c 2)) ∗ cr c (.rs 0 (sl c 2)) ∗ at0 c (.ss 1 0) ∗ tk c (.ss 1 0) 0 ∗ tk (nb c 0) (.rs 1 (yc c)) 0 ∗ at0 c (.rs 1 (sl c 0)) ∗ cr c (.rs 1 (sl c 0)) ∗ at0 c (.ss 1 1) ∗ tk c (.ss 1 1) 0 ∗ tk (nb c 1) (.rs 1 (yc c)) 0 ∗ at0 c (.rs 1 (sl c 1)) ∗ cr c (.rs 1 (sl c 1)) ∗ at0 c (.ss 1 2) ∗ tk c (.ss 1 2) 0 ∗ tk (nb c 2) (.rs 1 (yc c)) 0 ∗ at0 c (.rs 1 (sl c 2)) ∗ cr c (.rs 1 (sl c 2)) ∗ at0 c (.ss 2 0) ∗ tk c (.ss 2 0) 0 ∗ tk (nb c 0) (.rs 2 (yc c)) 0 ∗ at0 c (.rs 2 (sl c 0)) ∗ cr c (.rs 2 (sl c 0)) ∗ at0 c (.ss 2 1) ∗ tk c (.ss 2 1) 0 ∗ tk (nb c 1) (.rs 2 (yc c)) 0 ∗ at0 c (.rs 2 (sl c 1)) ∗ cr c (.rs 2 (sl c 1)) ∗ at0 c (.ss 2 2) ∗ tk c (.ss 2 2) 0 ∗ tk (nb c 2) (.rs 2 (yc c)) 0 ∗ at0 c (.rs 2 (sl c 2)) ∗ cr c (.rs 2 (sl c 2)) ∗ at0 c (.ss 3 0) ∗ tk c (.ss 3 0) 0 ∗ tk (nb c 0) (.rs 3 (yc c)) 0 ∗ at0 c (.rs 3 (sl c 0)) ∗ cr c (.rs 3 (sl c 0)) ∗ at0 c (.ss 3 1) ∗ tk c (.ss 3 1) 0 ∗ tk (nb c 1) (.rs 3 (yc c)) 0 ∗ at0 c (.rs 3 (sl c 1)) ∗ cr c (.rs 3 (sl c 1)) ∗ at0 c (.ss 3 2) ∗ tk c (.ss 3 2) 0 ∗ tk (nb c 2) (.rs 3 (yc c)) 0 ∗ at0 c (.rs 3 (sl c 2)) ∗ cr c (.rs 3 (sl c 2)) ∗ tk (nb c 0) .bar (2 - 0) ∗ tk (nb c 1) .bar (2 - 1) ∗ tk (nb c 2) .bar (2 - 2) ∗ xP m c ∗ rtP m c ∗ (∃ f, oP c f) ∗ (∃ f, xgS c (yc c) fullShare f) ∗ (∃ f, xgS c (sl c 0) fullShare f) ∗ (∃ f, xgS c (sl c 1) fullShare f) ∗ (∃ f, xgS c (sl c 2) fullShare f) ∗ (∃ f, rgS c (yc c) fullShare f) ∗ (∃ f, rgS c (sl c 0) fullShare f) ∗ (∃ f, rgS c (sl c 1) fullShare f) ∗ (∃ f, rgS c (sl c 2) fullShare f) ∗ (∃ f, pyS c (yc c) fullShare f) ∗ (∃ f, pyS c (sl c 0) fullShare f) ∗ (∃ f, pyS c (sl c 1) fullShare f) ∗ (∃ f, pyS c (sl c 2) fullShare f) ∗ (∃ f, cbS c (sl c 0) fullShare f) ∗ (∃ f, cbS c (sl c 1) fullShare f) ∗ (∃ f, cbS c (sl c 2) fullShare f) ∗ (∃ f, rbS c (sl c 0) fullShare f) ∗ (∃ f, rbS c (sl c 1) fullShare f) ∗ (∃ f, rbS c (sl c 2) fullShare f))

/-- What a device holds when its body ends. -/
def post (c : Dev nD) : sProp 𝕄 := iprop(zero c (.w 0) ∗ W1Pts m c ∗ zero c (.w 1) ∗ W2Pts m c ∗ zero c .bar ∗ rtP m c ∗ zero c (.rs 1 (sl c 0)) ∗ zero c (.rs 1 (sl c 1)) ∗ zero c (.rs 1 (sl c 2)) ∗ xP m c ∗ rgS c (yc c) keep (rgF m c) ∗ rgS c (sl c 0) fullShare (rgF m c) ∗ rgS c (sl c 1) fullShare (rgF m c) ∗ rgS c (sl c 2) fullShare (rgF m c) ∗ xgS c (yc c) keep (xgF m c) ∗ pyS c (yc c) keep (pyF m c) ∗ zero c (.rs 0 (sl c 0)) ∗ xgS c (sl c 0) fullShare (xgF m c) ∗ zero c (.rs 2 (sl c 0)) ∗ pyS c (sl c 0) fullShare (pyF m c) ∗ zero c (.rs 0 (sl c 1)) ∗ xgS c (sl c 1) fullShare (xgF m c) ∗ zero c (.rs 2 (sl c 1)) ∗ pyS c (sl c 1) fullShare (pyF m c) ∗ zero c (.rs 0 (sl c 2)) ∗ xgS c (sl c 2) fullShare (xgF m c) ∗ w1Pts c (W1 m c) ∗ w2Pts c (W2 m c) ∗ zero c (.rs 2 (sl c 2)) ∗ pyS c (sl c 2) fullShare (pyF m c) ∗ zero c (.rs 3 (sl c 2)) ∗ rbS c (sl c 2) fullShare (rbF m c) ∗ zero c (.rs 3 (sl c 1)) ∗ rbS c (sl c 1) fullShare (rbF m c) ∗ zero c (.rs 3 (sl c 0)) ∗ rbS c (sl c 0) fullShare (rbF m c) ∗ oP c (outAt m c) ∗ zero c (.ss 1 0) ∗ rgS c (yc c) (lend 0) (rgF m c) ∗ zero c (.ss 1 1) ∗ rgS c (yc c) (lend 1) (rgF m c) ∗ zero c (.ss 1 2) ∗ rgS c (yc c) (lend 2) (rgF m c) ∗ zero c (.ss 0 0) ∗ xgS c (yc c) (lend 0) (xgF m c) ∗ zero c (.ss 2 0) ∗ pyS c (yc c) (lend 0) (pyF m c) ∗ zero c (.ss 2 1) ∗ pyS c (yc c) (lend 1) (pyF m c) ∗ zero c (.ss 2 2) ∗ pyS c (yc c) (lend 2) (pyF m c) ∗ zero c (.ss 0 1) ∗ xgS c (yc c) (lend 1) (xgF m c) ∗ zero c (.ss 0 2) ∗ xgS c (yc c) (lend 2) (xgF m c) ∗ zero c (.ss 3 0) ∗ cbS c (sl c 0) fullShare (cbF m c) ∗ zero c (.ss 3 1) ∗ cbS c (sl c 1) fullShare (cbF m c) ∗ ow c 15 ∗ zero c (.ss 3 2) ∗ cbS c (sl c 2) fullShare (cbF m c))

end

end Cert.KP
-- ==== Proof.Body.lean ====
/-
# `Body`: the whole body on a device
-/
module

public import proofs.«01_k».proof.Proof.PartsA
public import proofs.«01_k».proof.Proof.PartsB
public import proofs.«01_k».proof.Proof.PartsC
public import proofs.«01_k».proof.Proof.Ends

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : (ℓ : Loc nD τ sig) → Buf (Elt F) ℓ) (K : Dev nD × CK → ℕ)

set_option maxRecDepth 65536 in
set_option maxHeartbeats 8000000 in
theorem body (c : Dev nD) {Q : PUnit → sProp 𝕄} :
    iprop(base m K ∗ pre m c) ⊢ iprop((post m c -∗ Q ⟨⟩) -∗ wpc c (cc0__body (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15) Q : sProp 𝕄) := by
  unfold pre post
  rw [cc0__body_eq_skeleton]; unfold cc0__body_skel
  rw [k0_part31_eq_skeleton]; unfold k0_part31_skel
  simp only [wpc, Prog.lift, Prog.bind_op, Prog.bind_ret, Prog.pure_eq_ret]
  iintro ⟨#Hb, HO, atB, crB, atW0, tkW0, HW0, Hw0, atW1, tkW1, HW1, Hw1, atS00, tkS00, tkR00, atR00, crR00, atS01, tkS01, tkR01, atR01, crR01, atS02, tkS02, tkR02, atR02, crR02, atS10, tkS10, tkR10, atR10, crR10, atS11, tkS11, tkR11, atR11, crR11, atS12, tkS12, tkR12, atR12, crR12, atS20, tkS20, tkR20, atR20, crR20, atS21, tkS21, tkR21, atR21, crR21, atS22, tkS22, tkR22, atR22, crR22, atS30, tkS30, tkR30, atR30, crR30, atS31, tkS31, tkR31, atR31, crR31, atS32, tkS32, tkR32, atR32, crR32, tkB0, tkB1, tkB2, Hx, Hrt, Hout, xgY, xgL0, xgL1, xgL2, rgY, rgL0, rgL1, rgL2, pyY, pyL0, pyL1, pyL2, cbL0, cbL1, cbL2, rbL0, rbL1, rbL2⟩ Hk
  have hr : k0_pay1 (R m c) = rG m c (yc c) := by unfold rG; rw [at_yc]
  have hx : k0_pay2 (X m c) = xG m c (yc c) := by unfold xG; rw [at_yc]
  simp only [wp_bind]
  iapply (part1 m K c ) $$ [HW0 Hw0 tkW0 HW1 Hw1 tkW1 HO atW0 atW1]
  · isplitr; · iexact Hb
    isplitl [HW0]; · iexact HW0
    isplitl [Hw0]; · iexact Hw0
    isplitl [tkW0]; · iexact tkW0
    isplitl [HW1]; · iexact HW1
    isplitl [Hw1]; · iexact Hw1
    isplitl [tkW1]; · iexact tkW1
    isplitl [HO]; · iexact HO
    isplitl [atW0]; · iexact atW0
    iexact atW1
  iintro %j1_0 %j1_1 %j1_2 %j1_3 ⟨zW0, Hw0, HW0, HO, zW1, Hw1, HW1⟩
  try dsimp only
  iapply (part2 m K c _ (Scalar.remsi (Scalar.divsi (Dev.word c) 4#32) 4#32) _ _ _) $$ [HO tkB0 rgL0 xgL0 pyL0 rbL0 tkB1 rgL1 xgL1 pyL1 rbL1]
  · isplitr; · iexact Hb
    isplitl [HO]; · iexact HO
    isplitl [tkB0]; · iexact tkB0
    isplitl [rgL0]; · iexact rgL0
    isplitl [xgL0]; · iexact xgL0
    isplitl [pyL0]; · iexact pyL0
    isplitl [rbL0]; · iexact rbL0
    isplitl [tkB1]; · iexact tkB1
    isplitl [rgL1]; · iexact rgL1
    isplitl [xgL1]; · iexact xgL1
    isplitl [pyL1]; · iexact pyL1
    iexact rbL1
  iintro %j2_0 %j2_1 HO
  try dsimp only
  iapply (part3 m K c _ (Scalar.remsi (Scalar.divsi (Dev.word c) 4#32) 4#32) _ _ _ hr hx) $$ [HO tkB2 rgL2 xgL2 pyL2 rbL2 crB atB Hrt rgY Hx xgY]
  · isplitr; · iexact Hb
    isplitl [HO]; · iexact HO
    isplitl [tkB2]; · iexact tkB2
    isplitl [rgL2]; · iexact rgL2
    isplitl [xgL2]; · iexact xgL2
    isplitl [pyL2]; · iexact pyL2
    isplitl [rbL2]; · iexact rbL2
    isplitl [crB]; · iexact crB
    isplitl [atB]; · iexact atB
    isplitl [Hrt]; · iexact Hrt
    isplitl [rgY]; · iexact rgY
    isplitl [Hx]; · iexact Hx
    iexact xgY
  iintro %j3_0 %j3_1 ⟨HO, zB, rgN0, xgN0, pyN0, rbN0, rgN1, xgN1, pyN1, rbN1, rgN2, xgN2, pyN2, rbN2, Hrt, Hx, rgK, rgT0, rgT1, rgT2, xgK, xgT0, xgT1, xgT2⟩
  try dsimp only
  iapply (part4 m K c _ (Scalar.remsi (Scalar.divsi (Dev.word c) 4#32) 4#32) _ _ _ _) $$ [rgT0 rgN0 HO tkS10 tkR10]
  · isplitr; · iexact Hb
    isplitl [rgT0]; · iexact rgT0
    isplitl [rgN0]; · iexact rgN0
    isplitl [HO]; · iexact HO
    isplitl [tkS10]; · iexact tkS10
    iexact tkR10
  iintro  ⟨crS10, HO⟩
  try dsimp only
  iapply (part5 m K c _ (Scalar.remsi (Scalar.divsi (Dev.word c) 4#32) 4#32) _) $$ [rgT1 rgN1 HO tkS11 tkR11 rgT2 rgN2 tkS12 tkR12]
  · isplitr; · iexact Hb
    isplitl [rgT1]; · iexact rgT1
    isplitl [rgN1]; · iexact rgN1
    isplitl [HO]; · iexact HO
    isplitl [tkS11]; · iexact tkS11
    isplitl [tkR11]; · iexact tkR11
    isplitl [rgT2]; · iexact rgT2
    isplitl [rgN2]; · iexact rgN2
    isplitl [tkS12]; · iexact tkS12
    iexact tkR12
  iintro %j5_0 %j5_1 %j5_2 %j5_3 ⟨crS11, crS12, HO⟩
  try dsimp only
  iapply (part6 m K c _ (Scalar.remsi (Scalar.divsi (Dev.word c) 4#32) 4#32) _ _ _ _ _) $$ [xgT0 xgN2 HO tkS00 tkR02]
  · isplitr; · iexact Hb
    isplitl [xgT0]; · iexact xgT0
    isplitl [xgN2]; · iexact xgN2
    isplitl [HO]; · iexact HO
    isplitl [tkS00]; · iexact tkS00
    iexact tkR02
  iintro  ⟨crS00, HO⟩
  try dsimp only
  iapply (part7 m K c _ (Scalar.remsi (Scalar.divsi (Dev.word c) 4#32) 4#32) _) $$ [crR10 HO atR10 crR11 atR11]
  · isplitr; · iexact Hb
    isplitl [crR10]; · iexact crR10
    isplitl [HO]; · iexact HO
    isplitl [atR10]; · iexact atR10
    isplitl [crR11]; · iexact crR11
    iexact atR11
  iintro %j7_0 %j7_1 ⟨zR10, rgL0, HO, zR11, rgL1⟩
  try dsimp only
  iapply (part8 m K c _ (Scalar.remsi (Scalar.divsi (Dev.word c) 4#32) 4#32) _ _ _ _ _) $$ [crR12 HO atR12 Hx rgK rgL0 rgL1]
  · isplitr; · iexact Hb
    isplitl [crR12]; · iexact crR12
    isplitl [HO]; · iexact HO
    isplitl [atR12]; · iexact atR12
    isplitl [Hx]; · iexact Hx
    isplitl [rgK]; · iexact rgK
    isplitl [rgL0]; · iexact rgL0
    iexact rgL1
  iintro  ⟨HO, zR12, Hx, rgQ1, rgQ2, rgQ3, rgQ0⟩
  try dsimp only
  generalize hv262 : (k0_pay3 (X m c)) = v262
  generalize hv263 : (k0_pay4 (F := F)) = v263
  generalize hv265 : (k0_pay6) = v265
  generalize hv269 : (k0_pay7 (X m c) (rG m c 0)) = v269
  generalize hv270 : (k0_pay8 (X m c) (rG m c 0)) = v270
  generalize hv271 : (k0_pay9 (X m c) (rG m c 0)) = v271
  generalize hv274 : (k0_pay11 (X m c) (rG m c 0)) = v274
  generalize hv276 : (k0_pay12 (X m c) (rG m c 0)) = v276
  iapply (part9 m K c v262 v263 v265 v269 v270 v271 v274 v276) $$ [rgQ1 rgQ2]
  · isplitr; · iexact Hb
    isplitl [rgQ1]; · iexact rgQ1
    iexact rgQ2
  iintro  ⟨rgQ1, rgQ2⟩
  try dsimp only
  generalize hv310 : (k0_pay31 v262 v263 v269 v270 v271 v274 (rG m c 1)) = v310
  generalize hv313 : (k0_pay32 v262 v263 v265 v269 v270 v271 v274 v276 (rG m c 1)) = v313
  generalize hv314 : (k0_pay33 v262 v263 v269 v270 v271 (rG m c 1)) = v314
  generalize hv316 : (k0_pay34 v262 v263 v265 v269 v270 v271 (rG m c 1)) = v316
  generalize hv319 : (k0_pay35 v262 (rG m c 2)) = v319
  generalize hv320 : (k0_pay36 v262 (rG m c 2)) = v320
  generalize hv321 : (k0_pay37 v262 v263 v269 v270 v271 (rG m c 1) (rG m c 2)) = v321
  iapply (part10 m K c v262 v310 v313 v314 v316 v319 v320 v321) $$ [rgQ3 rgQ0 rgQ1 rgQ2]
  · isplitr; · iexact Hb
    isplitl [rgQ3]; · iexact rgQ3
    isplitl [rgQ0]; · iexact rgQ0
    isplitl [rgQ1]; · iexact rgQ1
    iexact rgQ2
  iintro  ⟨rgK, rgL0, rgL1, rgL2⟩
  try dsimp only
  generalize hv363 : (k0_pay58 v262 v310 v313 v314 v316 v319 v320 v321 (rG m c 3)) = v363
  generalize hv366 : (k0_pay59 v262 v314 v316 v319 v320 v321 (rG m c 3)) = v366
  generalize hv368 : (k0_pay60 v262 v310 v314 v319 v320 v321 (rG m c 3)) = v368
  generalize hcst_197 : (Scalar.ofBits (F := F) .f32 0x3F800000#32) = cst_197
  have hv11 : k0_pay61 v363 v366 v368 cst_197 = pG m c (yc c) := by
    subst hcst_197 hv368 hv366 hv363 hv321 hv320 hv319 hv316 hv314 hv313 hv310 hv276 hv274 hv271 hv270 hv269 hv265 hv263 hv262; unfold pG; rw [at_yc]; rfl
  iapply (part11 m K c (Scalar.remsi (Scalar.divsi (Dev.word c) 4#32) 4#32) v363 v366 v368 cst_197 hv11) $$ [pyY]
  · isplitr; · iexact Hb
    iexact pyY
  iintro %j11_0 ⟨pyK, pyT0, pyT1, pyT2⟩
  try dsimp only
  iapply (part12 m K c _ (Scalar.remsi (Scalar.divsi (Dev.word c) 4#32) 4#32) _ _ _ _) $$ [pyT0 pyN2 HO tkS20 tkR22]
  · isplitr; · iexact Hb
    isplitl [pyT0]; · iexact pyT0
    isplitl [pyN2]; · iexact pyN2
    isplitl [HO]; · iexact HO
    isplitl [tkS20]; · iexact tkS20
    iexact tkR22
  iintro %j12_0 ⟨crS20, HO⟩
  try dsimp only
  iapply (part13 m K c _ (Scalar.remsi (Scalar.divsi (Dev.word c) 4#32) 4#32) _ _ _) $$ [pyT1 pyN1 HO tkS21 tkR21]
  · isplitr; · iexact Hb
    isplitl [pyT1]; · iexact pyT1
    isplitl [pyN1]; · iexact pyN1
    isplitl [HO]; · iexact HO
    isplitl [tkS21]; · iexact tkS21
    iexact tkR21
  iintro  ⟨crS21, HO⟩
  try dsimp only
  iapply (part14 m K c _ (Scalar.remsi (Scalar.divsi (Dev.word c) 4#32) 4#32) _) $$ [pyT2 pyN0 HO tkS22 tkR20 xgT1 xgN1 tkS01 tkR01]
  · isplitr; · iexact Hb
    isplitl [pyT2]; · iexact pyT2
    isplitl [pyN0]; · iexact pyN0
    isplitl [HO]; · iexact HO
    isplitl [tkS22]; · iexact tkS22
    isplitl [tkR20]; · iexact tkR20
    isplitl [xgT1]; · iexact xgT1
    isplitl [xgN1]; · iexact xgN1
    isplitl [tkS01]; · iexact tkS01
    iexact tkR01
  iintro %j14_0 %j14_1 ⟨crS22, crS01, HO⟩
  try dsimp only
  iapply (part15 m K c _ (Scalar.remsi (Scalar.divsi (Dev.word c) 4#32) 4#32) _ _ _) $$ [xgT2 xgN0 HO tkS02 tkR00 xgK]
  · isplitr; · iexact Hb
    isplitl [xgT2]; · iexact xgT2
    isplitl [xgN0]; · iexact xgN0
    isplitl [HO]; · iexact HO
    isplitl [tkS02]; · iexact tkS02
    isplitl [tkR00]; · iexact tkR00
    iexact xgK
  iintro %j15_0 ⟨crS02, HO, xgK⟩
  try dsimp only
  generalize hv553 : (k0_pay62 (xG m c (yc c))) = v553
  generalize hv554 : (k0_pay63 (xG m c (yc c))) = v554
  iapply (part16 m K c (Scalar.remsi (Scalar.divsi (Dev.word c) 4#32) 4#32) _ v553 v554) $$ [Hw0 Hw1 pyK]
  · isplitr; · iexact Hb
    isplitl [Hw0]; · iexact Hw0
    isplitl [Hw1]; · iexact Hw1
    iexact pyK
  iintro  ⟨Hw0, Hw1, pyK⟩
  try dsimp only
  generalize hv562 : (k0_pay64 v554 (w1s (W1 m c) 0) (w2s (W2 m c) 0)) = v562
  generalize hv571 : (k0_pay65 v553 (w1s (W1 m c) 1) (w2s (W2 m c) 1)) = v571
  generalize hv576 : (k0_pay67 (pG m c (yc c))) = v576
  generalize hv578 : (k0_pay68 (pG m c (yc c))) = v578
  generalize hv579 : (k0_pay69 (pG m c (yc c))) = v579
  generalize hv580 : (k0_pay70 (pG m c (yc c))) = v580
  generalize hv581 : (k0_pay71 (F := F)) = v581
  generalize hv588 : (k0_pay72 (Scalar.remsi (Scalar.divsi (Dev.word c) 4#32) 4#32) (pG m c (yc c))) = v588
  generalize hv593 : (k0_pay73 (Scalar.remsi (Scalar.divsi (Dev.word c) 4#32) 4#32) (pG m c (yc c))) = v593
  iapply (part17 m K c _ (Scalar.remsi (Scalar.divsi (Dev.word c) 4#32) 4#32) _ v562 v571 v576 v578 v579 v580 v581 v588 v593) $$ []
  · iexact Hb
  iintro %j17_0
  try dsimp only
  generalize hv613 : (k0_pay74 (Scalar.remsi (Scalar.divsi (Dev.word c) 4#32) 4#32) v562 v571 v576 v578 v579 v580 v581 v588 v593) = v613
  iapply (part18 m K c _ (Scalar.remsi (Scalar.divsi (Dev.word c) 4#32) 4#32) _ _) $$ [crR00 HO atR00 Hw0 Hw1]
  · isplitr; · iexact Hb
    isplitl [crR00]; · iexact crR00
    isplitl [HO]; · iexact HO
    isplitl [atR00]; · iexact atR00
    isplitl [Hw0]; · iexact Hw0
    iexact Hw1
  iintro  ⟨HO, zR00, xgL0, Hw0, Hw1⟩
  try dsimp only
  generalize hv648 : (k0_pay76 (xG m c (sl c 0)) (w1s (W1 m c) 0) (w2s (W2 m c) 0)) = v648
  generalize hv657 : (k0_pay77 (xG m c (sl c 0)) (w1s (W1 m c) 1) (w2s (W2 m c) 1)) = v657
  have hv19 : k0_pay78 (Scalar.remsi (Scalar.divsi (Dev.word c) 4#32) 4#32) v648 v657 (pG m c (sl c 0)) = cG m c (sl c 0) := by
    subst hv648 hv657; rfl
  iapply (part19 m K c (Scalar.remsi (Scalar.divsi (Dev.word c) 4#32) 4#32) _ v648 v657 hv19) $$ [crR20 HO atR20 cbL0]
  · isplitr; · iexact Hb
    isplitl [crR20]; · iexact crR20
    isplitl [HO]; · iexact HO
    isplitl [atR20]; · iexact atR20
    iexact cbL0
  iintro  ⟨HO, zR20, pyL0, cbL0⟩
  try dsimp only
  iapply (part20 m K c _ (Scalar.remsi (Scalar.divsi (Dev.word c) 4#32) 4#32) _ _) $$ [cbL0 rbN0 HO tkS30 tkR30]
  · isplitr; · iexact Hb
    isplitl [cbL0]; · iexact cbL0
    isplitl [rbN0]; · iexact rbN0
    isplitl [HO]; · iexact HO
    isplitl [tkS30]; · iexact tkS30
    iexact tkR30
  iintro %j20_0 ⟨crS30, HO⟩
  try dsimp only
  iapply (part21 m K c _ (Scalar.remsi (Scalar.divsi (Dev.word c) 4#32) 4#32) _ _) $$ [crR01 HO atR01 Hw0 Hw1]
  · isplitr; · iexact Hb
    isplitl [crR01]; · iexact crR01
    isplitl [HO]; · iexact HO
    isplitl [atR01]; · iexact atR01
    isplitl [Hw0]; · iexact Hw0
    iexact Hw1
  iintro  ⟨HO, zR01, xgL1, Hw0, Hw1⟩
  try dsimp only
  generalize hv765 : (k0_pay80 (xG m c (sl c 1)) (w1s (W1 m c) 0) (w2s (W2 m c) 0)) = v765
  generalize hv774 : (k0_pay81 (xG m c (sl c 1)) (w1s (W1 m c) 1) (w2s (W2 m c) 1)) = v774
  iapply (part22 m K c (Scalar.remsi (Scalar.divsi (Dev.word c) 4#32) 4#32) _ v765 v774) $$ [crR21 HO atR21 cbL1]
  · isplitr; · iexact Hb
    isplitl [crR21]; · iexact crR21
    isplitl [HO]; · iexact HO
    isplitl [atR21]; · iexact atR21
    iexact cbL1
  iintro  ⟨HO, zR21, pyL1, cbL1⟩
  try dsimp only
  generalize hv829 : (k0_pay82 (Scalar.remsi (Scalar.divsi (Dev.word c) 4#32) 4#32) v765 v774 (pG m c (sl c 1))) = v829
  have hv23 : k0_pay83 v829 = cG m c (sl c 1) := by
    subst hv829 hv765 hv774; exact share_two _ _ _ _ _
  iapply (part23 m K c _ (Scalar.remsi (Scalar.divsi (Dev.word c) 4#32) 4#32) _ _ v829 hv23) $$ [cbL1 rbN1 HO tkS31 tkR31]
  · isplitr; · iexact Hb
    isplitl [cbL1]; · iexact cbL1
    isplitl [rbN1]; · iexact rbN1
    isplitl [HO]; · iexact HO
    isplitl [tkS31]; · iexact tkS31
    iexact tkR31
  iintro %j23_0 ⟨crS31, HO⟩
  try dsimp only
  iapply (part24 m K c _ (Scalar.remsi (Scalar.divsi (Dev.word c) 4#32) 4#32) _ _) $$ [crR02 HO atR02 Hw0 Hw1]
  · isplitr; · iexact Hb
    isplitl [crR02]; · iexact crR02
    isplitl [HO]; · iexact HO
    isplitl [atR02]; · iexact atR02
    isplitl [Hw0]; · iexact Hw0
    iexact Hw1
  iintro  ⟨HO, zR02, xgL2, Hw0, Hw1⟩
  try dsimp only
  generalize hv882 : (k0_pay85 (xG m c (sl c 2)) (w1s (W1 m c) 0) (w2s (W2 m c) 0)) = v882
  generalize hv891 : (k0_pay86 (xG m c (sl c 2)) (w1s (W1 m c) 1) (w2s (W2 m c) 1)) = v891
  iapply (part25 m K c (Scalar.remsi (Scalar.divsi (Dev.word c) 4#32) 4#32) _ v882 v891) $$ [crR22 HO atR22]
  · isplitr; · iexact Hb
    isplitl [crR22]; · iexact crR22
    isplitl [HO]; · iexact HO
    iexact atR22
  iintro  ⟨HO, zR22, pyL2⟩
  try dsimp only
  generalize hv946 : (k0_pay87 (Scalar.remsi (Scalar.divsi (Dev.word c) 4#32) 4#32) v882 v891 (pG m c (sl c 2))) = v946
  have hv26 : k0_pay88 v946 = cG m c (sl c 2) := by
    subst hv946 hv882 hv891; exact share_three _ _ _ _ _
  iapply (part26 m K c _ (Scalar.remsi (Scalar.divsi (Dev.word c) 4#32) 4#32) _ _ v946 hv26) $$ [cbL2 rbN2 HO tkS32 tkR32]
  · isplitr; · iexact Hb
    isplitl [cbL2]; · iexact cbL2
    isplitl [rbN2]; · iexact rbN2
    isplitl [HO]; · iexact HO
    isplitl [tkS32]; · iexact tkS32
    iexact tkR32
  iintro %j26_0 ⟨crS32, HO⟩
  try dsimp only
  iapply (part27 m K c _ (Scalar.remsi (Scalar.divsi (Dev.word c) 4#32) 4#32) _ v613 _) $$ [crR32 HO atR32 crR31 atR31]
  · isplitr; · iexact Hb
    isplitl [crR32]; · iexact crR32
    isplitl [HO]; · iexact HO
    isplitl [atR32]; · iexact atR32
    isplitl [crR31]; · iexact crR31
    iexact atR31
  iintro  ⟨zR32, rbL2, HO, zR31, rbL1⟩
  try dsimp only
  generalize hv993 : (k0_pay89 v613 (bG m c (sl c 2))) = v993
  iapply (part28 m K c _ (Scalar.remsi (Scalar.divsi (Dev.word c) 4#32) 4#32) _ v993) $$ [rbL1 crR30 HO atR30 Hout]
  · isplitr; · iexact Hb
    isplitl [rbL1]; · iexact rbL1
    isplitl [crR30]; · iexact crR30
    isplitl [HO]; · iexact HO
    isplitl [atR30]; · iexact atR30
    iexact Hout
  iintro  ⟨rbL1, HO, zR30, rbL0, Hout⟩
  try dsimp only
  iapply (part29 m K c ) $$ [crS10 HO atS10 crS11 atS11 crS12 atS12 crS00 atS00]
  · isplitr; · iexact Hb
    isplitl [crS10]; · iexact crS10
    isplitl [HO]; · iexact HO
    isplitl [atS10]; · iexact atS10
    isplitl [crS11]; · iexact crS11
    isplitl [atS11]; · iexact atS11
    isplitl [crS12]; · iexact crS12
    isplitl [atS12]; · iexact atS12
    isplitl [crS00]; · iexact crS00
    iexact atS00
  iintro  ⟨zS10, rgT0, zS11, rgT1, zS12, rgT2, HO, zS00, xgT0⟩
  try dsimp only
  iapply (part30 m K c ) $$ [crS20 HO atS20 crS21 atS21 crS22 atS22 crS01 atS01 crS02 atS02]
  · isplitr; · iexact Hb
    isplitl [crS20]; · iexact crS20
    isplitl [HO]; · iexact HO
    isplitl [atS20]; · iexact atS20
    isplitl [crS21]; · iexact crS21
    isplitl [atS21]; · iexact atS21
    isplitl [crS22]; · iexact crS22
    isplitl [atS22]; · iexact atS22
    isplitl [crS01]; · iexact crS01
    isplitl [atS01]; · iexact atS01
    isplitl [crS02]; · iexact crS02
    iexact atS02
  iintro  ⟨zS20, pyT0, zS21, pyT1, zS22, pyT2, zS01, xgT1, HO, zS02, xgT2⟩
  try dsimp only
  have hout : k0_pay90 v993 (bG m c (sl c 1)) (bG m c (sl c 0)) = outAt m c := by
    subst hv993 hv613 hv562 hv571 hv576 hv578 hv579 hv580 hv581 hv588 hv593 hv553 hv554; rfl
  rw [hout]
  try simp only [wp_bind, Prog.lift, Prog.bind_op, Prog.bind_ret, Prog.pure_eq_ret]
  iapply (step_wait m K c (.ss 3 0) rfl 15 (by decide) (wait_cb c (.ss 3 0) rfl rfl)) $$ [crS30 HO atS30]
  · isplitr; · iexact Hb
    isplitl [crS30]; · iexact crS30
    isplitl [HO]; · iexact HO
    iexact atS30
  iintro ⟨HO, zS30, Hp⟩
  ihave Hp := (Entails.of_eq (show pay m c 0 (.ss 3 0) = iprop(cbS c (sl c 0) fullShare (cbF m c)) from rfl)) $$ Hp
  irename Hp => cbL0
  iapply (step_wait m K c (.ss 3 1) rfl 15 (by decide) (wait_cb c (.ss 3 1) rfl rfl)) $$ [crS31 HO atS31]
  · isplitr; · iexact Hb
    isplitl [crS31]; · iexact crS31
    isplitl [HO]; · iexact HO
    iexact atS31
  iintro ⟨HO, zS31, Hp⟩
  ihave Hp := (Entails.of_eq (show pay m c 0 (.ss 3 1) = iprop(cbS c (sl c 1) fullShare (cbF m c)) from rfl)) $$ Hp
  irename Hp => cbL1
  try simp only [wpc]
  rw [wp_ret]; imodintro
  try dsimp only
  iapply (step_wait m K c (.ss 3 2) rfl 15 (by decide) (wait_cb c (.ss 3 2) rfl rfl)) $$ [crS32 HO atS32]
  · isplitr; · iexact Hb
    isplitl [crS32]; · iexact crS32
    isplitl [HO]; · iexact HO
    iexact atS32
  iintro ⟨HO, zS32, Hp⟩
  ihave Hp := (Entails.of_eq (show pay m c 0 (.ss 3 2) = iprop(cbS c (sl c 2) fullShare (cbF m c)) from rfl)) $$ Hp
  irename Hp => cbL2
  try simp only [wpc]
  rw [wp_ret]; imodintro
  try dsimp only
  iapply Hk
  isplitl [zW0]; · iexact zW0
  isplitl [HW0]; · iexact HW0
  isplitl [zW1]; · iexact zW1
  isplitl [HW1]; · iexact HW1
  isplitl [zB]; · iexact zB
  isplitl [Hrt]; · iexact Hrt
  isplitl [zR10]; · iexact zR10
  isplitl [zR11]; · iexact zR11
  isplitl [zR12]; · iexact zR12
  isplitl [Hx]; · iexact Hx
  isplitl [rgK]; · iexact rgK
  isplitl [rgL0]; · iexact rgL0
  isplitl [rgL1]; · iexact rgL1
  isplitl [rgL2]; · iexact rgL2
  isplitl [xgK]; · iexact xgK
  isplitl [pyK]; · iexact pyK
  isplitl [zR00]; · iexact zR00
  isplitl [xgL0]; · iexact xgL0
  isplitl [zR20]; · iexact zR20
  isplitl [pyL0]; · iexact pyL0
  isplitl [zR01]; · iexact zR01
  isplitl [xgL1]; · iexact xgL1
  isplitl [zR21]; · iexact zR21
  isplitl [pyL1]; · iexact pyL1
  isplitl [zR02]; · iexact zR02
  isplitl [xgL2]; · iexact xgL2
  isplitl [Hw0]; · iexact Hw0
  isplitl [Hw1]; · iexact Hw1
  isplitl [zR22]; · iexact zR22
  isplitl [pyL2]; · iexact pyL2
  isplitl [zR32]; · iexact zR32
  isplitl [rbL2]; · iexact rbL2
  isplitl [zR31]; · iexact zR31
  isplitl [rbL1]; · iexact rbL1
  isplitl [zR30]; · iexact zR30
  isplitl [rbL0]; · iexact rbL0
  isplitl [Hout]; · iexact Hout
  isplitl [zS10]; · iexact zS10
  isplitl [rgT0]; · iexact rgT0
  isplitl [zS11]; · iexact zS11
  isplitl [rgT1]; · iexact rgT1
  isplitl [zS12]; · iexact zS12
  isplitl [rgT2]; · iexact rgT2
  isplitl [zS00]; · iexact zS00
  isplitl [xgT0]; · iexact xgT0
  isplitl [zS20]; · iexact zS20
  isplitl [pyT0]; · iexact pyT0
  isplitl [zS21]; · iexact zS21
  isplitl [pyT1]; · iexact pyT1
  isplitl [zS22]; · iexact zS22
  isplitl [pyT2]; · iexact pyT2
  isplitl [zS01]; · iexact zS01
  isplitl [xgT1]; · iexact xgT1
  isplitl [zS02]; · iexact zS02
  isplitl [xgT2]; · iexact xgT2
  isplitl [zS30]; · iexact zS30
  isplitl [cbL0]; · iexact cbL0
  isplitl [zS31]; · iexact zS31
  isplitl [cbL1]; · iexact cbL1
  isplitl [HO]; · iexact HO
  isplitl [zS32]; · iexact zS32
  iexact cbL2

end

end Cert.KP
-- ==== Proof.Hold.lean ====
/-
# `Hold`: what a device is launched with, sorted into what its body starts and ends with
-/
module

public import proofs.«01_k».proof.Proof.Ends

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Slots of one buffer are apart, -/
theorem slots_dis {a b : ℕ} {κ : Kind} {sp : Space} {e : EltTy} (v : View sig κ sp (Big a b) e) {k l : Fin 4} (h : k ≠ l) :
    Disjoint (v.setOn (slotI a b k)) (v.setOn (slotI a b l)) := (Finset.disjoint_map _).mpr (slot_disjoint h)
/-- and cover it. -/
theorem slots_cov {a b : ℕ} {κ : Kind} {sp : Space} {e : EltTy} (v : View sig κ sp (Big a b) e) (hv : v.set = Finset.univ) :
    (Finset.univ : Finset (Fin 4)).biUnion (fun k => v.setOn (slotI a b k)) = Finset.univ := by
  ext x
  refine ⟨fun _ => Finset.mem_univ _, fun hx => ?_⟩
  rw [← hv] at hx
  obtain ⟨y, -, rfl⟩ := Finset.mem_map.mp hx
  exact Finset.mem_biUnion.mpr ⟨place y, Finset.mem_univ _, Finset.mem_map.mpr ⟨y, mem_slotI.mpr rfl, rfl⟩⟩

/-- The buffer slot by slot, -/
theorem xg_blocks (c : Dev nD) (f : Buf (Elt F) (xgM.view.loc (c : Thread nD τ))) :
    (((c : Thread nD τ).loc cc0_scratch0) ↦{fullShare} f : sProp 𝕄) = bigSep Finset.univ fun k => xgS c k fullShare f := by
  unfold xgS
  exact Ring.pointsTo_blocks (ℓ := xgM.view.loc (c : Thread nD τ)) (fun k : Fin 4 => xgM.view.setOn (slotI 128 512 k))
    (fun k l h => slots_dis _ h) (slots_cov _ (by simp only [Memref.view_whole, View.set_whole])) f

/-- cut into its four slots, -/
theorem xg_cut (c : Dev nD) :
    (iprop(∃ f : Buf (Elt F) ((c : Thread nD τ).loc cc0_scratch0), ((c : Thread nD τ).loc cc0_scratch0) ↦{fullShare} f) : sProp 𝕄)
      ⊢ iprop((∃ f, xgS c (yc c) fullShare f) ∗ (∃ f, xgS c (sl c 0) fullShare f) ∗ (∃ f, xgS c (sl c 1) fullShare f) ∗ (∃ f, xgS c (sl c 2) fullShare f)) := by
  iintro ⟨%f, H⟩
  ihave H := (Entails.of_eq (xg_blocks c f)) $$ H
  ihave H := (Entails.of_eq (slots_around c (fun k => xgS c k fullShare f)).symm) $$ H
  icases H with ⟨H0, H1, H2, H3⟩
  isplitl [H0]; · iexists f; iexact H0
  isplitl [H1]; · iexists f; iexact H1
  isplitl [H2]; · iexists f; iexact H2
  iexists f; iexact H3

/-- and put together again. -/
theorem xg_paste (c : Dev nD) (f₀ : Buf (Elt F) (xgM.view.loc (c : Thread nD τ))) :
    (iprop((∃ f, xgS c (yc c) fullShare f) ∗ (∃ f, xgS c (sl c 0) fullShare f) ∗ (∃ f, xgS c (sl c 1) fullShare f) ∗ (∃ f, xgS c (sl c 2) fullShare f)) : sProp 𝕄)
      ⊢ iprop(∃ f : Buf (Elt F) ((c : Thread nD τ).loc cc0_scratch0), ((c : Thread nD τ).loc cc0_scratch0) ↦{fullShare} f) := by
  refine (Entails.of_eq (slots_around c (fun k => iprop(∃ f, xgS c k fullShare f)))).trans ?_
  unfold xgS
  exact Ring.pointsTo_blocks_join_exists (ℓ := xgM.view.loc (c : Thread nD τ)) (fun k : Fin 4 => xgM.view.setOn (slotI 128 512 k))
    (fun k l h => slots_dis _ h) (slots_cov _ (by simp only [Memref.view_whole, View.set_whole])) f₀

/-- The buffer slot by slot, -/
theorem rg_blocks (c : Dev nD) (f : Buf (Elt F) (rgM.view.loc (c : Thread nD τ))) :
    (((c : Thread nD τ).loc cc0_scratch1) ↦{fullShare} f : sProp 𝕄) = bigSep Finset.univ fun k => rgS c k fullShare f := by
  unfold rgS
  exact Ring.pointsTo_blocks (ℓ := rgM.view.loc (c : Thread nD τ)) (fun k : Fin 4 => rgM.view.setOn (slotI 2 512 k))
    (fun k l h => slots_dis _ h) (slots_cov _ (by simp only [Memref.view_whole, View.set_whole])) f

/-- cut into its four slots, -/
theorem rg_cut (c : Dev nD) :
    (iprop(∃ f : Buf (Elt F) ((c : Thread nD τ).loc cc0_scratch1), ((c : Thread nD τ).loc cc0_scratch1) ↦{fullShare} f) : sProp 𝕄)
      ⊢ iprop((∃ f, rgS c (yc c) fullShare f) ∗ (∃ f, rgS c (sl c 0) fullShare f) ∗ (∃ f, rgS c (sl c 1) fullShare f) ∗ (∃ f, rgS c (sl c 2) fullShare f)) := by
  iintro ⟨%f, H⟩
  ihave H := (Entails.of_eq (rg_blocks c f)) $$ H
  ihave H := (Entails.of_eq (slots_around c (fun k => rgS c k fullShare f)).symm) $$ H
  icases H with ⟨H0, H1, H2, H3⟩
  isplitl [H0]; · iexists f; iexact H0
  isplitl [H1]; · iexists f; iexact H1
  isplitl [H2]; · iexists f; iexact H2
  iexists f; iexact H3

/-- and put together again. -/
theorem rg_paste (c : Dev nD) (f₀ : Buf (Elt F) (rgM.view.loc (c : Thread nD τ))) :
    (iprop((∃ f, rgS c (yc c) fullShare f) ∗ (∃ f, rgS c (sl c 0) fullShare f) ∗ (∃ f, rgS c (sl c 1) fullShare f) ∗ (∃ f, rgS c (sl c 2) fullShare f)) : sProp 𝕄)
      ⊢ iprop(∃ f : Buf (Elt F) ((c : Thread nD τ).loc cc0_scratch1), ((c : Thread nD τ).loc cc0_scratch1) ↦{fullShare} f) := by
  refine (Entails.of_eq (slots_around c (fun k => iprop(∃ f, rgS c k fullShare f)))).trans ?_
  unfold rgS
  exact Ring.pointsTo_blocks_join_exists (ℓ := rgM.view.loc (c : Thread nD τ)) (fun k : Fin 4 => rgM.view.setOn (slotI 2 512 k))
    (fun k l h => slots_dis _ h) (slots_cov _ (by simp only [Memref.view_whole, View.set_whole])) f₀

/-- The buffer slot by slot, -/
theorem py_blocks (c : Dev nD) (f : Buf (Elt F) (pyM.view.loc (c : Thread nD τ))) :
    (((c : Thread nD τ).loc cc0_scratch2) ↦{fullShare} f : sProp 𝕄) = bigSep Finset.univ fun k => pyS c k fullShare f := by
  unfold pyS
  exact Ring.pointsTo_blocks (ℓ := pyM.view.loc (c : Thread nD τ)) (fun k : Fin 4 => pyM.view.setOn (slotI 128 8 k))
    (fun k l h => slots_dis _ h) (slots_cov _ (by simp only [Memref.view_whole, View.set_whole])) f

/-- cut into its four slots, -/
theorem py_cut (c : Dev nD) :
    (iprop(∃ f : Buf (Elt F) ((c : Thread nD τ).loc cc0_scratch2), ((c : Thread nD τ).loc cc0_scratch2) ↦{fullShare} f) : sProp 𝕄)
      ⊢ iprop((∃ f, pyS c (yc c) fullShare f) ∗ (∃ f, pyS c (sl c 0) fullShare f) ∗ (∃ f, pyS c (sl c 1) fullShare f) ∗ (∃ f, pyS c (sl c 2) fullShare f)) := by
  iintro ⟨%f, H⟩
  ihave H := (Entails.of_eq (py_blocks c f)) $$ H
  ihave H := (Entails.of_eq (slots_around c (fun k => pyS c k fullShare f)).symm) $$ H
  icases H with ⟨H0, H1, H2, H3⟩
  isplitl [H0]; · iexists f; iexact H0
  isplitl [H1]; · iexists f; iexact H1
  isplitl [H2]; · iexists f; iexact H2
  iexists f; iexact H3

/-- and put together again. -/
theorem py_paste (c : Dev nD) (f₀ : Buf (Elt F) (pyM.view.loc (c : Thread nD τ))) :
    (iprop((∃ f, pyS c (yc c) fullShare f) ∗ (∃ f, pyS c (sl c 0) fullShare f) ∗ (∃ f, pyS c (sl c 1) fullShare f) ∗ (∃ f, pyS c (sl c 2) fullShare f)) : sProp 𝕄)
      ⊢ iprop(∃ f : Buf (Elt F) ((c : Thread nD τ).loc cc0_scratch2), ((c : Thread nD τ).loc cc0_scratch2) ↦{fullShare} f) := by
  refine (Entails.of_eq (slots_around c (fun k => iprop(∃ f, pyS c k fullShare f)))).trans ?_
  unfold pyS
  exact Ring.pointsTo_blocks_join_exists (ℓ := pyM.view.loc (c : Thread nD τ)) (fun k : Fin 4 => pyM.view.setOn (slotI 128 8 k))
    (fun k l h => slots_dis _ h) (slots_cov _ (by simp only [Memref.view_whole, View.set_whole])) f₀

/-- The buffer slot by slot, -/
theorem cb_blocks (c : Dev nD) (f : Buf (Elt F) (cbM.view.loc (c : Thread nD τ))) :
    (((c : Thread nD τ).loc cc0_scratch3) ↦{fullShare} f : sProp 𝕄) = bigSep Finset.univ fun k => cbS c k fullShare f := by
  unfold cbS
  exact Ring.pointsTo_blocks (ℓ := cbM.view.loc (c : Thread nD τ)) (fun k : Fin 4 => cbM.view.setOn (slotI 128 512 k))
    (fun k l h => slots_dis _ h) (slots_cov _ (by simp only [Memref.view_whole, View.set_whole])) f

/-- cut into its four slots, -/
theorem cb_cut (c : Dev nD) :
    (iprop(∃ f : Buf (Elt F) ((c : Thread nD τ).loc cc0_scratch3), ((c : Thread nD τ).loc cc0_scratch3) ↦{fullShare} f) : sProp 𝕄)
      ⊢ iprop((∃ f, cbS c (yc c) fullShare f) ∗ (∃ f, cbS c (sl c 0) fullShare f) ∗ (∃ f, cbS c (sl c 1) fullShare f) ∗ (∃ f, cbS c (sl c 2) fullShare f)) := by
  iintro ⟨%f, H⟩
  ihave H := (Entails.of_eq (cb_blocks c f)) $$ H
  ihave H := (Entails.of_eq (slots_around c (fun k => cbS c k fullShare f)).symm) $$ H
  icases H with ⟨H0, H1, H2, H3⟩
  isplitl [H0]; · iexists f; iexact H0
  isplitl [H1]; · iexists f; iexact H1
  isplitl [H2]; · iexists f; iexact H2
  iexists f; iexact H3

/-- and put together again. -/
theorem cb_paste (c : Dev nD) (f₀ : Buf (Elt F) (cbM.view.loc (c : Thread nD τ))) :
    (iprop((∃ f, cbS c (yc c) fullShare f) ∗ (∃ f, cbS c (sl c 0) fullShare f) ∗ (∃ f, cbS c (sl c 1) fullShare f) ∗ (∃ f, cbS c (sl c 2) fullShare f)) : sProp 𝕄)
      ⊢ iprop(∃ f : Buf (Elt F) ((c : Thread nD τ).loc cc0_scratch3), ((c : Thread nD τ).loc cc0_scratch3) ↦{fullShare} f) := by
  refine (Entails.of_eq (slots_around c (fun k => iprop(∃ f, cbS c k fullShare f)))).trans ?_
  unfold cbS
  exact Ring.pointsTo_blocks_join_exists (ℓ := cbM.view.loc (c : Thread nD τ)) (fun k : Fin 4 => cbM.view.setOn (slotI 128 512 k))
    (fun k l h => slots_dis _ h) (slots_cov _ (by simp only [Memref.view_whole, View.set_whole])) f₀

/-- The buffer slot by slot, -/
theorem rb_blocks (c : Dev nD) (f : Buf (Elt F) (rbM.view.loc (c : Thread nD τ))) :
    (((c : Thread nD τ).loc cc0_scratch4) ↦{fullShare} f : sProp 𝕄) = bigSep Finset.univ fun k => rbS c k fullShare f := by
  unfold rbS
  exact Ring.pointsTo_blocks (ℓ := rbM.view.loc (c : Thread nD τ)) (fun k : Fin 4 => rbM.view.setOn (slotI 128 512 k))
    (fun k l h => slots_dis _ h) (slots_cov _ (by simp only [Memref.view_whole, View.set_whole])) f

/-- cut into its four slots, -/
theorem rb_cut (c : Dev nD) :
    (iprop(∃ f : Buf (Elt F) ((c : Thread nD τ).loc cc0_scratch4), ((c : Thread nD τ).loc cc0_scratch4) ↦{fullShare} f) : sProp 𝕄)
      ⊢ iprop((∃ f, rbS c (yc c) fullShare f) ∗ (∃ f, rbS c (sl c 0) fullShare f) ∗ (∃ f, rbS c (sl c 1) fullShare f) ∗ (∃ f, rbS c (sl c 2) fullShare f)) := by
  iintro ⟨%f, H⟩
  ihave H := (Entails.of_eq (rb_blocks c f)) $$ H
  ihave H := (Entails.of_eq (slots_around c (fun k => rbS c k fullShare f)).symm) $$ H
  icases H with ⟨H0, H1, H2, H3⟩
  isplitl [H0]; · iexists f; iexact H0
  isplitl [H1]; · iexists f; iexact H1
  isplitl [H2]; · iexists f; iexact H2
  iexists f; iexact H3

/-- and put together again. -/
theorem rb_paste (c : Dev nD) (f₀ : Buf (Elt F) (rbM.view.loc (c : Thread nD τ))) :
    (iprop((∃ f, rbS c (yc c) fullShare f) ∗ (∃ f, rbS c (sl c 0) fullShare f) ∗ (∃ f, rbS c (sl c 1) fullShare f) ∗ (∃ f, rbS c (sl c 2) fullShare f)) : sProp 𝕄)
      ⊢ iprop(∃ f : Buf (Elt F) ((c : Thread nD τ).loc cc0_scratch4), ((c : Thread nD τ).loc cc0_scratch4) ↦{fullShare} f) := by
  refine (Entails.of_eq (slots_around c (fun k => iprop(∃ f, rbS c k fullShare f)))).trans ?_
  unfold rbS
  exact Ring.pointsTo_blocks_join_exists (ℓ := rbM.view.loc (c : Thread nD τ)) (fun k : Fin 4 => rbM.view.setOn (slotI 128 512 k))
    (fun k l h => slots_dis _ h) (slots_cov _ (by simp only [Memref.view_whole, View.set_whole])) f₀

theorem bigSep_three (P : Fin 3 → sProp 𝕄) : bigSep Finset.univ P = iprop(P 0 ∗ P 1 ∗ P 2) :=
  bigSep_univ_eq_bigSepL [0, 1, 2] (by decide) (by decide) P

/-- The weights' buffers whole. -/
theorem w1_whole (c : Dev nD) : (iprop(∃ f, w1Pts c f) : sProp 𝕄)
    = iprop(∃ f : Buf (Elt F) ((c : Thread nD τ).loc cc0_scratch5), ((c : Thread nD τ).loc cc0_scratch5) ↦{fullShare} f) := by
  unfold w1Pts; simp only [Memref.view_whole, View.set_whole]
theorem w2_whole (c : Dev nD) : (iprop(∃ f, w2Pts c f) : sProp 𝕄)
    = iprop(∃ f : Buf (Elt F) ((c : Thread nD τ).loc cc0_scratch6), ((c : Thread nD τ).loc cc0_scratch6) ↦{fullShare} f) := by
  unfold w2Pts; simp only [Memref.view_whole, View.set_whole]

/-- A device's cells one by one. -/
theorem ck_list (c : Dev nD) (P : CK → sProp 𝕄) :
    bigSep Finset.univ P = (iprop(P (.bar) ∗ P (.w 0) ∗ P (.w 1) ∗ P (.ss 0 0) ∗ P (.ss 0 1) ∗ P (.ss 0 2) ∗ P (.ss 1 0) ∗ P (.ss 1 1) ∗ P (.ss 1 2) ∗ P (.ss 2 0) ∗ P (.ss 2 1) ∗ P (.ss 2 2) ∗ P (.ss 3 0) ∗ P (.ss 3 1) ∗ P (.ss 3 2) ∗ P (.rs 0 (yc c)) ∗ P (.rs 1 (yc c)) ∗ P (.rs 2 (yc c)) ∗ P (.rs 3 (yc c)) ∗ P (.rs 0 (sl c 0)) ∗ P (.rs 0 (sl c 1)) ∗ P (.rs 0 (sl c 2)) ∗ P (.rs 1 (sl c 0)) ∗ P (.rs 1 (sl c 1)) ∗ P (.rs 1 (sl c 2)) ∗ P (.rs 2 (sl c 0)) ∗ P (.rs 2 (sl c 1)) ∗ P (.rs 2 (sl c 2)) ∗ P (.rs 3 (sl c 0)) ∗ P (.rs 3 (sl c 1)) ∗ P (.rs 3 (sl c 2))) : sProp 𝕄) := by
  rw [bigSep_univ_eq_bigSepL [.bar, .w 0, .w 1, .ss 0 0, .ss 0 1, .ss 0 2, .ss 1 0, .ss 1 1, .ss 1 2, .ss 2 0, .ss 2 1, .ss 2 2, .ss 3 0, .ss 3 1, .ss 3 2, .rs 0 (yc c), .rs 1 (yc c), .rs 2 (yc c), .rs 3 (yc c), .rs 0 (sl c 0), .rs 0 (sl c 1), .rs 0 (sl c 2), .rs 1 (sl c 0), .rs 1 (sl c 1), .rs 1 (sl c 2), .rs 2 (sl c 0), .rs 2 (sl c 1), .rs 2 (sl c 2), .rs 3 (sl c 0), .rs 3 (sl c 1), .rs 3 (sl c 2)] (by revert c; decide +kernel) (by revert c; decide +kernel)]
  rfl

/-- What a device pays with: three barrier tokens and three arrivals of each exchange, and the tokens of its own
    copies and sends. -/
def payOut (c : Dev nD) (r : Fin 3) : sProp 𝕄 :=
  iprop(tk (nb c r) .bar (2 - r) ∗ tk (nb c r) (.rs 0 (yc c)) 0 ∗ tk (nb c r) (.rs 1 (yc c)) 0 ∗ tk (nb c r) (.rs 2 (yc c)) 0 ∗ tk (nb c r) (.rs 3 (yc c)) 0)
def payOwn (c : Dev nD) : sProp 𝕄 :=
  iprop(tk c (.w 0) 0 ∗ tk c (.w 1) 0 ∗ tk c (.ss 0 0) 0 ∗ tk c (.ss 0 1) 0 ∗ tk c (.ss 0 2) 0 ∗ tk c (.ss 1 0) 0 ∗ tk c (.ss 1 1) 0 ∗ tk c (.ss 1 2) 0 ∗ tk c (.ss 2 0) 0 ∗ tk c (.ss 2 1) 0 ∗ tk c (.ss 2 2) 0 ∗ tk c (.ss 3 0) 0 ∗ tk c (.ss 3 1) 0 ∗ tk c (.ss 3 2) 0)
/-- The credits of a device's waits on others. -/
def credits (c : Dev nD) : sProp 𝕄 :=
  iprop(cred (tallyAt (cell c .bar) () 3) ∗ cr c (.rs 0 (sl c 0)) ∗ cr c (.rs 0 (sl c 1)) ∗ cr c (.rs 0 (sl c 2)) ∗ cr c (.rs 1 (sl c 0)) ∗ cr c (.rs 1 (sl c 1)) ∗ cr c (.rs 1 (sl c 2)) ∗ cr c (.rs 2 (sl c 0)) ∗ cr c (.rs 2 (sl c 1)) ∗ cr c (.rs 2 (sl c 2)) ∗ cr c (.rs 3 (sl c 0)) ∗ cr c (.rs 3 (sl c 1)) ∗ cr c (.rs 3 (sl c 2)))

section
variable (m : (ℓ : Loc nD τ sig) → Buf (Elt F) ℓ) (K : Dev nD × CK → ℕ)

/-- What the body leaves alone: a device's place at the arrivals from itself, and the slots of its own number in the two
    buffers of the last exchange. -/
def aside (c : Dev nD) : sProp 𝕄 :=
  iprop(at0 c (.rs 0 (yc c)) ∗ at0 c (.rs 1 (yc c)) ∗ at0 c (.rs 2 (yc c)) ∗ at0 c (.rs 3 (yc c)) ∗ (∃ f, cbS c (yc c) fullShare f) ∗ (∃ f, rbS c (yc c) fullShare f))

set_option maxRecDepth 20000 in
set_option maxHeartbeats 1600000 in
theorem enter (c : Dev nD) :
    iprop((bigSep Finset.univ fun k => at0 (F := F) c k) ∗ (bigSep Finset.univ fun r => payOut c r) ∗ payOwn c ∗ credits c ∗ W1Pts m c ∗ W2Pts m c
        ∗ (Pipeline.scopedRest spec0 c : sProp 𝕄) ∗ xP m c ∗ rtP m c ∗ (∃ f, oP c f) ∗ ow c 0)
      ⊢ iprop(pre m c ∗ aside c) := by
  rw [ck_list c, scopedRest0_eq, bigSep_three]
  unfold payOut payOwn credits pre aside
  iintro ⟨⟨atB, atW0, atW1, atS00, atS01, atS02, atS10, atS11, atS12, atS20, atS21, atS22, atS30, atS31, atS32, atY0, atY1, atY2, atY3, atR00, atR01, atR02, atR10, atR11, atR12, atR20, atR21, atR22, atR30, atR31, atR32⟩, ⟨⟨tkB0, tkR00, tkR10, tkR20, tkR30⟩, ⟨tkB1, tkR01, tkR11, tkR21, tkR31⟩, ⟨tkB2, tkR02, tkR12, tkR22, tkR32⟩⟩, ⟨tkW0, tkW1, tkS00, tkS01, tkS02, tkS10, tkS11, tkS12, tkS20, tkS21, tkS22, tkS30, tkS31, tkS32⟩, ⟨crB, crR00, crR01, crR02, crR10, crR11, crR12, crR20, crR21, crR22, crR30, crR31, crR32⟩, HW0, HW1, ⟨Hxg, Hrg, Hpy, Hcb, Hrb, Hw0, Hw1⟩, Hx, Hrt, Hout, HO⟩
  ihave Hxg := (xg_cut c) $$ Hxg
  icases Hxg with ⟨xgY, xgL0, xgL1, xgL2⟩
  ihave Hrg := (rg_cut c) $$ Hrg
  icases Hrg with ⟨rgY, rgL0, rgL1, rgL2⟩
  ihave Hpy := (py_cut c) $$ Hpy
  icases Hpy with ⟨pyY, pyL0, pyL1, pyL2⟩
  ihave Hcb := (cb_cut c) $$ Hcb
  icases Hcb with ⟨cbY, cbL0, cbL1, cbL2⟩
  ihave Hrb := (rb_cut c) $$ Hrb
  icases Hrb with ⟨rbY, rbL0, rbL1, rbL2⟩
  isplitl [HO atB crB atW0 tkW0 HW0 Hw0 atW1 tkW1 HW1 Hw1 atS00 tkS00 tkR00 atR00 crR00 atS01 tkS01 tkR01 atR01 crR01 atS02 tkS02 tkR02 atR02 crR02 atS10 tkS10 tkR10 atR10 crR10 atS11 tkS11 tkR11 atR11 crR11 atS12 tkS12 tkR12 atR12 crR12 atS20 tkS20 tkR20 atR20 crR20 atS21 tkS21 tkR21 atR21 crR21 atS22 tkS22 tkR22 atR22 crR22 atS30 tkS30 tkR30 atR30 crR30 atS31 tkS31 tkR31 atR31 crR31 atS32 tkS32 tkR32 atR32 crR32 tkB0 tkB1 tkB2 Hx Hrt Hout xgY xgL0 xgL1 xgL2 rgY rgL0 rgL1 rgL2 pyY pyL0 pyL1 pyL2 cbL0 cbL1 cbL2 rbL0 rbL1 rbL2]
  · isplitl [HO]; · iexact HO
    isplitl [atB]; · iexact atB
    isplitl [crB]; · iexact crB
    isplitl [atW0]; · iexact atW0
    isplitl [tkW0]; · iexact tkW0
    isplitl [HW0]; · iexact HW0
    isplitl [Hw0]; · rw [w1_whole]; iexact Hw0
    isplitl [atW1]; · iexact atW1
    isplitl [tkW1]; · iexact tkW1
    isplitl [HW1]; · iexact HW1
    isplitl [Hw1]; · rw [w2_whole]; iexact Hw1
    isplitl [atS00]; · iexact atS00
    isplitl [tkS00]; · iexact tkS00
    isplitl [tkR00]; · iexact tkR00
    isplitl [atR00]; · iexact atR00
    isplitl [crR00]; · iexact crR00
    isplitl [atS01]; · iexact atS01
    isplitl [tkS01]; · iexact tkS01
    isplitl [tkR01]; · iexact tkR01
    isplitl [atR01]; · iexact atR01
    isplitl [crR01]; · iexact crR01
    isplitl [atS02]; · iexact atS02
    isplitl [tkS02]; · iexact tkS02
    isplitl [tkR02]; · iexact tkR02
    isplitl [atR02]; · iexact atR02
    isplitl [crR02]; · iexact crR02
    isplitl [atS10]; · iexact atS10
    isplitl [tkS10]; · iexact tkS10
    isplitl [tkR10]; · iexact tkR10
    isplitl [atR10]; · iexact atR10
    isplitl [crR10]; · iexact crR10
    isplitl [atS11]; · iexact atS11
    isplitl [tkS11]; · iexact tkS11
    isplitl [tkR11]; · iexact tkR11
    isplitl [atR11]; · iexact atR11
    isplitl [crR11]; · iexact crR11
    isplitl [atS12]; · iexact atS12
    isplitl [tkS12]; · iexact tkS12
    isplitl [tkR12]; · iexact tkR12
    isplitl [atR12]; · iexact atR12
    isplitl [crR12]; · iexact crR12
    isplitl [atS20]; · iexact atS20
    isplitl [tkS20]; · iexact tkS20
    isplitl [tkR20]; · iexact tkR20
    isplitl [atR20]; · iexact atR20
    isplitl [crR20]; · iexact crR20
    isplitl [atS21]; · iexact atS21
    isplitl [tkS21]; · iexact tkS21
    isplitl [tkR21]; · iexact tkR21
    isplitl [atR21]; · iexact atR21
    isplitl [crR21]; · iexact crR21
    isplitl [atS22]; · iexact atS22
    isplitl [tkS22]; · iexact tkS22
    isplitl [tkR22]; · iexact tkR22
    isplitl [atR22]; · iexact atR22
    isplitl [crR22]; · iexact crR22
    isplitl [atS30]; · iexact atS30
    isplitl [tkS30]; · iexact tkS30
    isplitl [tkR30]; · iexact tkR30
    isplitl [atR30]; · iexact atR30
    isplitl [crR30]; · iexact crR30
    isplitl [atS31]; · iexact atS31
    isplitl [tkS31]; · iexact tkS31
    isplitl [tkR31]; · iexact tkR31
    isplitl [atR31]; · iexact atR31
    isplitl [crR31]; · iexact crR31
    isplitl [atS32]; · iexact atS32
    isplitl [tkS32]; · iexact tkS32
    isplitl [tkR32]; · iexact tkR32
    isplitl [atR32]; · iexact atR32
    isplitl [crR32]; · iexact crR32
    isplitl [tkB0]; · iexact tkB0
    isplitl [tkB1]; · iexact tkB1
    isplitl [tkB2]; · iexact tkB2
    isplitl [Hx]; · iexact Hx
    isplitl [Hrt]; · iexact Hrt
    isplitl [Hout]; · iexact Hout
    isplitl [xgY]; · iexact xgY
    isplitl [xgL0]; · iexact xgL0
    isplitl [xgL1]; · iexact xgL1
    isplitl [xgL2]; · iexact xgL2
    isplitl [rgY]; · iexact rgY
    isplitl [rgL0]; · iexact rgL0
    isplitl [rgL1]; · iexact rgL1
    isplitl [rgL2]; · iexact rgL2
    isplitl [pyY]; · iexact pyY
    isplitl [pyL0]; · iexact pyL0
    isplitl [pyL1]; · iexact pyL1
    isplitl [pyL2]; · iexact pyL2
    isplitl [cbL0]; · iexact cbL0
    isplitl [cbL1]; · iexact cbL1
    isplitl [cbL2]; · iexact cbL2
    isplitl [rbL0]; · iexact rbL0
    isplitl [rbL1]; · iexact rbL1
    iexact rbL2
  isplitl [atY0]; · iexact atY0
  isplitl [atY1]; · iexact atY1
  isplitl [atY2]; · iexact atY2
  isplitl [atY3]; · iexact atY3
  isplitl [cbY]; · iexact cbY
  iexact rbY

/-- The arrivals from itself closed, with the two slots. -/
def asideZ (c : Dev nD) : sProp 𝕄 :=
  iprop(zero c (.rs 0 (yc c)) ∗ zero c (.rs 1 (yc c)) ∗ zero c (.rs 2 (yc c)) ∗ zero c (.rs 3 (yc c)) ∗ (∃ f, cbS c (yc c) fullShare f) ∗ (∃ f, rbS c (yc c) fullShare f))

theorem aside_close (c : Dev nD) : iprop(base m K ∗ aside c) ⊢ (iprop(|={Set.univ}=> asideZ c) : sProp 𝕄) := by
  unfold aside asideZ at0
  iintro ⟨#Hb, H0, H1, H2, H3, HC, HR⟩
  imod (close_cell m K c (.rs 0 (yc c)) 0 (duties_none m c 0)) $$ [H0] with Z0
  · isplitr; · iapply (inv_at m K (c, .rs 0 (yc c))); iexact Hb
    iexact H0
  imod (close_cell m K c (.rs 1 (yc c)) 0 (duties_none m c 1)) $$ [H1] with Z1
  · isplitr; · iapply (inv_at m K (c, .rs 1 (yc c))); iexact Hb
    iexact H1
  imod (close_cell m K c (.rs 2 (yc c)) 0 (duties_none m c 2)) $$ [H2] with Z2
  · isplitr; · iapply (inv_at m K (c, .rs 2 (yc c))); iexact Hb
    iexact H2
  imod (close_cell m K c (.rs 3 (yc c)) 0 (duties_none m c 3)) $$ [H3] with Z3
  · isplitr; · iapply (inv_at m K (c, .rs 3 (yc c))); iexact Hb
    iexact H3
  imodintro
  isplitl [Z0]; · iexact Z0
  isplitl [Z1]; · iexact Z1
  isplitl [Z2]; · iexact Z2
  isplitl [Z3]; · iexact Z3
  isplitl [HC]; · iexact HC
  iexact HR

set_option maxRecDepth 20000 in
set_option maxHeartbeats 1600000 in
theorem leave (c : Dev nD) :
    iprop(post m c ∗ asideZ c)
      ⊢ iprop((bigSep Finset.univ fun k => zero (F := F) c k) ∗ (Pipeline.scopedRest spec0 c : sProp 𝕄) ∗ W1Pts m c ∗ W2Pts m c ∗ xP m c ∗ rtP m c ∗ oP c (outAt m c) ∗ ow c 15) := by
  rw [ck_list c, scopedRest0_eq]
  unfold post asideZ
  iintro ⟨⟨zW0, HW0, zW1, HW1, zB, Hrt, zR10, zR11, zR12, Hx, rgK, rgL0, rgL1, rgL2, xgK, pyK, zR00, xgL0, zR20, pyL0, zR01, xgL1, zR21, pyL1, zR02, xgL2, Hw0, Hw1, zR22, pyL2, zR32, rbL2, zR31, rbL1, zR30, rbL0, Hout, zS10, rgT0, zS11, rgT1, zS12, rgT2, zS00, xgT0, zS20, pyT0, zS21, pyT1, zS22, pyT2, zS01, xgT1, zS02, xgT2, zS30, cbL0, zS31, cbL1, HO, zS32, cbL2⟩, zY0, zY1, zY2, zY3, cbY, rbY⟩
  ihave xgY := (xg_toks c (xgF m c) (yc c)).2 $$ [xgK xgT0 xgT1 xgT2]
  · isplitl [xgK]; · iexact xgK
    isplitl [xgT0]; · iexact xgT0
    isplitl [xgT1]; · iexact xgT1
    iexact xgT2
  ihave rgY := (rg_toks c (rgF m c) (yc c)).2 $$ [rgK rgT0 rgT1 rgT2]
  · isplitl [rgK]; · iexact rgK
    isplitl [rgT0]; · iexact rgT0
    isplitl [rgT1]; · iexact rgT1
    iexact rgT2
  ihave pyY := (py_toks c (pyF m c) (yc c)).2 $$ [pyK pyT0 pyT1 pyT2]
  · isplitl [pyK]; · iexact pyK
    isplitl [pyT0]; · iexact pyT0
    isplitl [pyT1]; · iexact pyT1
    iexact pyT2
  ihave Hxg := (xg_paste c (xgF m c)) $$ [xgY xgL0 xgL1 xgL2]
  · isplitl [xgY]; · iexists _; iexact xgY
    isplitl [xgL0]; · iexists _; iexact xgL0
    isplitl [xgL1]; · iexists _; iexact xgL1
    iexists _; iexact xgL2
  ihave Hrg := (rg_paste c (rgF m c)) $$ [rgY rgL0 rgL1 rgL2]
  · isplitl [rgY]; · iexists _; iexact rgY
    isplitl [rgL0]; · iexists _; iexact rgL0
    isplitl [rgL1]; · iexists _; iexact rgL1
    iexists _; iexact rgL2
  ihave Hpy := (py_paste c (pyF m c)) $$ [pyY pyL0 pyL1 pyL2]
  · isplitl [pyY]; · iexists _; iexact pyY
    isplitl [pyL0]; · iexists _; iexact pyL0
    isplitl [pyL1]; · iexists _; iexact pyL1
    iexists _; iexact pyL2
  ihave Hcb := (cb_paste c (cbF m c)) $$ [cbY cbL0 cbL1 cbL2]
  · isplitl [cbY]; · iexact cbY
    isplitl [cbL0]; · iexists _; iexact cbL0
    isplitl [cbL1]; · iexists _; iexact cbL1
    iexists _; iexact cbL2
  ihave Hrb := (rb_paste c (rbF m c)) $$ [rbY rbL0 rbL1 rbL2]
  · isplitl [rbY]; · iexact rbY
    isplitl [rbL0]; · iexists _; iexact rbL0
    isplitl [rbL1]; · iexists _; iexact rbL1
    iexists _; iexact rbL2
  isplitl [zB zW0 zW1 zS00 zS01 zS02 zS10 zS11 zS12 zS20 zS21 zS22 zS30 zS31 zS32 zY0 zY1 zY2 zY3 zR00 zR01 zR02 zR10 zR11 zR12 zR20 zR21 zR22 zR30 zR31 zR32]
  · isplitl [zB]; · iexact zB
    isplitl [zW0]; · iexact zW0
    isplitl [zW1]; · iexact zW1
    isplitl [zS00]; · iexact zS00
    isplitl [zS01]; · iexact zS01
    isplitl [zS02]; · iexact zS02
    isplitl [zS10]; · iexact zS10
    isplitl [zS11]; · iexact zS11
    isplitl [zS12]; · iexact zS12
    isplitl [zS20]; · iexact zS20
    isplitl [zS21]; · iexact zS21
    isplitl [zS22]; · iexact zS22
    isplitl [zS30]; · iexact zS30
    isplitl [zS31]; · iexact zS31
    isplitl [zS32]; · iexact zS32
    isplitl [zY0]; · iexact zY0
    isplitl [zY1]; · iexact zY1
    isplitl [zY2]; · iexact zY2
    isplitl [zY3]; · iexact zY3
    isplitl [zR00]; · iexact zR00
    isplitl [zR01]; · iexact zR01
    isplitl [zR02]; · iexact zR02
    isplitl [zR10]; · iexact zR10
    isplitl [zR11]; · iexact zR11
    isplitl [zR12]; · iexact zR12
    isplitl [zR20]; · iexact zR20
    isplitl [zR21]; · iexact zR21
    isplitl [zR22]; · iexact zR22
    isplitl [zR30]; · iexact zR30
    isplitl [zR31]; · iexact zR31
    iexact zR32
  isplitl [Hxg Hrg Hpy Hcb Hrb Hw0 Hw1]
  · isplitl [Hxg]; · iexact Hxg
    isplitl [Hrg]; · iexact Hrg
    isplitl [Hpy]; · iexact Hpy
    isplitl [Hcb]; · iexact Hcb
    isplitl [Hrb]; · iexact Hrb
    isplitl [Hw0]; · rw [← w1_whole]; iexists _; iexact Hw0
    rw [← w2_whole]; iexists _; iexact Hw1
  isplitl [HW0]; · iexact HW0
  isplitl [HW1]; · iexact HW1
  isplitl [Hx]; · iexact Hx
  isplitl [Hrt]; · iexact Hrt
  isplitl [Hout]; · iexact Hout
  iexact HO

end

end Cert.KP

end
-- ==== Proof.Run.lean ====
/-
# `Run`: the launch on every device of the mesh
-/
module

public import proofs.«01_k».proof.Proof.Body
public import proofs.«01_k».proof.Proof.Hold
public import Idealize.ShloMosaic.Lib.Pipeline.CollectiveSegs

@[expose] public section

noncomputable section

namespace Cert.KP

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : (ℓ : Loc nD τ sig) → Buf (Elt F) ℓ) (ρ : Dev nD → PrngReg)

/-! ## The semaphores -/

/-- The kernel's own semaphores. -/
abbrev osem (i : Fin 30) : SemLoc sig := .dma ⟨3 + i.val, by have := i.isLt; show 3 + i.val < 33; omega⟩

theorem ownSemFacts : Pipeline.OwnSemFacts cfg0.spec osem := by decide

theorem own_eq (c : Dev nD) : (Pipeline.ownSems0 (Ix := Unit) (Name := ℕ) (U := UU) (Lvl := ℕ) (Val := Elt F) (τ := τ) osem c : sProp 𝕄)
    = iprop(zero c (.ss 0 0) ∗ zero c (.ss 0 1) ∗ zero c (.ss 0 2) ∗ zero c (.rs 0 0) ∗ zero c (.rs 0 1) ∗ zero c (.rs 0 2) ∗ zero c (.rs 0 3) ∗ zero c (.ss 1 0) ∗ zero c (.ss 1 1) ∗ zero c (.ss 1 2) ∗ zero c (.rs 1 0) ∗ zero c (.rs 1 1) ∗ zero c (.rs 1 2) ∗ zero c (.rs 1 3) ∗ zero c (.ss 2 0) ∗ zero c (.ss 2 1) ∗ zero c (.ss 2 2) ∗ zero c (.rs 2 0) ∗ zero c (.rs 2 1) ∗ zero c (.rs 2 2) ∗ zero c (.rs 2 3) ∗ zero c (.ss 3 0) ∗ zero c (.ss 3 1) ∗ zero c (.ss 3 2) ∗ zero c (.rs 3 0) ∗ zero c (.rs 3 1) ∗ zero c (.rs 3 2) ∗ zero c (.rs 3 3) ∗ zero c (.w 0) ∗ zero c (.w 1)) := by
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide)]; rfl

theorem bar_eq (c : Dev nD) : (unscopedSems0 c : sProp 𝕄) = zero c .bar := by
  unfold unscopedSems0; rw [bigSep_eq_bigSepL_of_eq [SemLoc.reg barS] (by decide) (by decide)]; rfl

theorem ck_plain (P : CK → sProp 𝕄) :
    bigSep Finset.univ P = (iprop(P .bar ∗ P (.ss 0 0) ∗ P (.ss 0 1) ∗ P (.ss 0 2) ∗ P (.rs 0 0) ∗ P (.rs 0 1) ∗ P (.rs 0 2) ∗ P (.rs 0 3) ∗ P (.ss 1 0) ∗ P (.ss 1 1) ∗ P (.ss 1 2) ∗ P (.rs 1 0) ∗ P (.rs 1 1) ∗ P (.rs 1 2) ∗ P (.rs 1 3) ∗ P (.ss 2 0) ∗ P (.ss 2 1) ∗ P (.ss 2 2) ∗ P (.rs 2 0) ∗ P (.rs 2 1) ∗ P (.rs 2 2) ∗ P (.rs 2 3) ∗ P (.ss 3 0) ∗ P (.ss 3 1) ∗ P (.ss 3 2) ∗ P (.rs 3 0) ∗ P (.rs 3 1) ∗ P (.rs 3 2) ∗ P (.rs 3 3) ∗ P (.w 0) ∗ P (.w 1)) : sProp 𝕄) := by
  rw [bigSep_univ_eq_bigSepL [.bar, .ss 0 0, .ss 0 1, .ss 0 2, .rs 0 0, .rs 0 1, .rs 0 2, .rs 0 3, .ss 1 0, .ss 1 1, .ss 1 2, .rs 1 0, .rs 1 1, .rs 1 2, .rs 1 3, .ss 2 0, .ss 2 1, .ss 2 2, .rs 2 0, .rs 2 1, .rs 2 2, .rs 2 3, .ss 3 0, .ss 3 1, .ss 3 2, .rs 3 0, .rs 3 1, .rs 3 2, .rs 3 3, .w 0, .w 1] (by decide +kernel) (by decide +kernel)]
  rfl

theorem zeros_eq (c : Dev nD) :
    (iprop(unscopedSems0 c ∗ Pipeline.ownSems0 (Ix := Unit) (Name := ℕ) (U := UU) (Lvl := ℕ) (Val := Elt F) (τ := τ) osem c) : sProp 𝕄)
      = bigSep Finset.univ fun k => zero (F := F) c k := by
  rw [own_eq, bar_eq, ck_plain]

/-! ## The cells and the tokens -/

theorem cell_inj : Function.Injective (fun p : Dev nD × CK => cell p.1 p.2) := by
  rintro ⟨c, k⟩ ⟨c', k'⟩ h
  have h1 : c = c' := congrArg (fun g : GSem nD τ sig => g.1.1) h
  have h2 : k = k' := semOf_inj (congrArg Prod.snd h)
  rw [h1, h2]
def cellsF : Finset (GSem nD τ sig) := Finset.univ.map ⟨_, cell_inj⟩

abbrev tokOf (p : (Dev nD × CK) × Fin 3) : GSem nD τ sig × ℕ × Fin 3 := (cell p.1.1 p.1.2, 0, p.2)
theorem tokOf_inj : Function.Injective tokOf := by
  rintro ⟨p, d⟩ ⟨p', d'⟩ h
  have h1 : p = p' := cell_inj (congrArg Prod.fst h)
  have h2 : d = d' := congrArg (fun x : GSem nD τ sig × ℕ × Fin 3 => x.2.2) h
  rw [h1, h2]
def toksF : Finset (GSem nD τ sig × ℕ × Fin 3) := Finset.univ.map ⟨tokOf, tokOf_inj⟩

def u₀ : UU :=
  (initOf (Pipeline.cells cfgs cellOf_inj) (Pipeline.launchToks cfgs cellOf_inj), initOf cellsF toksF)

/-- A device's own cells' tokens, as dealt. -/
def dealt (c : Dev nD) : sProp 𝕄 := bigSep Finset.univ fun k : CK => bigSep Finset.univ fun d : Fin 3 => tk c k d

/-- What the launch deals a device. -/
def G (c : Dev nD) : sProp 𝕄 :=
  iprop((bigSep Finset.univ fun k : CK => roundState ER (Rd m) (cell c k) 0)
    ∗ (bigSep Finset.univ fun k : CK => at0 c k) ∗ (bigSep Finset.univ fun k : CK => reached ER (cell c k) 0) ∗ dealt c)

theorem fund_cells : BI.own (ER (initOf cellsF toksF)) ⊢ (|==> bigSep Finset.univ (G m) : sProp 𝕄) := by
  have hX (Φ : GSem nD τ sig → sProp 𝕄) : bigSep cellsF Φ = bigSep Finset.univ fun c : Dev nD => bigSep Finset.univ fun k : CK => Φ (cell c k) := by
    unfold cellsF; rw [bigSep_map, bigSep_univ_prod]; rfl
  have hT : bigSep toksF (fun x => (dutyTok ER x.1 x.2.1 x.2.2 : sProp 𝕄)) = bigSep Finset.univ fun c : Dev nD => dealt c := by
    unfold toksF; rw [bigSep_map, bigSep_univ_prod, bigSep_univ_prod]; rfl
  iintro HX
  imod (Rounds.fund ER (Rd m) cellsF toksF) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (bigSep Finset.univ fun k : CK => at0 c k) ∗ (bigSep Finset.univ fun k : CK => reached ER (cell c k) 0) ∗ dealt c) := by
  unfold G
  iintro ⟨Hos, Hus, Hst, Hat, Hr, Htok⟩
  ihave Hv := (Entails.of_eq (zeros_eq (F := F) c)) $$ [Hos Hus]
  · isplitl [Hus] <;> iassumption
  imod (show iprop((bigSep Finset.univ fun k : CK => zero (F := F) c k) ∗ bigSep Finset.univ fun k : CK => roundState ER (Rd m) (cell c k) 0)
      ⊢ (|={Set.univ}=> bigSep Finset.univ fun k : CK => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## The tokens dealt around -/

/-- What others pay a device with. -/
def payIn (c : Dev nD) (r : Fin 3) : sProp 𝕄 :=
  iprop(tk c .bar r ∗ tk c (.rs 0 (sl c r)) 0 ∗ tk c (.rs 1 (sl c r)) 0 ∗ tk c (.rs 2 (sl c r)) 0 ∗ tk c (.rs 3 (sl c r)) 0)

theorem tk_zero (c : Dev nD) (k : CK) : (bigSep Finset.univ fun d : Fin 3 => (tk c k d : sProp 𝕄)) ⊢ tk c k 0 := bigSep_elim (Finset.mem_univ _)

set_option maxRecDepth 20000 in
theorem dealt_sort (c : Dev nD) : (dealt c : sProp 𝕄) ⊢ iprop((bigSep Finset.univ fun r => payIn c r) ∗ payOwn c) := by
  unfold dealt payOwn
  rw [ck_list c, bigSep_three (fun r => payIn c r)]
  unfold payIn
  iintro ⟨tB, tW0, tW1, tS00, tS01, tS02, tS10, tS11, tS12, tS20, tS21, tS22, tS30, tS31, tS32, tY0, tY1, tY2, tY3, tR00, tR01, tR02, tR10, tR11, tR12, tR20, tR21, tR22, tR30, tR31, tR32⟩
  ihave tB := (Entails.of_eq (bigSep_three (fun d : Fin 3 => tk c .bar d))) $$ tB
  icases tB with ⟨tB0, tB1, tB2⟩
  ihave tW0 := (tk_zero c (.w 0)) $$ tW0
  ihave tW1 := (tk_zero c (.w 1)) $$ tW1
  ihave tS00 := (tk_zero c (.ss 0 0)) $$ tS00
  ihave tS01 := (tk_zero c (.ss 0 1)) $$ tS01
  ihave tS02 := (tk_zero c (.ss 0 2)) $$ tS02
  ihave tS10 := (tk_zero c (.ss 1 0)) $$ tS10
  ihave tS11 := (tk_zero c (.ss 1 1)) $$ tS11
  ihave tS12 := (tk_zero c (.ss 1 2)) $$ tS12
  ihave tS20 := (tk_zero c (.ss 2 0)) $$ tS20
  ihave tS21 := (tk_zero c (.ss 2 1)) $$ tS21
  ihave tS22 := (tk_zero c (.ss 2 2)) $$ tS22
  ihave tS30 := (tk_zero c (.ss 3 0)) $$ tS30
  ihave tS31 := (tk_zero c (.ss 3 1)) $$ tS31
  ihave tS32 := (tk_zero c (.ss 3 2)) $$ tS32
  ihave tR00 := (tk_zero c (.rs 0 (sl c 0))) $$ tR00
  ihave tR01 := (tk_zero c (.rs 0 (sl c 1))) $$ tR01
  ihave tR02 := (tk_zero c (.rs 0 (sl c 2))) $$ tR02
  ihave tR10 := (tk_zero c (.rs 1 (sl c 0))) $$ tR10
  ihave tR11 := (tk_zero c (.rs 1 (sl c 1))) $$ tR11
  ihave tR12 := (tk_zero c (.rs 1 (sl c 2))) $$ tR12
  ihave tR20 := (tk_zero c (.rs 2 (sl c 0))) $$ tR20
  ihave tR21 := (tk_zero c (.rs 2 (sl c 1))) $$ tR21
  ihave tR22 := (tk_zero c (.rs 2 (sl c 2))) $$ tR22
  ihave tR30 := (tk_zero c (.rs 3 (sl c 0))) $$ tR30
  ihave tR31 := (tk_zero c (.rs 3 (sl c 1))) $$ tR31
  ihave tR32 := (tk_zero c (.rs 3 (sl c 2))) $$ tR32
  isplitl [tB0 tB1 tB2 tR00 tR10 tR20 tR30 tR01 tR11 tR21 tR31 tR02 tR12 tR22 tR32]
  · isplitl [tB0 tR00 tR10 tR20 tR30]
    · isplitl [tB0]; · iexact tB0
      isplitl [tR00]; · iexact tR00
      isplitl [tR10]; · iexact tR10
      isplitl [tR20]; · iexact tR20
      iexact tR30
    isplitl [tB1 tR01 tR11 tR21 tR31]
    · isplitl [tB1]; · iexact tB1
      isplitl [tR01]; · iexact tR01
      isplitl [tR11]; · iexact tR11
      isplitl [tR21]; · iexact tR21
      iexact tR31
    isplitl [tB2]; · iexact tB2
    isplitl [tR02]; · iexact tR02
    isplitl [tR12]; · iexact tR12
    isplitl [tR22]; · iexact tR22
    iexact tR32
  isplitl [tW0]; · iexact tW0
  isplitl [tW1]; · iexact tW1
  isplitl [tS00]; · iexact tS00
  isplitl [tS01]; · iexact tS01
  isplitl [tS02]; · iexact tS02
  isplitl [tS10]; · iexact tS10
  isplitl [tS11]; · iexact tS11
  isplitl [tS12]; · iexact tS12
  isplitl [tS20]; · iexact tS20
  isplitl [tS21]; · iexact tS21
  isplitl [tS22]; · iexact tS22
  isplitl [tS30]; · iexact tS30
  isplitl [tS31]; · iexact tS31
  iexact tS32

theorem turn (c : Dev nD) (r : Fin 3) : (payIn (nb c r) (2 - r) : sProp 𝕄) = payOut c r := by
  unfold payIn payOut; rw [sl_nb]

theorem toks_around : (bigSep Finset.univ fun c : Dev nD => (dealt c : sProp 𝕄))
    ⊢ bigSep Finset.univ fun c : Dev nD => iprop((bigSep Finset.univ fun r => payOut c r) ∗ payOwn c) := by
  refine (bigSep_mono fun c _ => dealt_sort c).trans ?_
  rw [bigSep_sep', bigSep_sep', ← bigSep_univ_prod (fun p : Dev nD × Fin 3 => (payIn p.1 p.2 : sProp 𝕄)),
    bigSep_univ_equiv flip3 (fun p : Dev nD × Fin 3 => (payIn p.1 p.2 : sProp 𝕄)),
    ← bigSep_univ_prod (fun p : Dev nD × Fin 3 => (payOut p.1 p.2 : sProp 𝕄))]
  exact Entails.of_eq (congrArg (fun x => iprop(x ∗ bigSep Finset.univ fun c : Dev nD => payOwn c)) (bigSep_congr fun p _ => turn p.1 p.2))

/-! ## The global step -/

def records (K : Dev nD × CK → ℕ) : sProp 𝕄 :=
  iprop((bigSep Finset.univ fun p : Dev nD × CK => cellInv ER (Rd m) (K p) (cell p.1 p.2))
    ∗ bigSep Finset.univ fun p : Dev nD × CK => reached ER (cell p.1 p.2) 0)
instance records_persistent (K : Dev nD × CK → ℕ) : BI.Persistent (records m K) := by unfold records; infer_instance

/-- What stays with a device. -/
def mine (c : Dev nD) : sProp 𝕄 :=
  iprop((bigSep Finset.univ fun k : CK => at0 c k) ∗ (bigSep Finset.univ fun r => payOut c r) ∗ payOwn c)

def G' (c : Dev nD) : sProp 𝕄 := iprop(∃ K, records m K ∗ mine c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem give_each (K : Dev nD × CK → ℕ) (c : Dev nD) : iprop(records m K ∗ mine c) ⊢ G' m c := by
  unfold G'; iintro H; iexists K; iexact H

theorem regroup :
    (bigSep Finset.univ fun c : Dev nD => iprop((bigSep Finset.univ fun k : CK => iprop(∃ κ : ℕ, cellInv ER (Rd m) κ (cell c k)))
          ∗ (bigSep Finset.univ fun k : CK => at0 c k) ∗ (bigSep Finset.univ fun k : CK => reached ER (cell c k) 0) ∗ dealt c) : sProp 𝕄)
      ⊢ bigSep Finset.univ (G' m) := by
  rw [bigSep_sep', bigSep_sep', bigSep_sep', ← bigSep_univ_prod (fun p : Dev nD × CK => iprop(∃ κ : ℕ, cellInv ER (Rd m) κ (cell p.1 p.2))),
    ← bigSep_univ_prod (fun p : Dev nD × CK => (reached ER (cell p.1 p.2) 0 : sProp 𝕄))]
  iintro ⟨HI, Hat, #HR, Htok⟩
  ihave HK := (BI.bigSep_exists_pi Finset.univ (fun (p : Dev nD × CK) (κ : ℕ) => (cellInv ER (Rd m) κ (cell p.1 p.2) : sProp 𝕄))) $$ HI
  icases HK with ⟨%K, #HI⟩
  ihave Htk := (toks_around (F := F)) $$ Htok
  iapply (with_persistent (R := records m K) fun c _ => give_each m K c)
  isplitr
  · unfold records; isplitl; · iexact HI
    iexact HR
  · unfold mine
    iapply (Entails.of_eq (bigSep_sep' Finset.univ (fun c : Dev nD => bigSep Finset.univ fun k : CK => at0 (F := F) c k)
      (fun c => iprop((bigSep Finset.univ fun r => payOut c r) ∗ payOwn c))).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem pay_nb (c : Dev nD) (k : CK) (r : Fin 3) (kk : Dev nD → CK) :
    ∑ d : Dev nD, (tallyAt (cell (nb d r) (kk d)) () (amt (kk d)) : CellTallies nD τ sig Unit) (cell c k) ()
      = if kk (nb c (2 - r)) = k then amt k else 0 := by
  rw [Finset.sum_eq_single (nb c (2 - r))]
  · have h := nb_nb c (2 - r); rw [two_sub] at h
    rw [h, tallyAt_apply]
    by_cases hk : kk (nb c (2 - r)) = k
    · rw [hk, if_pos ⟨rfl, rfl⟩, if_pos rfl]
    · rw [if_neg (fun h' => hk (semOf_inj (congrArg Prod.snd h'.1)).symm), if_neg hk]
  · intro d _ hd
    rw [tallyAt_apply, if_neg (fun h' => hd ?_)]
    have h1 : c = nb d r := congrArg (fun g : GSem nD τ sig => g.1.1) h'.1
    rw [h1, nb_nb]
  · intro h; exact absurd (Finset.mem_univ _) h

theorem pay_bar (c : Dev nD) (k : CK) (r : Fin 3) :
    ∑ d : Dev nD, (tallyAt (cell (nb d r) .bar) () (amt .bar) : CellTallies nD τ sig Unit) (cell c k) ()
      = if CK.bar = k then amt k else 0 := pay_nb c k r (fun _ => .bar)
theorem pay_rs (c : Dev nD) (k : CK) (r : Fin 3) (j : Fin 4) :
    ∑ d : Dev nD, (tallyAt (cell (nb d r) (.rs j (yc d))) () (amt (.rs j (yc d))) : CellTallies nD τ sig Unit) (cell c k) ()
      = if CK.rs j (sl c (2 - r)) = k then amt k else 0 := by
  rw [pay_nb c k r (fun d => .rs j (yc d)), yc_nb]

theorem owed_sum (c : Dev nD) (k : CK) :
    ∑ d : Dev nD, O d 0 (cell c k) () = ((owedL c).map fun p => match p.2 with | .bar => if CK.bar = k then amt k else 0 | _ => 0).sum
      + ∑ j : Fin 4, ∑ r : Fin 3, if CK.rs j (sl c r) = k then amt k else 0 := by
  simp only [O, owedL, List.drop_zero, sumL, Pi.add_apply, Finsupp.add_apply, Pi.zero_apply, Finsupp.zero_apply, Finset.sum_add_distrib, Finset.sum_const_zero,
    pay_bar, pay_rs, Fin.sum_univ_four, Fin.sum_univ_three, List.map_cons, List.map_nil, List.sum_cons, List.sum_nil]
  rw [show (2 : Fin 3) - 0 = 2 from rfl, show (2 : Fin 3) - 1 = 1 from rfl, show (2 : Fin 3) - 2 = 0 from rfl]
  omega

theorem owed_bar (c : Dev nD) : ∑ d : Dev nD, O d 0 (cell c .bar) () = 3 := by
  rw [owed_sum]
  simp only [owedL, List.map_cons, List.map_nil, List.sum_cons, List.sum_nil, if_true, reduceCtorEq, if_false, Finset.sum_const_zero]
  rfl

theorem owed_rs (c : Dev nD) (j : Fin 4) (r : Fin 3) : ∑ d : Dev nD, O d 0 (cell c (.rs j (sl c r))) () = amt (.rs j (sl c r)) := by
  rw [owed_sum]
  simp only [owedL, List.map_cons, List.map_nil, List.sum_cons, List.sum_nil, reduceCtorEq, if_false]
  rw [Finset.sum_eq_single j, Finset.sum_eq_single r, if_pos rfl]
  · omega
  · intro s _ hs; rw [if_neg fun h => hs (sl_inj c s r (CK.rs.inj h).2)]
  · intro h; exact absurd (Finset.mem_univ _) h
  · intro i _ hi; exact Finset.sum_eq_zero fun s _ => if_neg fun h => hi (CK.rs.inj h).1
  · intro h; exact absurd (Finset.mem_univ _) h

theorem launch_at (c : Dev nD) (k : CK) (n : ℕ) (h : ∑ d : Dev nD, O d 0 (cell c k) () = n) :
    tallyOn (cell c k) (launchCredit (Pipeline.owing fun d => O d 0) 0 (cell c k)) = (tallyAt (cell c k) () n : CellTallies nD τ sig Unit) := by
  unfold tallyAt; refine congrArg _ (Finsupp.ext fun u => ?_); cases u
  rw [Pipeline.launchCredit_owing, Finsupp.single_eq_same]; exact h

theorem creds (c : Dev nD) : (Pipeline.launchCred (fun d => O d 0) c : sProp 𝕄) ⊢ credits c := by
  have h1 : (Pipeline.launchCred (fun d => O d 0) c : sProp 𝕄)
      ⊢ bigSep Finset.univ fun k : CK => cred (tallyOn (cell c k) (launchCredit (Pipeline.owing fun d => O d 0) 0 (cell c k))) := by
    unfold Pipeline.launchCred
    exact (bigSep_subset (Finset.subset_univ (Finset.univ.map ⟨semOf, fun _ _ h => semOf_inj h⟩))).trans
      (Entails.of_eq (bigSep_map _))
  refine h1.trans ?_
  rw [ck_list c]
  unfold credits cr
  iintro ⟨cB, cW0, cW1, cS00, cS01, cS02, cS10, cS11, cS12, cS20, cS21, cS22, cS30, cS31, cS32, cY0, cY1, cY2, cY3, cR00, cR01, cR02, cR10, cR11, cR12, cR20, cR21, cR22, cR30, cR31, cR32⟩
  ihave cB := (Entails.of_eq (congrArg (fun x => (cred x : sProp 𝕄)) (launch_at c .bar 3 (owed_bar c)))) $$ cB
  isplitl [cB]; · iexact cB
  ihave cR00 := (Entails.of_eq (congrArg (fun x => (cred x : sProp 𝕄)) (launch_at c (.rs 0 (sl c 0)) _ (owed_rs c 0 0)))) $$ cR00
  ihave cR01 := (Entails.of_eq (congrArg (fun x => (cred x : sProp 𝕄)) (launch_at c (.rs 0 (sl c 1)) _ (owed_rs c 0 1)))) $$ cR01
  ihave cR02 := (Entails.of_eq (congrArg (fun x => (cred x : sProp 𝕄)) (launch_at c (.rs 0 (sl c 2)) _ (owed_rs c 0 2)))) $$ cR02
  ihave cR10 := (Entails.of_eq (congrArg (fun x => (cred x : sProp 𝕄)) (launch_at c (.rs 1 (sl c 0)) _ (owed_rs c 1 0)))) $$ cR10
  ihave cR11 := (Entails.of_eq (congrArg (fun x => (cred x : sProp 𝕄)) (launch_at c (.rs 1 (sl c 1)) _ (owed_rs c 1 1)))) $$ cR11
  ihave cR12 := (Entails.of_eq (congrArg (fun x => (cred x : sProp 𝕄)) (launch_at c (.rs 1 (sl c 2)) _ (owed_rs c 1 2)))) $$ cR12
  ihave cR20 := (Entails.of_eq (congrArg (fun x => (cred x : sProp 𝕄)) (launch_at c (.rs 2 (sl c 0)) _ (owed_rs c 2 0)))) $$ cR20
  ihave cR21 := (Entails.of_eq (congrArg (fun x => (cred x : sProp 𝕄)) (launch_at c (.rs 2 (sl c 1)) _ (owed_rs c 2 1)))) $$ cR21
  ihave cR22 := (Entails.of_eq (congrArg (fun x => (cred x : sProp 𝕄)) (launch_at c (.rs 2 (sl c 2)) _ (owed_rs c 2 2)))) $$ cR22
  ihave cR30 := (Entails.of_eq (congrArg (fun x => (cred x : sProp 𝕄)) (launch_at c (.rs 3 (sl c 0)) _ (owed_rs c 3 0)))) $$ cR30
  ihave cR31 := (Entails.of_eq (congrArg (fun x => (cred x : sProp 𝕄)) (launch_at c (.rs 3 (sl c 1)) _ (owed_rs c 3 1)))) $$ cR31
  ihave cR32 := (Entails.of_eq (congrArg (fun x => (cred x : sProp 𝕄)) (launch_at c (.rs 3 (sl c 2)) _ (owed_rs c 3 2)))) $$ cR32
  isplitl [cR00]; · iexact cR00
  isplitl [cR01]; · iexact cR01
  isplitl [cR02]; · iexact cR02
  isplitl [cR10]; · iexact cR10
  isplitl [cR11]; · iexact cR11
  isplitl [cR12]; · iexact cR12
  isplitl [cR20]; · iexact cR20
  isplitl [cR21]; · iexact cR21
  isplitl [cR22]; · iexact cR22
  isplitl [cR30]; · iexact cR30
  isplitl [cR31]; · iexact cR31
  iexact cR32

/-! ## The pipeline's data -/

/-- What a device's body starts from. -/
def start (c : Dev nD) : sProp 𝕄 :=
  iprop(G' m c ∗ credits c ∗ levAts L lv ∗ W1Pts m c ∗ W2Pts m c)

def Φ₀ (c : Dev nD) : sProp 𝕄 := iprop(start m c ∗ Pipeline.scopedRest spec0 c)
def Φ₁ (c : Dev nD) : sProp 𝕄 :=
  iprop((bigSep Finset.univ fun k => zero (F := F) c k) ∗ Pipeline.scopedRest spec0 c ∗ W1Pts m c ∗ W2Pts m c)

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => R m c
    | ⟨2, _⟩ => outAt m c
  Φ t := match t with
    | ⟨0, _⟩ => Φ₀ m c
    | ⟨_ + 1, _⟩ => Φ₁ m c
  q _ := fullShare
  owed t := match t with
    | ⟨0, _⟩ => O c 0
    | ⟨_ + 1, _⟩ => 0

theorem share_eq (c : Dev nD) (w : Fin cfg0.W) : (dats m 0 c).share w = fullShare := by unfold Dat.share; split <;> rfl

theorem fetch_in (t : Fin cfg0.N) : (cfg0.win (0 : Fin 3)).fetch t = true := by rw [fin_N0 t]; rfl
theorem fetch_in1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ ∗ stg c cc0_stg0_0 (X m c) ∗ stg c cc0_stg1_0 (R m c) ∗ stg c cc0_stg2_0 (outAt m c))

set_option maxHeartbeats 1600000 in
theorem sound_body (c : Dev nD) :
    bodyPre m c ⊢ wpc c (cc0__body (F := F) xM (Memref.isWhole_whole _) rtM (Memref.isWhole_whole _) W1M (Memref.isWhole_whole _) W2M (Memref.isWhole_whole _) oM (Memref.isWhole_whole _) xgM (Memref.isWhole_whole _) rgM (Memref.isWhole_whole _) pyM (Memref.isWhole_whole _) cbM (Memref.isWhole_whole _) rbM (Memref.isWhole_whole _) w1M (Memref.isWhole_whole _) w2M (Memref.isWhole_whole _) cc0_scratch7 cc0_scratch8 cc0_scratch9 cc0_scratch10 cc0_scratch11 cc0_scratch12 cc0_scratch13 cc0_scratch14 cc0_scratch15) (fun _ => bodyPost m c) := by
  unfold bodyPre Φ₀ start G' mine
  iintro ⟨⟨⟨⟨%K, #HR, Hat, Hto, Htk⟩, Hcr, #Hlev, HW1, HW2⟩, Hs⟩, Ho, ⟨%d0, %g0, %hg0, Hx⟩, ⟨%d1, %g1, %hg1, Hrt⟩, ⟨%d2, %g2, %hg2, Hout⟩⟩
  have hx : g0 = X m c := by rw [hg0]; unfold Dat.before; rw [if_pos (fetch_in t0_0)]; rfl
  have hr : g1 = R m c := by rw [hg1]; unfold Dat.before; rw [if_pos (fetch_in1 t0_0)]; rfl
  subst hx hr
  unfold Dat.owesAt Pipeline.owesWithin
  icases Ho with ⟨%W, %hW, HO⟩
  rw [show (dats m 0 c).owed t0_0.castSucc = O c 0 from rfl]
  ihave H := (enter m c) $$ [Hat Hto Htk Hcr HW1 HW2 Hs Hx Hrt Hout HO]
  · isplitl [Hat]; · iexact Hat
    isplitl [Hto]; · iexact Hto
    isplitl [Htk]; · iexact Htk
    isplitl [Hcr]; · iexact Hcr
    isplitl [HW1]; · iexact HW1
    isplitl [HW2]; · iexact HW2
    isplitl [Hs]; · iexact Hs
    isplitl [Hx]; · unfold xP; iexact Hx
    isplitl [Hrt]; · unfold rtP; iexact Hrt
    isplitl [Hout]; · iexists g2; unfold oP; iexact Hout
    unfold ow; iexists W; iexact HO
  icases H with ⟨Hp, Has⟩
  ihave #Hb : base m K $$ []
  · unfold base
    unfold records
    icases HR with ⟨#H1, #H2⟩
    isplitr; · iexact H1
    isplitr; · iexact H2
    iexact Hlev
  imod (aside_close m K c) $$ [Has] with Hz
  · isplitr; · iexact Hb
    iexact Has
  iapply (body m K c (Q := fun _ => bodyPost m c)) $$ [Hp]
  · isplitr; · iexact Hb
    iexact Hp
  iintro Hp
  ihave H := (leave m c) $$ [Hp Hz]
  · isplitl [Hp] <;> iassumption
  icases H with ⟨Hz, Hs, HW1, HW2, Hx, Hrt, Hout, HO⟩
  unfold bodyPost Φ₁ Dat.owesAt Pipeline.owesWithin ow
  rw [show (dats m 0 c).owed t0_0.succ = 0 from rfl]
  icases HO with ⟨%W', HO⟩
  isplitl [Hz Hs HW1 HW2]
  · isplitl [Hz]; · iexact Hz
    isplitl [Hs]; · iexact Hs
    isplitl [HW1] <;> iassumption
  isplitl [HO]
  · iexists W'
    isplitr; · ipureintro; exact fun _ _ => Or.inl trivial
    iexact HO
  isplitl [Hx]
  · iexists _; isplitr; · (ipureintro; rfl)
    unfold xP; iexact Hx
  isplitl [Hrt]
  · iexists _; isplitr; · (ipureintro; rfl)
    unfold rtP; iexact Hrt
  iexists _; isplitr; · (ipureintro; rfl)
  unfold oP; iexact Hout

theorem bigSep_W (Φ : Fin cfg0.W → sProp 𝕄) : bigSep Finset.univ Φ = iprop(Φ (0 : Fin 3) ∗ Φ (1 : Fin 3) ∗ Φ (2 : Fin 3)) := bigSep_W0 Φ

/-- The body's obligation on every device. -/
theorem body_obligation (c : Dev nD) : BodyObligation (dats (F := F) m 0 c) (defs₀ (F := F)) 𝒱₀ () Set.univ := fun t => by
  rw [fin_N0 t]
  rw [bigSep_W, bigSep_W]
  simp only [owns_whole_eq]
  exact sound_body m c

/-! ## The launch's side conditions -/

theorem W1_whole (c : Dev nD) : (W1Pts m c : sProp 𝕄) = (((c : Thread nD τ).loc main_arg2) ↦{fullShare} m ((c : Thread nD τ).loc main_arg2)) := by
  unfold W1Pts; simp only [Memref.view_whole, View.set_whole]
theorem W2_whole (c : Dev nD) : (W2Pts m c : sProp 𝕄) = (((c : Thread nD τ).loc main_arg3) ↦{fullShare} m ((c : Thread nD τ).loc main_arg3)) := by
  unfold W2Pts; simp only [Memref.view_whole, View.set_whole]

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp) := by
  rw [Pipeline.unscopedRestP_none]
  rw [show (Pipeline.unscopedRest cfg0.spec c (fun b => m ((c : Thread nD τ).loc b)) : sProp 𝕄) = _ from unscopedRest0_eq c _]
  iintro ⟨⟨HW1, HW2⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [HW1]
    · rw [W1_whole]; iexact HW1
    rw [W2_whole]; iexact HW2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

/-- What a device ends with. -/
def fin (c : Dev nD) : sProp 𝕄 := iprop(unscopedSems0 c ∗ W1Pts m c ∗ W2Pts m c)

theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Φ₁ m c from rfl]
  unfold Φ₁ fin
  rw [← zeros_eq]
  iintro ⟨⟨HzB, HzO⟩, Hr, HW1, HW2⟩
  isplitl [HzB HW1 HW2]
  · isplitl [HzB]; · iexact HzB
    isplitl [HW1] <;> iassumption
  isplitl [HzO]; · iexact HzO
  iexact Hr

theorem stage_wait (c : Dev nD) (sm : SemLoc sig) (h : ckOf sm = none) (O' : CellTallies nD τ sig Unit) (hO : O' = O c 0 ∨ O' = 0) :
    (levAts L lv : sProp 𝕄) ⊢ MayWait (c : Thread nD τ) sm () O' := by
  rcases hO with rfl | rfl
  · exact mayWait_list c sm 0 (by unfold lv; rw [h]) (owedL c) (by
      have := lev_above c 0 0 (by decide); rwa [List.drop_zero] at this)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    stage_wait c _ (by fin_cases w <;> fin_cases s <;> rfl) _ (by
      rcases t with ⟨_ | _, ht⟩
      · exact Or.inl rfl
      · exact Or.inr rfl)

/-! ## The run -/

/-- What the final state of a device's memory is: its arrays as launched but for the result, the counters at zero. -/
def QC (r : PUnit × MemSt nD τ sig (Elt F)) : Prop :=
  ∀ c : Dev nD, (∀ w : Fin cfg0.W, r.2.mem ((cfg0.win w).arr.view.loc (c : Thread nD τ)) = (dats m 0 c).arrAt w cfg0.N)
    ∧ r.2.mem ((c : Thread nD τ).loc main_arg2) = m ((c : Thread nD τ).loc main_arg2)
    ∧ r.2.mem ((c : Thread nD τ).loc main_arg3) = m ((c : Thread nD τ).loc main_arg3)

def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)

theorem read_one (c : Dev nD) (b : Ref sig .tc) (f : Buf (Elt F) ((c : Thread nD τ).loc b)) (s' : Phys nD τ sig (Elt F)) :
    (iprop((((c : Thread nD τ).loc b) ↦{fullShare} f) ∗ SI s') : sProp 𝕄) ⊢ iprop(⌜s'.mem.mem ((c : Thread nD τ).loc b) = f⌝ ∗ SI s') := by
  iintro ⟨H, HSI⟩
  icombine HSI H gives %h
  isplitr; · ipureintro; exact Buf.eq_of_forall_mem_univ h
  iexact HSI

theorem read_fin (c : Dev nD) (s' : Phys nD τ sig (Elt F)) :
    (iprop(fin m c ∗ emp ∗ SI s') : sProp 𝕄) ⊢ |={Set.univ}=> iprop(⌜QY m c s'.mem⌝ ∗ SI s') := by
  unfold fin
  rw [W1_whole, W2_whole]
  iintro ⟨⟨Hu, HW1, HW2⟩, -, HSI⟩
  ihave H := (read_one c main_arg2 _ s') $$ [HW1 HSI]
  · isplitl [HW1] <;> iassumption
  icases H with ⟨%h2, HSI⟩
  ihave H := (read_one c main_arg3 _ s') $$ [HW2 HSI]
  · isplitl [HW2] <;> iassumption
  icases H with ⟨%h3, HSI⟩
  imod (Pipeline.unscopedSems0_read (X := unscopedSems0 c) (c := c) fupd_intro s') $$ [Hu HSI] with H
  · isplitl [Hu] <;> iassumption
  icases H with ⟨%h1, HSI⟩
  imodintro
  isplitr; · ipureintro; exact ⟨h1, h2, h3⟩
  iexact HSI

set_option maxRecDepth 8000 in
/-- From any memory with zero counters, every execution on every device ends, the result array of each device at the
    contents computed, its arguments as they were, every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := fun d => O d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m) (hout := phi1_exit m)
    (QY := QY m)
    (hY := read_fin m)
    (hQ := fun _ h hs => ⟨fun c => ⟨(h c).1, (h c).2.2.2⟩, sem_eq_zero hs fun c => (h c).2.2.1⟩)

/-- The arguments after the run. -/
theorem final_x (c : Dev nD) : (dats (F := F) m 0 c).arrAt (0 : Fin 3) cfg0.N = m (win0_0.arr.view.loc (c : Thread nD τ)) :=
  (dats (F := F) m 0 c).arrAt_in (0 : Fin 3) rfl _
theorem final_r (c : Dev nD) : (dats (F := F) m 0 c).arrAt (1 : Fin 3) cfg0.N = m (win0_1.arr.view.loc (c : Thread nD τ)) :=
  (dats (F := F) m 0 c).arrAt_in (1 : Fin 3) rfl _

end

end Cert.KP

end
-- ==== Proof.Top2.lean ====
/-
# `Top2`: the two greatest of eight gates

The running pair of greatest gates with their places, one gate at a time, as the kernel keeps it; what it ends with;
and the weights that the two get.
-/
module

public import Idealize.ShloMosaic.Lib.ValueIdx
public import Idealize.ShloMosaic.Lib.IdealHost
public import Idealize.ShloMosaic.Lib.KernelVsHost
public import Idealize.ShloMosaic.Lib.WordCmp

@[expose] public section

noncomputable section

namespace Cert.KP

open Idealize.ShloMosaic

/-- The two greatest gates so far and their places. -/
structure Two where
  m1 : EReal
  m2 : EReal
  i1 : BitVec 32
  i2 : BitVec 32

/-- One gate more. -/
def Two.step (s : Two) (g : EReal) (e : BitVec 32) : Two where
  m1 := Scalar.select (Ideal.cmp .ogt g s.m1) g s.m1
  m2 := Scalar.select (Ideal.cmp .ogt g s.m1) s.m1 (Scalar.select (Ideal.cmp .ogt g s.m2) g s.m2)
  i1 := Scalar.select (Ideal.cmp .ogt g s.m1) e s.i1
  i2 := Scalar.select (Ideal.cmp .ogt g s.m1) s.i1 (Scalar.select (Ideal.cmp .ogt g s.m2) e s.i2)

/-- After the first `n` gates. -/
def Two.after (g : ℕ → EReal) : ℕ → Two
  | 0 => ⟨⊥, ⊥, 0#32, 0#32⟩
  | n + 1 => (Two.after g n).step (g n) (BitVec.ofNat 32 n)

theorem Two.ext_of {s t : Two} (h1 : s.m1 = t.m1) (h2 : s.m2 = t.m2) (h3 : s.i1 = t.i1) (h4 : s.i2 = t.i2) : s = t := by
  cases s; cases t; simp_all

theorem select_ogt {α : Type} (x y : EReal) (a b : α) :
    Scalar.select (Ideal.cmp .ogt x y) a b = if y < x then a else b := by
  unfold Ideal.cmp Scalar.select
  by_cases h : y < x <;> simp [h]

/-- Gate `a` comes before gate `b`: greater, or equal and earlier. -/
def Ahead (g : ℕ → EReal) (a b : ℕ) : Prop := g b < g a ∨ (g a = g b ∧ a < b)

/-- `a` and `b` are the first two of the first `n` gates. -/
def Firsts (g : ℕ → EReal) (n a b : ℕ) : Prop :=
  a < n ∧ b < n ∧ a ≠ b ∧ Ahead g a b ∧ ∀ k < n, k ≠ a → k ≠ b → Ahead g b k

theorem after_eq (g : ℕ → EReal) (hg : ∀ k, g k ≠ ⊥) (n : ℕ) :
    ∃ a b, Firsts g (n + 2) a b ∧ Two.after g (n + 2) = ⟨g a, g b, BitVec.ofNat 32 a, BitVec.ofNat 32 b⟩ := by
  induction n with
  | zero =>
    have h0 : (⊥ : EReal) < g 0 := bot_lt_iff_ne_bot.2 (hg 0)
    have h1 : (⊥ : EReal) < g 1 := bot_lt_iff_ne_bot.2 (hg 1)
    by_cases h : g 0 < g 1
    · refine ⟨1, 0, ⟨by decide, by decide, by decide, Or.inl h, fun k hk h1 h2 => by omega⟩, ?_⟩
      simp [Two.after, Two.step, select_ogt, h0, h1, h]
    · refine ⟨0, 1, ⟨by decide, by decide, by decide, ?_, fun k hk h1 h2 => by omega⟩, ?_⟩
      · rcases lt_or_eq_of_le (not_lt.1 h) with h' | h'
        · exact Or.inl h'
        · exact Or.inr ⟨h'.symm, by decide⟩
      · simp [Two.after, Two.step, select_ogt, h0, h1, h]
  | succ n ih =>
    obtain ⟨a, b, ⟨ha, hb, hab, hah, hr⟩, he⟩ := ih
    have hstep : Two.after g (n + 1 + 2) = (Two.after g (n + 2)).step (g (n + 2)) (BitVec.ofNat 32 (n + 2)) := rfl
    rw [hstep, he]
    by_cases h1 : g a < g (n + 2)
    · refine ⟨n + 2, a, ⟨by omega, by omega, by omega, Or.inl h1, fun k hk hk1 hk2 => ?_⟩, ?_⟩
      · by_cases hkb : k = b
        · subst hkb; exact hah
        · have hbk := hr k (by omega) hk2 hkb
          rcases hah with h | ⟨h, h'⟩ <;> rcases hbk with h2 | ⟨h2, h2'⟩
          · exact Or.inl (h2.trans h)
          · exact Or.inl (h2 ▸ h)
          · exact Or.inl (h ▸ h2)
          · exact Or.inr ⟨h.trans h2, by omega⟩
      · simp [Two.step, select_ogt, h1]
    · by_cases h2 : g b < g (n + 2)
      · refine ⟨a, n + 2, ⟨by omega, by omega, by omega, ?_, fun k hk hk1 hk2 => ?_⟩, ?_⟩
        · rcases lt_or_eq_of_le (not_lt.1 h1) with h' | h'
          · exact Or.inl h'
          · exact Or.inr ⟨h'.symm, by omega⟩
        · by_cases hkb : k = b
          · subst hkb; exact Or.inl h2
          · rcases hr k (by omega) hk1 hkb with h | ⟨h, _⟩
            · exact Or.inl (h.trans h2)
            · exact Or.inl (h ▸ h2)
        · simp [Two.step, select_ogt, h1, h2]
      · refine ⟨a, b, ⟨by omega, by omega, hab, hah, fun k hk hk1 hk2 => ?_⟩, ?_⟩
        · by_cases hkn : k = n + 2
          · subst hkn
            rcases lt_or_eq_of_le (not_lt.1 h2) with h' | h'
            · exact Or.inl h'
            · exact Or.inr ⟨h'.symm, by omega⟩
          · exact hr k (by omega) hk1 hk2
        · simp [Two.step, select_ogt, h1, h2]

/-- The weight of the first of two gates, and of the second. -/
def wTop1 (u v : EReal) : EReal := Ideal.div 1 (1 + Ideal.exp (v - u))
def wTop2 (u v : EReal) : EReal := Ideal.div (Ideal.exp (v - u)) (1 + Ideal.exp (v - u))

/-- A small number survives the way to a real and back. -/
theorem fptosi_sitofp (w : BitVec 32) : Ideal.fptosi 32 (((w.toInt : ℝ)) : EReal) = w := by
  unfold Ideal.fptosi
  have h1 := BitVec.toInt_lt (x := w)
  have h2 := BitVec.le_toInt (x := w)
  rw [Ideal.toIntClamped_coe]
  have e : (if (0 : ℝ) ≤ (w.toInt : ℝ) then ⌊(w.toInt : ℝ)⌋ else ⌈(w.toInt : ℝ)⌉) = w.toInt := by
    split <;> simp
  rw [e]
  have : max (-((2 ^ (32 - 1) : ℕ) : ℤ)) (min (((2 ^ (32 - 1) : ℕ) : ℤ) - 1) w.toInt) = w.toInt := by
    norm_num at h1 h2 ⊢; omega
  rw [this, BitVec.ofInt_toInt]

/-- The sum over the eight places in which only the chosen two count. -/
theorem sum_two (Y : Fin 8 → EReal) (u v : EReal) (a b : Fin 8) (hab : a ≠ b) :
    (∑ e : Fin 8, Y e * (u * (if a = e then 1 else 0) + v * (if b = e then 1 else 0))) = Y a * u + Y b * v := by
  have h : ∀ e, Y e * (u * (if a = e then 1 else 0) + v * (if b = e then 1 else 0))
      = (if a = e then Y e * u else 0) + (if b = e then Y e * v else 0) := by
    intro e
    by_cases h1 : a = e
    · have h2 : b ≠ e := fun h => hab (h1.trans h.symm)
      simp [h1, h2]
    · by_cases h2 : b = e <;> simp [h1, h2]
  simp only [h, Finset.sum_add_distrib, Finset.sum_ite_eq, Finset.mem_univ, if_true]

end Cert.KP
-- ==== Proof.KTop.lean ====
/-
# `KTop`: the kernel's packed gates, row by row

A row of the packed gates holds the places and the weights of the two greatest of that token's eight gates.
-/
module

public import proofs.«01_k».proof.Proof.Vals
public import proofs.«01_k».proof.Proof.Top2
public import Idealize.ShloMosaic.Lib.MatmulPlain
public import Idealize.ShloMosaic.Lib.ValueLayout

@[expose] public section

noncomputable section

namespace Cert.KP

open Cert.KernelIdeal Cert.KernelIdeal.Gen
open Idealize.ShloMosaic Idealize.ShloMosaic.ValueIdx

/-- The running pair for every token of a block. -/
structure Twos where
  m1 : FVec Ideal S128x1 .f32
  m2 : FVec Ideal S128x1 .f32
  i1 : IVec S128x1 32
  i2 : IVec S128x1 32

def Twos.step (s : Twos) (g : FVec Ideal S128x1 .f32) (e : BitVec 32) : Twos where
  m1 := select (cmpf .ogt g s.m1) g s.m1
  m2 := select (cmpf .ogt g s.m1) s.m1 (select (cmpf .ogt g s.m2) g s.m2)
  i1 := select (cmpf .ogt g s.m1) (broadcast S128x1 e) s.i1
  i2 := select (cmpf .ogt g s.m1) s.i1 (select (cmpf .ogt g s.m2) (broadcast S128x1 e) s.i2)

def Twos.row (s : Twos) (t : Fin 128) : Two := ⟨s.m1 (ix2 t 0), s.m2 (ix2 t 0), s.i1 (ix2 t 0), s.i2 (ix2 t 0)⟩

theorem Twos.row_step (s : Twos) (g : FVec Ideal S128x1 .f32) (e : BitVec 32) (t : Fin 128) :
    (s.step g e).row t = (s.row t).step (g (ix2 t 0)) e := rfl

/-- The gates of two experts of one member, and each alone. -/
def two (x : Vec Ideal S128x512 .f32) (w : Vec Ideal S1x2x512 .f32) : FVec Ideal S128x2 .f32 := k0_pay21 x w
def colA (w : FVec Ideal S128x2 .f32) : FVec Ideal S128x1 .f32 := extractStridedSlice S128x1 ![0, 0] w slices_S128x2_o0_0_S128x1
def colB (w : FVec Ideal S128x2 .f32) : FVec Ideal S128x1 .f32 := extractStridedSlice S128x1 ![0, 1] w slices_S128x2_o0_1_S128x1

def Twos.pair (s : Twos) (w : FVec Ideal S128x2 .f32) (e e' : BitVec 32) : Twos := (s.step (colA w) e).step (colB w) e'

def twos0 : Twos := ⟨k0_pay4, k0_pay5, k0_pay6, broadcast S128x1 0#32⟩

variable (x : Vec Ideal S128x512 .f32) (g : Fin 4 → Vec Ideal S1x2x512 .f32)

def twos4 : Twos := (twos0.pair (two (k0_pay3 x) (g 0)) 0#32 1#32).pair (two (k0_pay3 x) (g 1)) 2#32 3#32
def twos8 : Twos := ((twos4 x g).pair (two (k0_pay3 x) (g 2)) 4#32 5#32).pair (two (k0_pay3 x) (g 3)) 6#32 7#32

theorem stageA (s : Twos) (v262 : FVec Ideal S128x512 .f32) (v269 : FVec Ideal S128x2 .f32) (w : Vec Ideal S1x2x512 .f32) :
    k0_pay31 v262 s.m1 v269 (colA v269) (cmpf .ogt (colA v269) s.m1) (s.step (colA v269) 0#32).m2 w
        = ((s.pair v269 0#32 1#32).pair (two v262 w) 2#32 3#32).m2
    ∧ k0_pay32 v262 s.m1 s.i1 v269 (colA v269) (cmpf .ogt (colA v269) s.m1) (s.step (colA v269) 0#32).m2
          (select (cmpf .ogt (colA v269) s.m2) (broadcast S128x1 0#32) s.i2) w
        = ((s.pair v269 0#32 1#32).pair (two v262 w) 2#32 3#32).i2
    ∧ k0_pay33 v262 s.m1 v269 (colA v269) (cmpf .ogt (colA v269) s.m1) w = ((s.pair v269 0#32 1#32).pair (two v262 w) 2#32 3#32).m1
    ∧ k0_pay34 v262 s.m1 s.i1 v269 (colA v269) (cmpf .ogt (colA v269) s.m1) w = ((s.pair v269 0#32 1#32).pair (two v262 w) 2#32 3#32).i1 :=
  ⟨rfl, rfl, rfl, rfl⟩

theorem stageB (s : Twos) (v262 : FVec Ideal S128x512 .f32) (v319 : FVec Ideal S128x2 .f32) (w : Vec Ideal S1x2x512 .f32) :
    k0_pay58 v262 s.m2 s.i2 s.m1 s.i1 v319 (colA v319) (cmpf .ogt (colA v319) s.m1) w
        = ((s.pair v319 4#32 5#32).pair (two v262 w) 6#32 7#32).i2
    ∧ k0_pay59 v262 s.m1 s.i1 v319 (colA v319) (cmpf .ogt (colA v319) s.m1) w = ((s.pair v319 4#32 5#32).pair (two v262 w) 6#32 7#32).i1
    ∧ k0_pay60 v262 s.m2 s.m1 v319 (colA v319) (cmpf .ogt (colA v319) s.m1) w
        = exp (subf ((s.pair v319 4#32 5#32).pair (two v262 w) 6#32 7#32).m2 ((s.pair v319 4#32 5#32).pair (two v262 w) 6#32 7#32).m1) :=
  ⟨rfl, rfl, rfl⟩

theorem gates_eq : gates x g = k0_pay61 (twos8 x g).i2 (twos8 x g).i1 (exp (subf (twos8 x g).m2 (twos8 x g).m1)) (Scalar.ofBits .f32 0x3F800000#32) := by
  obtain ⟨h1, h2, h3, h4⟩ := stageA twos0 (k0_pay3 x) (k0_pay7 x (g 0)) (g 1)
  obtain ⟨h5, h6, h7⟩ := stageB (twos4 x g) (k0_pay3 x) (two (k0_pay3 x) (g 2)) (g 3)
  have e1 : k0_pay31 (k0_pay3 x) k0_pay4 (k0_pay7 x (g 0)) (k0_pay8 x (g 0)) (k0_pay9 x (g 0)) (k0_pay11 x (g 0)) (g 1) = (twos4 x g).m2 := h1
  have e2 : k0_pay32 (k0_pay3 x) k0_pay4 k0_pay6 (k0_pay7 x (g 0)) (k0_pay8 x (g 0)) (k0_pay9 x (g 0)) (k0_pay11 x (g 0)) (k0_pay12 x (g 0)) (g 1) = (twos4 x g).i2 := h2
  have e3 : k0_pay33 (k0_pay3 x) k0_pay4 (k0_pay7 x (g 0)) (k0_pay8 x (g 0)) (k0_pay9 x (g 0)) (g 1) = (twos4 x g).m1 := h3
  have e4 : k0_pay34 (k0_pay3 x) k0_pay4 k0_pay6 (k0_pay7 x (g 0)) (k0_pay8 x (g 0)) (k0_pay9 x (g 0)) (g 1) = (twos4 x g).i1 := h4
  have e5 : k0_pay37 (k0_pay3 x) k0_pay4 (k0_pay7 x (g 0)) (k0_pay8 x (g 0)) (k0_pay9 x (g 0)) (g 1) (g 2)
      = cmpf .ogt (colA (two (k0_pay3 x) (g 2))) (twos4 x g).m1 := by rw [← e3]; rfl
  unfold gates
  dsimp only
  rw [e1, e2, e3, e4, e5]
  have f1 : k0_pay35 (k0_pay3 x) (g 2) = two (k0_pay3 x) (g 2) := rfl
  have f2 : k0_pay36 (k0_pay3 x) (g 2) = colA (two (k0_pay3 x) (g 2)) := rfl
  rw [f1, f2, h5, h6, h7]
  rfl

/-- Expert `e`'s gate for token `t`: `e / 2` is the member, `e % 2` its router column. -/
def kgate (t : Fin 128) (e : Fin 8) : EReal :=
  ∑ k : Fin 512, x (ix2 t k) * g ⟨e.val / 2, by omega⟩ (ix3 0 ⟨e.val % 2, by omega⟩ k)

/-- Eight gates, continued by zeros. -/
def long (f : Fin 8 → EReal) (n : ℕ) : EReal := if h : n < 8 then f ⟨n, h⟩ else 0

theorem two_apply (w : Vec Ideal S1x2x512 .f32) (t : Fin 128) (j : Fin 2) :
    two (k0_pay3 x) w (ix2 t j) = ∑ k : Fin 512, x (ix2 t k) * w (ix3 0 j k) := by
  unfold two k0_pay21 k0_pay3
  have hd : dot_S128x512_S2x512_S128x2_1_1_0_0_n_n = DotDims.transposedRhs 128 512 2 := rfl
  rw [hd, shapeCast_self]
  refine (Ideal.matmul_transposedRhs_apply (some .fp32) x _ _ t j).trans ?_
  rw [constant_apply, Ideal.ofBits_zero_f32, zero_add]
  exact Finset.sum_congr rfl fun k _ => congrArg (x (ix2 t k) * ·) (shapeCast_1ab_ab_apply w _ j k)

theorem colA_apply (w : FVec Ideal S128x2 .f32) (t : Fin 128) : colA w (ix2 t 0) = w (ix2 t 0) :=
  slice2_axis1_apply 0 w _ t 0 0 rfl
theorem colB_apply (w : FVec Ideal S128x2 .f32) (t : Fin 128) : colB w (ix2 t 0) = w (ix2 t 1) :=
  slice2_axis1_apply 1 w _ t 0 1 rfl

theorem row_pair (s : Twos) (w : Vec Ideal S1x2x512 .f32) (e e' : BitVec 32) (t : Fin 128) :
    (s.pair (two (k0_pay3 x) w) e e').row t
      = ((s.row t).step (∑ k : Fin 512, x (ix2 t k) * w (ix3 0 0 k)) e).step (∑ k : Fin 512, x (ix2 t k) * w (ix3 0 1 k)) e' := by
  unfold Twos.pair
  rw [Twos.row_step, Twos.row_step, colA_apply, colB_apply, two_apply, two_apply]

theorem ofBits_ninf : Ideal.ofBits .f32 0xFF800000#32 = ⊥ := by simp [Ideal.ofBits, Ideal.ieee]
theorem ofBits_pinf : Ideal.ofBits .f32 0x7F800000#32 = ⊤ := by simp [Ideal.ofBits, Ideal.ieee]

theorem row_twos0 (t : Fin 128) : twos0.row t = ⟨⊥, ⊥, 0#32, 0#32⟩ :=
  Two.ext_of ofBits_ninf ofBits_ninf rfl rfl

theorem row_twos8 (t : Fin 128) : (twos8 x g).row t = Two.after (long (kgate x g t)) 8 := by
  unfold twos8 twos4
  rw [row_pair, row_pair, row_pair, row_pair, row_twos0]
  rfl

theorem bc8 (v : FVec Ideal S128x1 .f32) (t : Fin 128) (l : Fin 8) :
    broadcastTo S128x8 v broadcasts_S128x1_S128x8 (ix2 t l) = v (ix2 t 0) :=
  broadcastTo_apply v _ (ix2 t l) (ix2 t 0) fun ax => match ax with | ⟨0, _⟩ => rfl | ⟨1, _⟩ => rfl

theorem bc512 (v : FVec Ideal S128x1 .f32) (t : Fin 128) (d : Fin 512) :
    broadcastTo S128x512 v broadcasts_S128x1_S128x512 (ix2 t d) = v (ix2 t 0) :=
  broadcastTo_apply v _ (ix2 t d) (ix2 t 0) fun ax => match ax with | ⟨0, _⟩ => rfl | ⟨1, _⟩ => rfl

/-- A lane of the packed gates. -/
def lane (i1 i2 : BitVec 32) (r : EReal) (l : BitVec 32) : EReal :=
  Scalar.select (BitVec.ofBool (l == 0#32)) ((i1.toInt : ℝ) : EReal) 0
    + Scalar.select (BitVec.ofBool (l == 1#32)) ((i2.toInt : ℝ) : EReal) 0
    + Scalar.select (BitVec.ofBool (l == 2#32)) (Ideal.div 1 (1 + r)) 0
    + Scalar.select (BitVec.ofBool (l == 3#32)) (Ideal.div r (1 + r)) 0

theorem pay61_apply (i2 i1 : IVec S128x1 32) (r : FVec Ideal S128x1 .f32) (t : Fin 128) (l : Fin 8) :
    k0_pay61 i2 i1 r (Scalar.ofBits .f32 0x3F800000#32) (ix3 0 t l)
      = lane (i1 (ix2 t 0)) (i2 (ix2 t 0)) (r (ix2 t 0)) (BitVec.ofNat 32 l.val) := by
  unfold k0_pay61
  refine (shapeCast_ab_1ab_apply _ _ 0 t l).trans ?_
  simp only [shapeCast_self, addf_apply, select_apply, bc8]
  have h0 : (Scalar.ofBits (F := Ideal) .f32 0x00000000#32 : EReal) = 0 := Ideal.ofBits_zero_f32
  have h1 : (Scalar.ofBits (F := Ideal) .f32 0x3F800000#32 : EReal) = 1 := Ideal.ofBits_one_f32
  have hi : iota .tc S128x8 32 [1] iota_S128x8_d1_w32 (ix2 t l) = BitVec.ofNat 32 l.val := by
    show BitVec.ofNat 32 (0 * 8 + l.val) = _
    rw [Nat.zero_mul, Nat.zero_add]
  have hc : ∀ w : BitVec 32, cmpi .eq (iota .tc S128x8 32 [1] iota_S128x8_d1_w32) (broadcast S128x8 w) (ix2 t l)
      = BitVec.ofBool (BitVec.ofNat 32 l.val == w) := fun w => by
    show BitVec.ofBool (iota .tc S128x8 32 [1] iota_S128x8_d1_w32 (ix2 t l) == w) = _
    rw [hi]
  rw [hc, hc, hc, hc]
  unfold lane
  rw [← h0, ← h1]
  rfl

theorem lane0 (i1 i2 : BitVec 32) (r : EReal) : lane i1 i2 r 0#32 = ((i1.toInt : ℝ) : EReal) := by simp [lane, Scalar.select]
theorem lane1 (i1 i2 : BitVec 32) (r : EReal) : lane i1 i2 r 1#32 = ((i2.toInt : ℝ) : EReal) := by simp [lane, Scalar.select]
theorem lane2 (i1 i2 : BitVec 32) (r : EReal) : lane i1 i2 r 2#32 = Ideal.div 1 (1 + r) := by simp [lane, Scalar.select]
theorem lane3 (i1 i2 : BitVec 32) (r : EReal) : lane i1 i2 r 3#32 = Ideal.div r (1 + r) := by simp [lane, Scalar.select]

/-- A token's packed gates, once its two greatest gates are known. -/
theorem gates_row (t : Fin 128) (u v : EReal) (a b : BitVec 32) (h : Two.after (long (kgate x g t)) 8 = ⟨u, v, a, b⟩) :
    gates x g (ix3 0 t 0) = ((a.toInt : ℝ) : EReal) ∧ gates x g (ix3 0 t 1) = ((b.toInt : ℝ) : EReal)
      ∧ gates x g (ix3 0 t 2) = wTop1 u v ∧ gates x g (ix3 0 t 3) = wTop2 u v := by
  rw [← row_twos8] at h
  have e1 : (twos8 x g).m1 (ix2 t 0) = u := congrArg Two.m1 h
  have e2 : (twos8 x g).m2 (ix2 t 0) = v := congrArg Two.m2 h
  have e3 : (twos8 x g).i1 (ix2 t 0) = a := congrArg Two.i1 h
  have e4 : (twos8 x g).i2 (ix2 t 0) = b := congrArg Two.i2 h
  have er : exp (subf (twos8 x g).m2 (twos8 x g).m1) (ix2 t 0) = Ideal.exp (v - u) := by
    rw [← e1, ← e2]; rfl
  rw [gates_eq, pay61_apply, pay61_apply, pay61_apply, pay61_apply, e3, e4, er]
  exact ⟨lane0 _ _ _, lane1 _ _ _, lane2 _ _ _, lane3 _ _ _⟩

end Cert.KP
-- ==== Proof.KExp.lean ====
/-
# `KExp`: what a device adds for a token, read at one place
-/
module

public import proofs.«01_k».proof.Proof.KTop

@[expose] public section

noncomputable section

namespace Cert.KP

open Cert.KernelIdeal Cert.KernelIdeal.Gen
open Idealize.ShloMosaic Idealize.ShloMosaic.ValueIdx

/-- One expert's answer for a token `x`, at one place `d` of it. -/
def expert (x : Fin 512 → EReal) (w1 : Fin 512 → Fin 1024 → EReal) (w2 : Fin 1024 → EReal) : EReal :=
  ∑ f : Fin 1024, max (∑ k : Fin 512, x k * w1 k f) 0 * w2 f

/-- Whether a place word is an expert's word. -/
def ind (i e : BitVec 32) : EReal := if i = e then 1 else 0

theorem ind_word (i e : BitVec 32) : ((((BitVec.ofBool (i == e)).setWidth 32).toInt : ℝ) : EReal) = ind i e := by
  unfold ind
  by_cases h : i = e
  · subst h; simp
  · have hb : (i == e) = false := by simpa using h
    rw [hb, if_neg h]; simp

variable (y : BitVec 32) (w1 : Fin 2 → Vec Ideal S1x512x1024 .f32) (w2 : Fin 2 → Vec Ideal S1x1024x512 .f32)
  (x : Vec Ideal S1x128x512 .bf16) (p : Vec Ideal S1x128x8 .f32)

theorem share_own (t : Fin 128) (d : Fin 512) : share y w1 w2 x p (ix3 0 t d) = own y w1 w2 x p (ix2 t d) :=
  (shapeCast_ab_1ab_apply (truncf .bf16 (own y w1 w2 x p) bitsLt_bf16_f32) shapeCasts_S128x512_S1x128x512 0 t d)

theorem mlp_apply (v : FVec Ideal S128x512 .f32) (a : Vec Ideal S1x512x1024 .f32) (b : Vec Ideal S1x1024x512 .f32) (t : Fin 128) (d : Fin 512) :
    k0_pay64 v a b (ix2 t d) = expert (fun k => v (ix2 t k)) (fun k f => a (ix3 0 k f)) (fun f => b (ix3 0 f d)) := by
  unfold k0_pay64 expert
  have hd : dot_S128x512_S512x1024_S128x1024_1_0_0_1_n_n = DotDims.plain 128 512 1024 := rfl
  have hd' : dot_S128x1024_S1024x512_S128x512_1_0_0_1_n_n = DotDims.plain 128 1024 512 := rfl
  rw [hd, hd']
  refine (Ideal.matmul_plain_apply none _ _ _ t d).trans ?_
  rw [constant_apply, Ideal.ofBits_zero_f32, zero_add]
  refine Finset.sum_congr rfl fun f _ => ?_
  rw [shapeCast_1ab_ab_apply, maximumf_apply]
  congr 2
  · refine (Ideal.matmul_plain_apply none _ _ _ t f).trans ?_
    rw [constant_apply, Ideal.ofBits_zero_f32, zero_add]
    exact Finset.sum_congr rfl fun k _ => congrArg (v (ix2 t k) * ·) (shapeCast_1ab_ab_apply a _ k f)
  · exact Ideal.ofBits_zero_f32

/-- The expert `i` of a device, for a token of the gathered block. -/
def kexpert (i : Fin 2) (t : Fin 128) (d : Fin 512) : EReal :=
  expert (fun k => x (ix3 0 t k)) (fun k f => w1 i (ix3 0 k f)) (fun f => w2 i (ix3 0 f d))

theorem lane_apply (l : Fin 8) (n : ℕ) (hn : l.val = n) (t : Fin 128) (h : S128x8.Slices ![0, n] S128x1) :
    extractStridedSlice S128x1 ![0, n] (k0_pay66 p) h (ix2 t 0) = p (ix3 0 t l) := by
  have e : k0_pay66 p (ix2 t l) = p (ix3 0 t l) := shapeCast_1ab_ab_apply p shapeCasts_S1x128x8_S128x8 t l
  rw [← e]
  exact slice2_axis1_apply n (k0_pay66 p) h t 0 l (by rw [hn]; rfl)

/-- What a device adds for a token whose packed gates say `a`, `b`, `u`, `v`. -/
theorem own_apply (t : Fin 128) (d : Fin 512) (a b : BitVec 32) (u v : EReal)
    (ha : p (ix3 0 t 0) = ((a.toInt : ℝ) : EReal)) (hb : p (ix3 0 t 1) = ((b.toInt : ℝ) : EReal))
    (hu : p (ix3 0 t 2) = u) (hv : p (ix3 0 t 3) = v) :
    own y w1 w2 x p (ix2 t d)
      = kexpert w1 w2 x 0 t d * (u * ind a (y * 2#32) + v * ind b (y * 2#32))
        + kexpert w1 w2 x 1 t d * (u * ind a (y * 2#32 + 1#32) + v * ind b (y * 2#32 + 1#32)) := by
  have fa : k0_pay67 p (ix2 t 0) = a := by
    refine (congrArg (Ideal.fptosi 32) ((lane_apply p 0 0 rfl t slices_S128x8_o0_0_S128x1).trans ha)).trans (fptosi_sitofp a)
  have fb : k0_pay68 p (ix2 t 0) = b := by
    refine (congrArg (Ideal.fptosi 32) ((lane_apply p 1 1 rfl t slices_S128x8_o0_1_S128x1).trans hb)).trans (fptosi_sitofp b)
  have fu : k0_pay69 p (ix2 t 0) = u := (lane_apply p 2 2 rfl t slices_S128x8_o0_2_S128x1).trans hu
  have fv : k0_pay70 p (ix2 t 0) = v := (lane_apply p 3 3 rfl t slices_S128x8_o0_3_S128x1).trans hv
  have hx : (fun k => k0_pay63 x (ix2 t k)) = fun k => x (ix3 0 t k) :=
    funext fun k => shapeCast_1ab_ab_apply x shapeCasts_S1x128x512_S128x512 t k
  have hm0 : k0_pay64 (k0_pay63 x) (w1 0) (w2 0) (ix2 t d) = kexpert w1 w2 x 0 t d := by
    rw [mlp_apply, hx]; rfl
  have hm1 : k0_pay65 (k0_pay62 x) (w1 1) (w2 1) (ix2 t d) = kexpert w1 w2 x 1 t d := by
    refine (mlp_apply (k0_pay63 x) (w1 1) (w2 1) t d).trans ?_
    rw [hx]; rfl
  have hy0 : Scalar.addi (Scalar.muli y 2#32) 0#32 = y * 2#32 := BitVec.add_zero _
  have h72 : k0_pay72 y p (ix2 t 0) = u * ind a (y * 2#32) := by
    rw [← fa, ← fu, ← hy0, ← ind_word]; rfl
  have h73 : k0_pay73 y p (ix2 t 0) = v * ind b (y * 2#32) := by
    rw [← fb, ← fv, ← hy0, ← ind_word]; rfl
  have h1a : (k0_pay69 p (ix2 t 0) : EReal) * ((((BitVec.ofBool (k0_pay67 p (ix2 t 0) == y * 2#32 + 1#32)).setWidth 32).toInt : ℝ) : EReal)
      = u * ind a (y * 2#32 + 1#32) := by rw [fa, fu, ind_word]
  have h1b : (k0_pay70 p (ix2 t 0) : EReal) * ((((BitVec.ofBool (k0_pay68 p (ix2 t 0) == y * 2#32 + 1#32)).setWidth 32).toInt : ℝ) : EReal)
      = v * ind b (y * 2#32 + 1#32) := by rw [fb, fv, ind_word]
  have hz : (k0_pay71 (F := Ideal) (ix2 t d) : EReal) = 0 := Ideal.ofBits_zero_f32
  unfold own k0_pay74
  simp only [addf_apply, mulf_apply, bc512]
  rw [hm0, hm1, h72, h73, hz, zero_add, ← h1a, ← h1b]
  rfl

/-- The device's result: its own part and those of the other three members. -/
theorem final_apply (o : FVec Ideal S128x512 .f32) (a b c : Vec Ideal S1x128x512 .bf16) (t : Fin 128) (d : Fin 512) :
    k0_pay90 (k0_pay89 o a) b c (ix2 t d) = o (ix2 t d) + a (ix3 0 t d) + b (ix3 0 t d) + c (ix3 0 t d) := by
  have e : ∀ v : Vec Ideal S1x128x512 .bf16, shapeCast S128x512 v shapeCasts_S1x128x512_S128x512 (ix2 t d) = v (ix3 0 t d) :=
    fun v => shapeCast_1ab_ab_apply v _ t d
  rw [← e a, ← e b, ← e c]
  unfold k0_pay90 k0_pay89
  simp only [shapeCast_self, addf_apply, extf_apply]

end Cert.KP
-- ==== Proof.KVal.lean ====
/-
# `KVal`: a device's result in terms of the whole arrays
-/
module

public import proofs.«01_k».proof.Proof.KExp
public import Idealize.ShloMosaic.Lib.Layout

@[expose] public section

noncomputable section

namespace Cert.KP

open Cert.KernelIdeal Cert.KernelIdeal.Gen
open Idealize.ShloMosaic Idealize.ShloMosaic.ValueIdx
open Idealize.ShloMosaic.TcCoe

abbrev A0T := FVec Ideal ⟨2, ![512, 512]⟩ .f32
abbrev A1T := FVec Ideal ⟨2, ![512, 8]⟩ .f32
abbrev A2T := FVec Ideal ⟨3, ![8, 512, 1024]⟩ .f32
abbrev A3T := FVec Ideal ⟨3, ![8, 1024, 512]⟩ .f32

variable (A0 : A0T) (A1 : A1T) (A2 : A2T) (A3 : A3T)

/-- Token `T`'s gate for expert `e`, and that expert's answer at place `d`. -/
def gateOf (T : Fin 512) (e : Fin 8) : EReal := ∑ k : Fin 512, A0 (ix2 T k) * A1 (ix2 k e)
def answer (T : Fin 512) (d : Fin 512) (e : Fin 8) : EReal :=
  expert (fun k => A0 (ix2 T k)) (fun k f => A2 (ix3 e k f)) (fun f => A3 (ix3 e f d))

/-- Row `t` of member `b`'s tokens; expert `j` of member `b`. -/
def tok (b : Fin 4) (t : Fin 128) : Fin 512 := ⟨b.val * 128 + t.val, by omega⟩
def exq (b : Fin 4) (j : Fin 2) : Fin 8 := ⟨b.val * 2 + j.val, by omega⟩

variable (m : (ℓ : Loc nD τ sig) → Buf (Elt Ideal) ℓ)

/-- The devices hold the blocks of four whole arrays. -/
structure Whole : Prop where
  x : ∀ (c : Dev nD) t k, (m ((c : Thread nD τ).loc main_arg0) : FVec Ideal S128x512 .f32) (ix2 t k) = A0 (ix2 (tok (yc c) t) k)
  r : ∀ (c : Dev nD) k j, (m ((c : Thread nD τ).loc main_arg1) : FVec Ideal S512x2 .f32) (ix2 k j) = A1 (ix2 k (exq (yc c) j))
  w1 : ∀ (c : Dev nD) j k f, (m ((c : Thread nD τ).loc main_arg2) : FVec Ideal S2x512x1024 .f32) (ix3 j k f) = A2 (ix3 (exq (yc c) j) k f)
  w2 : ∀ (c : Dev nD) j f d, (m ((c : Thread nD τ).loc main_arg3) : FVec Ideal S2x1024x512 .f32) (ix3 j f d) = A3 (ix3 (exq (yc c) j) f d)

theorem X_apply (c : Dev nD) (t : Fin 128) (k : Fin 512) :
    X m c (ix2 t k) = (m ((c : Thread nD τ).loc main_arg0) : FVec Ideal S128x512 .f32) (ix2 t k) := by
  unfold X
  refine congrArg (m ((c : Thread nD τ).loc main_arg0)) (funext fun ax => Fin.ext ?_)
  match ax with
  | ⟨0, _⟩ => show 0 * 128 + 1 * t.val = t.val; omega
  | ⟨1, _⟩ => show 0 * 512 + 1 * k.val = k.val; omega
theorem R_apply (c : Dev nD) (k : Fin 512) (j : Fin 2) :
    R m c (ix2 k j) = (m ((c : Thread nD τ).loc main_arg1) : FVec Ideal S512x2 .f32) (ix2 k j) := by
  unfold R
  refine congrArg (m ((c : Thread nD τ).loc main_arg1)) (funext fun ax => Fin.ext ?_)
  match ax with
  | ⟨0, _⟩ => show 0 * 512 + 1 * k.val = k.val; omega
  | ⟨1, _⟩ => show 0 * 2 + 1 * j.val = j.val; omega

theorem w1s_apply (W : (cc0_scratch5 : Ref sig .tc).ty.Contents (Elt Ideal)) (j : Fin 2) (k : Fin 512) (f : Fin 1024) :
    w1s W j (ix3 0 k f) = (W : FVec Ideal S2x512x1024 .f32) (ix3 j k f) := by
  match j with
  | 0 =>
    refine congrArg W (funext fun ax => Fin.ext ?_)
    match ax with
    | ⟨0, _⟩ => rfl
    | ⟨1, _⟩ => show 0 + 1 * k.val = k.val; omega
    | ⟨2, _⟩ => show 0 + 1 * f.val = f.val; omega
  | 1 =>
    refine congrArg W (funext fun ax => Fin.ext ?_)
    match ax with
    | ⟨0, _⟩ => rfl
    | ⟨1, _⟩ => show 0 + 1 * k.val = k.val; omega
    | ⟨2, _⟩ => show 0 + 1 * f.val = f.val; omega
theorem w2s_apply (W : (cc0_scratch6 : Ref sig .tc).ty.Contents (Elt Ideal)) (j : Fin 2) (f : Fin 1024) (d : Fin 512) :
    w2s W j (ix3 0 f d) = (W : FVec Ideal S2x1024x512 .f32) (ix3 j f d) := by
  match j with
  | 0 =>
    refine congrArg W (funext fun ax => Fin.ext ?_)
    match ax with
    | ⟨0, _⟩ => rfl
    | ⟨1, _⟩ => show 0 + 1 * f.val = f.val; omega
    | ⟨2, _⟩ => show 0 + 1 * d.val = d.val; omega
  | 1 =>
    refine congrArg W (funext fun ax => Fin.ext ?_)
    match ax with
    | ⟨0, _⟩ => rfl
    | ⟨1, _⟩ => show 0 + 1 * f.val = f.val; omega
    | ⟨2, _⟩ => show 0 + 1 * d.val = d.val; omega

theorem xG_apply (c : Dev nD) (b : Fin 4) (t : Fin 128) (k : Fin 512) : xG m c b (ix3 0 t k) = X m (at' c b) (ix2 t k) := by
  unfold xG k0_pay2
  refine (shapeCast_ab_1ab_apply _ shapeCasts_S128x512_S1x128x512 0 t k).trans ?_
  rw [shapeCast_self]; rfl
theorem rG_apply (c : Dev nD) (o : Fin 4) (j : Fin 2) (k : Fin 512) : rG m c o (ix3 0 j k) = R m (at' c o) (ix2 k j) := by
  unfold rG k0_pay1
  refine (shapeCast_ab_1ab_apply _ shapeCasts_S2x512_S1x2x512 0 j k).trans ?_
  rw [shapeCast_self]
  exact transpose_ix2_apply _ _ j k

variable {A0 A1 A2 A3 m} (H : Whole A0 A1 A2 A3 m)
include H

theorem kgate_eq (c : Dev nD) (b : Fin 4) (t : Fin 128) (e : Fin 8) :
    kgate (X m (at' c b)) (rG m c) t e = gateOf A0 A1 (tok b t) e := by
  unfold kgate gateOf
  refine Finset.sum_congr rfl fun k _ => ?_
  rw [X_apply, H.x, yc_at, rG_apply, R_apply, H.r, yc_at]
  have he : exq ⟨e.val / 2, by omega⟩ ⟨e.val % 2, by omega⟩ = e := Fin.ext (by show e.val / 2 * 2 + e.val % 2 = e.val; omega)
  rw [he]

theorem kexpert_eq (c : Dev nD) (b : Fin 4) (j : Fin 2) (t : Fin 128) (d : Fin 512) :
    kexpert (w1s (W1 m c)) (w2s (W2 m c)) (xG m c b) j t d = answer A0 A2 A3 (tok b t) d (exq (yc c) j) := by
  unfold kexpert answer
  have e1 : (fun k => (xG m c b (ix3 0 t k) : EReal)) = fun k => A0 (ix2 (tok b t) k) :=
    funext fun k => by rw [xG_apply, X_apply, H.x, yc_at]
  have e2 : (fun (k : Fin 512) (f : Fin 1024) => (w1s (W1 m c) j (ix3 0 k f) : EReal)) = fun k f => A2 (ix3 (exq (yc c) j) k f) :=
    funext fun k => funext fun f => by rw [w1s_apply]; exact H.w1 c j k f
  have e3 : (fun (f : Fin 1024) => (w2s (W2 m c) j (ix3 0 f d) : EReal)) = fun f => A3 (ix3 (exq (yc c) j) f d) :=
    funext fun f => by rw [w2s_apply]; exact H.w2 c j f d
  rw [e1, e2, e3]

omit H in
theorem yw_eq (c : Dev nD) : yw c = BitVec.ofNat 32 (yc c).val := by revert c; decide +kernel

omit H in
theorem ind_eq (a : Fin 8) (y : Fin 4) :
    ind (BitVec.ofNat 32 a.val) (BitVec.ofNat 32 y.val * 2#32) = (if a = exq y 0 then 1 else 0)
    ∧ ind (BitVec.ofNat 32 a.val) (BitVec.ofNat 32 y.val * 2#32 + 1#32) = (if a = exq y 1 then 1 else 0) := by
  have h0 : (BitVec.ofNat 32 a.val = BitVec.ofNat 32 y.val * 2#32) ↔ a = exq y 0 := by revert y; revert a; decide +kernel
  have h1 : (BitVec.ofNat 32 a.val = BitVec.ofNat 32 y.val * 2#32 + 1#32) ↔ a = exq y 1 := by revert y; revert a; decide +kernel
  unfold ind
  exact ⟨by simp only [h0], by simp only [h1]⟩

/-- One expert's part of the result, once the two chosen experts and their weights are known. -/
def part (Y : Fin 8 → EReal) (u v : EReal) (a b e : Fin 8) : EReal :=
  Y e * (u * (if a = e then 1 else 0) + v * (if b = e then 1 else 0))

theorem own_part (c : Dev nD) (q : Fin 4) (t : Fin 128) (d : Fin 512) (a b : Fin 8)
    (h : Two.after (long (gateOf A0 A1 (tok q t))) 8
      = ⟨gateOf A0 A1 (tok q t) a, gateOf A0 A1 (tok q t) b, BitVec.ofNat 32 a.val, BitVec.ofNat 32 b.val⟩) :
    own (yw c) (w1s (W1 m c)) (w2s (W2 m c)) (xG m c q) (pG m c q) (ix2 t d)
      = part (answer A0 A2 A3 (tok q t) d) (wTop1 (gateOf A0 A1 (tok q t) a) (gateOf A0 A1 (tok q t) b))
          (wTop2 (gateOf A0 A1 (tok q t) a) (gateOf A0 A1 (tok q t) b)) a b (exq (yc c) 0)
        + part (answer A0 A2 A3 (tok q t) d) (wTop1 (gateOf A0 A1 (tok q t) a) (gateOf A0 A1 (tok q t) b))
          (wTop2 (gateOf A0 A1 (tok q t) a) (gateOf A0 A1 (tok q t) b)) a b (exq (yc c) 1) := by
  have hk : kgate (X m (at' c q)) (rG m c) t = gateOf A0 A1 (tok q t) := funext fun e => kgate_eq H c q t e
  rw [← hk] at h
  obtain ⟨p0, p1, p2, p3⟩ := gates_row (X m (at' c q)) (rG m c) t _ _ _ _ h
  rw [hk] at p2 p3
  rw [own_apply (yw c) _ _ _ (pG m c q) t d _ _ _ _ p0 p1 p2 p3, kexpert_eq H, kexpert_eq H, yw_eq,
    (ind_eq a (yc c)).1, (ind_eq a (yc c)).2, (ind_eq b (yc c)).1, (ind_eq b (yc c)).2]
  rfl

omit H in
theorem around (c : Dev nD) : (yc c = 0 ∧ sl c 0 = 1 ∧ sl c 1 = 2 ∧ sl c 2 = 3) ∨ (yc c = 1 ∧ sl c 0 = 2 ∧ sl c 1 = 3 ∧ sl c 2 = 0)
    ∨ (yc c = 2 ∧ sl c 0 = 3 ∧ sl c 1 = 0 ∧ sl c 2 = 1) ∨ (yc c = 3 ∧ sl c 0 = 0 ∧ sl c 1 = 1 ∧ sl c 2 = 2) := by
  revert c; decide +kernel

/-- A device's result at one place. -/
theorem outAt_apply (c : Dev nD) (t : Fin 128) (d : Fin 512) (a b : Fin 8) (hab : a ≠ b)
    (h : Two.after (long (gateOf A0 A1 (tok (yc c) t))) 8
      = ⟨gateOf A0 A1 (tok (yc c) t) a, gateOf A0 A1 (tok (yc c) t) b, BitVec.ofNat 32 a.val, BitVec.ofNat 32 b.val⟩) :
    outAt m c (ix2 t d)
      = answer A0 A2 A3 (tok (yc c) t) d a * wTop1 (gateOf A0 A1 (tok (yc c) t) a) (gateOf A0 A1 (tok (yc c) t) b)
        + answer A0 A2 A3 (tok (yc c) t) d b * wTop2 (gateOf A0 A1 (tok (yc c) t) a) (gateOf A0 A1 (tok (yc c) t) b) := by
  have hb : ∀ k : Fin 4, bG m c k (ix3 0 t d) = part (answer A0 A2 A3 (tok (yc c) t) d) (wTop1 (gateOf A0 A1 (tok (yc c) t) a) (gateOf A0 A1 (tok (yc c) t) b))
          (wTop2 (gateOf A0 A1 (tok (yc c) t) a) (gateOf A0 A1 (tok (yc c) t) b)) a b (exq k 0)
        + part (answer A0 A2 A3 (tok (yc c) t) d) (wTop1 (gateOf A0 A1 (tok (yc c) t) a) (gateOf A0 A1 (tok (yc c) t) b))
          (wTop2 (gateOf A0 A1 (tok (yc c) t) a) (gateOf A0 A1 (tok (yc c) t) b)) a b (exq k 1) := fun k => by
    unfold bG cG
    rw [share_own, own_part H (at' c k) (yc c) t d a b h, yc_at]
  have ho : ownAt m c (ix2 t d) = part (answer A0 A2 A3 (tok (yc c) t) d) (wTop1 (gateOf A0 A1 (tok (yc c) t) a) (gateOf A0 A1 (tok (yc c) t) b))
          (wTop2 (gateOf A0 A1 (tok (yc c) t) a) (gateOf A0 A1 (tok (yc c) t) b)) a b (exq (yc c) 0)
        + part (answer A0 A2 A3 (tok (yc c) t) d) (wTop1 (gateOf A0 A1 (tok (yc c) t) a) (gateOf A0 A1 (tok (yc c) t) b))
          (wTop2 (gateOf A0 A1 (tok (yc c) t) a) (gateOf A0 A1 (tok (yc c) t) b)) a b (exq (yc c) 1) :=
    own_part H c (yc c) t d a b h
  unfold outAt
  rw [final_apply, hb, hb, hb, ho, ← sum_two _ _ _ a b hab]
  have key : ∀ Z : Fin 8 → EReal, (Z (exq (yc c) 0) + Z (exq (yc c) 1)) + (Z (exq (sl c 2) 0) + Z (exq (sl c 2) 1))
      + (Z (exq (sl c 1) 0) + Z (exq (sl c 1) 1)) + (Z (exq (sl c 0) 0) + Z (exq (sl c 0) 1)) = ∑ e, Z e := by
    intro Z
    have hs := around c
    rw [Fin.sum_univ_eight]
    have q : exq 0 0 = 0 ∧ exq 0 1 = 1 ∧ exq 1 0 = 2 ∧ exq 1 1 = 3 ∧ exq 2 0 = 4 ∧ exq 2 1 = 5 ∧ exq 3 0 = 6 ∧ exq 3 1 = 7 := by decide
    obtain ⟨q0, q1, q2, q3, q4, q5, q6, q7⟩ := q
    rcases hs with ⟨h0, h1, h2, h3⟩ | ⟨h0, h1, h2, h3⟩ | ⟨h0, h1, h2, h3⟩ | ⟨h0, h1, h2, h3⟩ <;>
      rw [h0, h1, h2, h3, q0, q1, q2, q3, q4, q5, q6, q7] <;> abel
  exact key (part (answer A0 A2 A3 (tok (yc c) t) d) _ _ a b)

end Cert.KP
-- ==== Proof.RTop.lean ====
/-
# `RTop`: the reference's choice of two experts

The reference sorts a token's eight gates, greatest first, and keeps the first two places; it then picks up the gates at
those places. The sort is stable, so equal gates stay in the order of their places: the two places kept are the first two
in the sense of `Firsts`.
-/
module

public import proofs.«01_k».proof.Proof.Gen.ReferenceIdeal.Run
public import proofs.«01_k».proof.Proof.KVal
public import Idealize.ShloMosaic.Lib.SortPrefix
public import Idealize.ShloMosaic.Lib.ValueIdx

@[expose] public section

noncomputable section

namespace Cert.RP

open Cert.ReferenceIdeal Cert.ReferenceIdeal.Gen
open Idealize.ShloMosaic Idealize.ShloMosaic.ValueIdx
open Idealize.ShloMosaic.TcCoe
open Cert.KP (long Firsts Ahead)

/-- A stable sort of places listed in order: equal keys are decided by their places. -/
theorem stableSort_place {n : Nat} (B R : Fin n → Fin n → Bool) (h : ∀ k k', k < k' → R k' k = B k' k) (l : List (Fin n))
    (hl : l.Pairwise (· < ·)) : stableSort B l = stableSort R l := by
  induction l with
  | nil => rfl
  | cons a l ih =>
    rw [List.pairwise_cons] at hl
    show insertBefore B a (stableSort B l) = insertBefore R a (stableSort R l)
    rw [ih hl.2]
    refine insertBefore_congr B R a _ fun b hb => ?_
    exact (h a b (hl.1 b ((perm_stableSort R l).mem_iff.mp hb))).symm

theorem sortedFrom_place {n : Nat} (B R : Fin n → Fin n → Bool) (h : ∀ k k', k < k' → R k' k = B k' k) (k : Fin n) :
    sortedFrom B k = sortedFrom R k := by
  have e : sortPositions n B = sortPositions n R := stableSort_place B R h _ (List.pairwise_lt_finRange n)
  unfold sortedFrom
  simp only [List.get_eq_getElem, e]
  rfl

theorem long_val (g : Fin 8 → EReal) (k : Fin 8) : long g k.val = g k := by
  unfold long; rw [dif_pos k.isLt]

theorem Ahead.not_ahead {g : ℕ → EReal} {a b : ℕ} (h : Ahead g a b) : ¬ Ahead g b a := by
  unfold Ahead at *
  rintro (h' | ⟨e, h'⟩)
  · rcases h with h | ⟨e, _⟩
    · exact absurd h (not_lt.2 h'.le)
    · exact absurd h' (by rw [e]; exact lt_irrefl _)
  · rcases h with h | ⟨_, h⟩
    · exact absurd h (by rw [e]; exact lt_irrefl _)
    · omega

open Classical in
/-- A place before another in the sort: a greater gate, or an equal one earlier. -/
def before (g : Fin 8 → EReal) (k k' : Fin 8) : Bool :=
  (fun x y : EReal => decide (y < x)) (g k) (g k') || (decide (g k = g k') && decide (k < k'))

theorem before_iff (g : Fin 8 → EReal) (k k' : Fin 8) : before g k k' = true ↔ Ahead (long g) k.val k'.val := by
  unfold before Ahead
  rw [long_val, long_val]
  simp

theorem before_total (g : Fin 8 → EReal) : StrictTotalBefore (before g) := by
  classical
  have h := StrictTotalBefore.of_key_then_position (fun x y : EReal => decide (y < x)) g (fun a => by simp)
    (fun a b c h1 h2 => by simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)
  have e : before g = fun k k' : Fin 8 => (fun x y : EReal => decide (y < x)) (g k) (g k') || (decide (g k = g k') && decide (k < k')) := by
    funext k k'; unfold before; congr
  rw [e]; exact h

/-- The first two places of the sort. -/
theorem sortedFrom_firsts (g : Fin 8 → EReal) (a b : Fin 8) (h : Firsts (long g) 8 a.val b.val)
    (B : Fin 8 → Fin 8 → Bool) (hB : ∀ k k', B k k' = decide (g k' < g k)) (i : Fin 2) :
    sortedFrom B (i.castLE (by decide : 2 ≤ 8)) = ![a, b] i := by
  obtain ⟨_, _, hab, hA, hr⟩ := h
  rw [sortedFrom_place B (before g) (fun k k' hk => by
    rw [hB]; unfold before
    have : ¬ k' < k := not_lt.2 hk.le
    simp [this])]
  have nb : ∀ p q : Fin 8, Ahead (long g) p.val q.val → before g q p = false := fun p q hpq => by
    rw [Bool.eq_false_iff]; intro hq
    exact Ahead.not_ahead hpq ((before_iff g q p).1 hq)
  have hab' : a ≠ b := fun e => hab (congrArg Fin.val e)
  have tr : ∀ p : Fin 8, p ≠ a → p ≠ b → before g p a = false := fun p h1 h2 => by
    refine nb a p ((before_iff g a p).1 ((before_total g).trans a b p ((before_iff g a b).2 hA) ((before_iff g b p).2 ?_)))
    exact hr p.val p.isLt (fun e => h1 (Fin.ext e)) (fun e => h2 (Fin.ext e))
  refine (before_total g).sortedFrom_eq_of_prefix (by decide) ![a, b] ?_ ?_ ?_ i
  · intro i j hij
    match i, j with
    | 0, 0 => rfl
    | 1, 1 => rfl
    | 0, 1 => exact absurd hij hab'
    | 1, 0 => exact absurd hij.symm hab'
  · intro i j hij
    match i, j with
    | 0, 0 => exact absurd hij (lt_irrefl _)
    | 1, 1 => exact absurd hij (lt_irrefl _)
    | 0, 1 => exact nb a b hA
    | 1, 0 => exact absurd hij (by decide)
  · intro i p hp
    have h1 : p ≠ a := fun e => hp 0 e.symm
    have h2 : p ≠ b := fun e => hp 1 e.symm
    match i with
    | 0 => exact tr p h1 h2
    | 1 => exact nb b p (hr p.val p.isLt (fun e => h1 (Fin.ext e)) (fun e => h2 (Fin.ext e)))

theorem along_ix2 (T : Fin 512) (k p : Fin 8) :
    Shape.Idx.along (s := S512x8) (ix2 T k) 1 p = ix2 T p := by
  unfold Shape.Idx.along
  funext x
  match x with
  | 0 => rfl
  | 1 => rfl

/-- The sort's second result: what stood at the place the sort took. -/
theorem sort2_apply (cmp : EReal × BitVec 32 → EReal × BitVec 32 → BitVec 1) (x : S512x8.Idx → EReal) (y : S512x8.Idx → BitVec 32)
    (T : Fin 512) (k : Fin 8) :
    (Host.sort2 S512x8 1 cmp x y).2 (ix2 T k)
      = y (ix2 T (sortedFrom (fun k k' => cmp (x (ix2 T k), y (ix2 T k)) (x (ix2 T k'), y (ix2 T k')) == 1#1) k)) := by
  unfold Host.sort2
  rw [dif_pos (by decide : (1 : ℕ) < S512x8.rank)]
  show y (Shape.Idx.along (s := S512x8) (ix2 T k) 1 (sortedFrom (n := 8) (fun k' k'' => cmp (x (Shape.Idx.along (s := S512x8) (ix2 T k) 1 k'), y (Shape.Idx.along (s := S512x8) (ix2 T k) 1 k')) (x (Shape.Idx.along (s := S512x8) (ix2 T k) 1 k''), y (Shape.Idx.along (s := S512x8) (ix2 T k) 1 k'')) == 1#1) k)) = _
  simp only [along_ix2]

/-- The reference's comparison is the order of the keys. -/
theorem comparator_eq (l r : EReal × BitVec 32) :
    (comparator_f32_i32_d1 (F := Ideal) l r == 1#1) = decide (l.1 < r.1) := by
  have z : (FloatOps.ofBits (F := Ideal) .f32 0x00000000#32 : EReal) = 0 := Ideal.ofBits_zero_f32
  have s : ∀ x : EReal, Scalar.select (FloatOps.cmpf (F := Ideal) (φ := .f32) .une x x)
      (FloatOps.ofBits (F := Ideal) .f32 0x7FC00000#32 : EReal)
      (Scalar.select (FloatOps.cmpf (F := Ideal) (φ := .f32) .oeq x (FloatOps.ofBits (F := Ideal) .f32 0x00000000#32)) (FloatOps.ofBits (F := Ideal) .f32 0x00000000#32 : EReal) x) = x := by
    intro x
    rw [z]
    show Scalar.select (Ideal.cmp .une x x) _ (Scalar.select (Ideal.cmp .oeq x 0) 0 x) = x
    unfold Ideal.cmp Scalar.select
    by_cases hx : x = 0 <;> simp [hx]
  unfold comparator_f32_i32_d1
  simp only [s]
  show (Ideal.cmp .olt l.1 r.1 == 1#1) = _
  unfold Ideal.cmp
  by_cases h : l.1 < r.1 <;> simp [h]

/-- The gates picked up by a place each: column `idx[b, j]` of row `b`, the place read as a signed word and kept in range. -/
theorem gather_cols_apply (x : S512x8.Idx → EReal) (idx : IVec S512x2x1 32) (T : Fin 512) (j : Fin 2) (e : Fin 8)
    (h : idx (ix3 T j 0) = BitVec.ofNat 32 e.val) :
    Host.gather gather_S512x8_S512x2x1_S512x2_n_1_0_0_1_2_11 x idx (ix2 T j) = x (ix2 T e) := by
  unfold Host.gather
  congr 1
  funext a
  refine Fin.ext ?_
  show GatherDims.start gather_S512x8_S512x2x1_S512x2_n_1_0_0_1_2_11 (ix2 T j) idx a
    + GatherDims.batchCoord gather_S512x8_S512x2x1_S512x2_n_1_0_0_1_2_11 (ix2 T j) a
    + GatherDims.offCoord gather_S512x8_S512x2x1_S512x2_n_1_0_0_1_2_11 (ix2 T j) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S512x8_S512x2x1_S512x2_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S512x8_S512x2x1_S512x2_n_1_0_0_1_2_11.startIndexMap from List.mem_singleton.mpr rfl)]
    have hsi : GatherDims.siIdx gather_S512x8_S512x2x1_S512x2_n_1_0_0_1_2_11 (ix2 T j)
        ⟨List.idxOf (1 : Fin 2) gather_S512x8_S512x2x1_S512x2_n_1_0_0_1_2_11.startIndexMap,
        List.idxOf_lt_length_iff.2 (List.mem_singleton.mpr rfl)⟩ = ix3 T j 0 := by
      funext b; refine Fin.ext ?_
      match b with
      | ⟨0, _⟩ => rfl
      | ⟨1, _⟩ => rfl
      | ⟨2, _⟩ => rfl
    rw [hsi, h]
    show min (BitVec.ofNat 32 e.val).toInt.toNat (8 - 1) = e.val
    clear h hsi; revert e; decide

end Cert.RP
-- ==== Proof.RVal.lean ====
/-
# `RVal`: the reference's result at one place
-/
module

public import proofs.«01_k».proof.Proof.RTop
public import Idealize.ShloMosaic.Lib.StackMember
public import Idealize.ShloMosaic.Lib.ValueLayout
public import Idealize.ShloMosaic.Lib.IdealHost

@[expose] public section

noncomputable section

namespace Cert.RP

open Cert.ReferenceIdeal Cert.ReferenceIdeal.Gen Cert.ReferenceIdeal.Value
open Idealize.ShloMosaic Idealize.ShloMosaic.ValueIdx
open Idealize.ShloMosaic.TcCoe
open Idealize.ShloMosaic.StackMember (dotGeneral_plain_apply)
open Cert.KP (long Firsts Ahead gateOf answer expert wTop1 wTop2 A0T A1T A2T A3T)

variable (V : Valuation τ sig (Elt Ideal))

/-- The four arguments. -/
abbrev a0 : A0T := V (Proc.devRef .tc main_arg0)
abbrev a1 : A1T := V (Proc.devRef .tc main_arg1)
abbrev a2 : A2T := V (Proc.devRef .tc main_arg2)
abbrev a3 : A3T := V (Proc.devRef .tc main_arg3)

/-- A token's gates. -/
abbrev gate (T : Fin 512) : Fin 8 → EReal := gateOf (a0 V) (a1 V) T

/-- The gates, the places, the picked-up gates, their exponentials and the weights, as plain functions. -/
abbrev e0 (T : Fin 512) (e : Fin 8) : EReal := (res_main_v0 V : FVec Ideal S512x8 .f32) (ix2 T e)
abbrev w3 (T : Fin 512) (i : Fin 2) : BitVec 32 := (res_main_v3 V : IVec S512x2 32) (ix2 T i)
abbrev w5 (T : Fin 512) (i : Fin 2) : BitVec 32 := (res_main_call1_v5 V : IVec S512x2x1 32) (ix3 T i 0)
abbrev e4 (T : Fin 512) (i : Fin 2) : EReal := (res_main_v4 V : FVec Ideal S512x2 .f32) (ix2 T i)
abbrev e9 (T : Fin 512) (i : Fin 2) : EReal := (res_main_v9 V : FVec Ideal S512x2 .f32) (ix2 T i)
abbrev e13 (T : Fin 512) (i : Fin 2) : EReal := (res_main_v13 V : FVec Ideal S512x2 .f32) (ix2 T i)

abbrev r78 (T d : Fin 512) : EReal := (res_main_v78 V : FVec Ideal S512x512 .f32) (ix2 T d)
abbrev r142 (T d : Fin 512) : EReal := (res_main_v142 V : FVec Ideal S512x512 .f32) (ix2 T d)
abbrev r206 (T d : Fin 512) : EReal := (res_main_v206 V : FVec Ideal S512x512 .f32) (ix2 T d)
abbrev r270 (T d : Fin 512) : EReal := (res_main_v270 V : FVec Ideal S512x512 .f32) (ix2 T d)

theorem v0_apply (T : Fin 512) (e : Fin 8) : e0 V T e = gate V T e := by
  unfold e0 res_main_v0
  have hd : dot_S512x512_S512x8_S512x8_1_0_0_1_n_n = DotDims.plain 512 512 8 := rfl
  rw [hd]
  exact dotGeneral_plain_apply none (a0 V) (a1 V) T e

/-! ## Folds over a last axis of one or two places, and spreading -/

theorem reduce_one (x : IVec S512x2x1 1) (T : Fin 512) (i : Fin 2) :
    Host.reduce IntOp.andi x (constantI S_ 1 1#1) reducesTo_S512x2x1_S512x2_d2 h_S_ (ix2 T i) = IntOp.andi (x (ix3 T i 0)) 1#1 := by
  haveI : Std.Commutative (IntOp.andi (w := 1)) := ⟨fun x y => BitVec.and_comm x y⟩
  haveI : Std.Associative (IntOp.andi (w := 1)) := ⟨fun x y z => BitVec.and_assoc x y z⟩
  have hr : S512x2x1.Reduces [2] S512x2 := by decide
  have hl : hr.lift (ix2 T i) (0 : Fin 1) = ix3 T i 0 := by
    funext ax
    match ax with
    | 0 => rfl
    | 1 => rfl
    | 2 => rfl
  have e : ∀ g : Fin 1 → BitVec 1, Finset.fold IntOp.andi 1#1 g (Finset.univ : Finset (Fin 1)) = IntOp.andi (g 0) 1#1 := fun g => by
    rw [show (Finset.univ : Finset (Fin 1)) = {0} from rfl, Finset.fold_singleton]
  refine (Host.reduce_eq_fold_single IntOp.andi x _ reducesTo_S512x2x1_S512x2_d2 hr h_S_ (ix2 T i)).trans ?_
  exact (e fun k => x (hr.lift (ix2 T i) k)).trans (congrArg (fun y => IntOp.andi (x y) 1#1) hl)

theorem reduce_max (x : FVec Ideal S512x2 .f32) (T : Fin 512) :
    Host.reduce (FloatOps.maximumf (F := Ideal) (φ := .f32)) x (constant S_ .f32 0xFF800000#32) reducesTo_S512x2_S512_d1 h_S_ (ix1 T)
      = max (α := EReal) (x (ix2 T 0)) (x (ix2 T 1)) := by
  haveI : Std.Commutative (FloatOps.maximumf (F := Ideal) (φ := .f32)) := ⟨fun x y => max_comm (α := EReal) x y⟩
  haveI : Std.Associative (FloatOps.maximumf (F := Ideal) (φ := .f32)) := ⟨fun x y z => max_assoc (α := EReal) x y z⟩
  have hr : S512x2.Reduces [1] S512 := by decide
  have hl : ∀ k : Fin 2, hr.lift (ix1 T) k = ix2 T k := fun k => by
    funext ax
    match ax with
    | 0 => rfl
    | 1 => rfl
  have e : ∀ g : Fin 2 → Ideal .f32, Finset.fold (FloatOps.maximumf (F := Ideal) (φ := .f32)) (Ideal.ofBits .f32 0xFF800000#32) g (Finset.univ : Finset (Fin 2))
      = max (α := EReal) (g 0) (g 1) := fun g => by
    rw [show (Finset.univ : Finset (Fin 2)) = insert 0 {1} from rfl, Finset.fold_insert (by decide), Finset.fold_singleton, Cert.KP.ofBits_ninf]
    show max (α := EReal) (g 0) (max (α := EReal) (g 1) ⊥) = _
    rw [max_eq_left (bot_le)]
  refine (Host.reduce_eq_fold_single FloatOps.maximumf x _ reducesTo_S512x2_S512_d1 hr h_S_ (ix1 T)).trans ?_
  refine (e fun k => x (hr.lift (ix1 T) k)).trans ?_
  show max (α := EReal) (x (hr.lift (ix1 T) (0 : Fin 2))) (x (hr.lift (ix1 T) (1 : Fin 2))) = _
  rw [hl, hl]

theorem reduce_add (x : FVec Ideal S512x2 .f32) (T : Fin 512) :
    Host.reduceAdd x (constant S_ .f32 0x00000000#32) reducesTo_S512x2_S512_d1 h_S_ (ix1 T) = x (ix2 T 0) + x (ix2 T 1) := by
  have hr : S512x2.Reduces [1] S512 := by decide
  have hl : ∀ k : Fin 2, hr.lift (ix1 T) k = ix2 T k := fun k => by
    funext ax
    match ax with
    | 0 => rfl
    | 1 => rfl
  rw [hostReduceAdd_apply]
  refine (Ideal.hostReduceAdd_single reducesTo_S512x2_S512_d1 hr _ _ (ix1 T)).trans ?_
  rw [constant_apply, Ideal.ofBits_zero_f32, zero_add]
  show (∑ k : Fin 2, x (hr.lift (ix1 T) k)) = _
  rw [Fin.sum_univ_two, hl, hl]

theorem rows {α : Type} (x : S512.Idx → α) (T : Fin 512) (i : Fin 2) :
    broadcastInDim S512x2 ![0, 1] bcast_S512x1_S512x2_0_1 (broadcastInDim S512x1 ![0] bcast_S512_S512x1_0 x) (ix2 T i) = x (ix1 T) := by
  rw [broadcastInDim_apply ![0, 1] bcast_S512x1_S512x2_0_1 _ (ix2 T i) (ix2 T 0) (fun ax => match ax with | ⟨0, _⟩ => rfl | ⟨1, _⟩ => rfl)]
  exact broadcastInDim_apply ![0] bcast_S512_S512x1_0 x (ix2 T 0) (ix1 T) (fun ax => match ax with | ⟨0, _⟩ => rfl)

/-- The places turned into start words: a place is not negative, so it stays. -/
theorem starts_apply (x : IVec S512x2 32) (T : Fin 512) (i : Fin 2) (e : Fin 8) (h : x (ix2 T i) = BitVec.ofNat 32 e.val) :
    shapeCast S512x2x1 (select (cmpi .slt x (broadcastInDim S512x2 ![] bcast_S_S512x2 (constantI S_ 32 0#32))) (addi x (broadcastInDim S512x2 ![] bcast_S_S512x2 (constantI S_ 32 8#32))) x) shapeCasts_S512x2_S512x2x1 (ix3 T i 0)
      = BitVec.ofNat 32 e.val := by
  refine (shapeCast_apply _ shapeCasts_S512x2_S512x2x1 (ix3 T i 0) (ix2 T i) ?_).trans ?_
  · rw [Shape.rowMajor_val_three, Shape.rowMajor_val_two]
    show T.val * 2 + i.val = (T.val * 2 + i.val) * 1 + 0
    omega
  · show Scalar.select (IntOp.cmpi .slt (x (ix2 T i)) (0#32)) (x (ix2 T i) + 8#32) (x (ix2 T i)) = _
    rw [h]
    clear h
    revert e; decide

/-- The places are all in range. -/
theorem inrange_apply (x : IVec S512x2x1 32) (T : Fin 512) (i : Fin 2) (e : Fin 8) (h : x (ix3 T i 0) = BitVec.ofNat 32 e.val) :
    andi (cmpi .sge x (broadcastInDim S512x2x1 ![] bcast_S_S512x2x1 (constantI S_ 32 0#32))) (cmpi .sle x (broadcastInDim S512x2x1 ![0, 1, 2] bcast_S1x1x1_S512x2x1_0_1_2 (broadcastInDim S1x1x1 ![2] bcast_S1_S1x1x1_2 (constantI S1 32 7#32)))) (ix3 T i 0) = 1#1 := by
  show IntOp.andi (IntOp.cmpi .sge (x (ix3 T i 0)) 0#32) (IntOp.cmpi .sle (x (ix3 T i 0)) 7#32) = 1#1
  rw [h]
  clear h
  revert e; decide

theorem exp_zero' : Ideal.exp (0 : EReal) = 1 := by
  show Ideal.exp ((0 : ℝ) : EReal) = 1
  rw [Ideal.exp_coe, Real.exp_zero]; rfl

section
variable (T : Fin 512) (a b : Fin 8) (h : Firsts (long (gate V T)) 8 a.val b.val)
include h

theorem v3_apply (i : Fin 2) : w3 V T i = BitVec.ofNat 32 (![a, b] i).val := by
  unfold w3 res_main_v3
  refine (slice2_axis1_apply 0 _ slices_S512x8_S512x2_0_0 T i (i.castLE (by decide)) (Nat.zero_add _).symm).trans ?_
  refine (sort2_apply _ _ _ T _).trans ?_
  rw [sortedFrom_firsts (gate V T) a b h _ (fun k k' => ?_) i]
  · rfl
  · refine (comparator_eq _ _).trans ?_
    show decide (-(e0 V T k) < -(e0 V T k')) = _
    rw [v0_apply, v0_apply]
    exact decide_eq_decide.2 EReal.neg_lt_neg_iff

theorem v5_apply (i : Fin 2) : w5 V T i = BitVec.ofNat 32 (![a, b] i).val := by
  unfold w5 res_main_call1_v5
  exact starts_apply _ T i _ (v3_apply V T a b h i)

theorem v4_apply (i : Fin 2) : e4 V T i = gate V T (![a, b] i) := by
  unfold e4 res_main_v4
  rw [select_apply, reduce_one, inrange_apply _ T i _ (v5_apply V T a b h i)]
  refine Eq.trans ?_ (v0_apply V T (![a, b] i))
  show Scalar.select (1#1) _ _ = _
  refine (if_pos rfl).trans ?_
  exact gather_cols_apply _ _ T i (![a, b] i) (v5_apply V T a b h i)

theorem v9_apply (i : Fin 2) : e9 V T i = Ideal.exp (gate V T (![a, b] i) - gate V T a) := by
  have hle : gate V T b ≤ gate V T a := by
    have hA := h.2.2.2.1
    unfold Ahead at hA
    rw [long_val, long_val] at hA
    rcases hA with hA | ⟨hA, _⟩
    · exact hA.le
    · exact hA.ge
  have hm : Host.reduce (FloatOps.maximumf (F := Ideal) (φ := .f32)) (res_main_v4 V : FVec Ideal S512x2 .f32) (constant S_ .f32 0xFF800000#32) reducesTo_S512x2_S512_d1 h_S_ (ix1 T) = gate V T a := by
    refine (reduce_max _ T).trans ?_
    show max (e4 V T 0) (e4 V T 1) = _
    rw [v4_apply V T a b h, v4_apply V T a b h]
    exact max_eq_left hle
  unfold e9 res_main_v9
  have hr := rows (Host.reduce (FloatOps.maximumf (F := Ideal) (φ := .f32)) (res_main_v4 V : FVec Ideal S512x2 .f32) (constant S_ .f32 0xFF800000#32) reducesTo_S512x2_S512_d1 h_S_) T i
  rw [hm] at hr
  have h4 := v4_apply V T a b h i
  exact congrArg Ideal.exp (congrArg₂ (· - ·) h4 hr)

theorem v13_aux (ha : gate V T a - gate V T a = 0) (i : Fin 2) :
    e13 V T i = Ideal.div (Ideal.exp (gate V T (![a, b] i) - gate V T a)) (1 + Ideal.exp (gate V T b - gate V T a)) := by
  have h9 := v9_apply V T a b h i
  have hs : Host.reduceAdd (F := Ideal) (φ := .f32) (res_main_v9 V : FVec Ideal S512x2 .f32) (constant S_ .f32 0x00000000#32) reducesTo_S512x2_S512_d1 h_S_ (ix1 T)
      = 1 + Ideal.exp (gate V T b - gate V T a) := by
    refine (reduce_add _ T).trans ?_
    show e9 V T 0 + e9 V T 1 = _
    rw [v9_apply V T a b h, v9_apply V T a b h]
    show Ideal.exp (gate V T a - gate V T a) + _ = _
    rw [ha, exp_zero']; rfl
  have hr := rows (Host.reduceAdd (F := Ideal) (φ := .f32) (res_main_v9 V : FVec Ideal S512x2 .f32) (constant S_ .f32 0x00000000#32) reducesTo_S512x2_S512_d1 h_S_) T i
  rw [hs] at hr
  unfold e13 res_main_v13
  exact congrArg₂ Ideal.div h9 hr

/-- The two weights. -/
theorem v13_apply (ha : gate V T a - gate V T a = 0) :
    e13 V T 0 = wTop1 (gate V T a) (gate V T b) ∧ e13 V T 1 = wTop2 (gate V T a) (gate V T b) := by
  refine ⟨(v13_aux V T a b h ha 0).trans ?_, v13_aux V T a b h ha 1⟩
  show Ideal.div (Ideal.exp (gate V T a - gate V T a)) _ = _
  rw [ha, exp_zero']; rfl
end

/-- One expert's network applied to every token, read at one place. -/
theorem net_apply (T d : Fin 512) (e : Fin 8) (n : ℕ) (hn : e.val = n)
    (h2 : S8x512x1024.Slices ![n, 0, 0] S1x512x1024) (h3 : S8x1024x512.Slices ![n, 0, 0] S1x1024x512) :
    Host.dotGeneral dot_S512x1024_S1024x512_S512x512_1_0_0_1_n_n none (maximumf (Host.dotGeneral dot_S512x512_S512x1024_S512x1024_1_0_0_1_n_n none (a0 V) (shapeCast S512x1024 (extractStridedSlice S1x512x1024 ![n, 0, 0] (a2 V) h2) shapeCasts_S1x512x1024_S512x1024)) (broadcastInDim S512x1024 ![] bcast_S_S512x1024 (constant S_ .f32 0x00000000#32))) (shapeCast S1024x512 (extractStridedSlice S1x1024x512 ![n, 0, 0] (a3 V) h3) shapeCasts_S1x1024x512_S1024x512) (ix2 T d)
      = answer (a0 V) (a2 V) (a3 V) T d e := by
  subst hn
  have hd : dot_S512x512_S512x1024_S512x1024_1_0_0_1_n_n = DotDims.plain 512 512 1024 := rfl
  have hd' : dot_S512x1024_S1024x512_S512x512_1_0_0_1_n_n = DotDims.plain 512 1024 512 := rfl
  rw [hd, hd']
  refine (dotGeneral_plain_apply none _ _ T d).trans ?_
  unfold answer expert
  refine Finset.sum_congr rfl fun f _ => ?_
  rw [maximumf_apply, shapeCast_1ab_ab_apply]
  have e3 : extractStridedSlice S1x1024x512 ![e.val, 0, 0] (a3 V) h3 (ix3 0 f d) = a3 V (ix3 e f d) :=
    extractStridedSlice_apply _ _ _ _ _ fun ax => match ax with
      | ⟨0, _⟩ => rfl
      | ⟨1, _⟩ => (Nat.zero_add _).symm
      | ⟨2, _⟩ => (Nat.zero_add _).symm
  rw [e3]
  congr 2
  · refine (dotGeneral_plain_apply none _ _ T f).trans ?_
    refine Finset.sum_congr rfl fun k _ => ?_
    rw [shapeCast_1ab_ab_apply]
    have e2 : extractStridedSlice S1x512x1024 ![e.val, 0, 0] (a2 V) h2 (ix3 0 k f) = a2 V (ix3 e k f) :=
      extractStridedSlice_apply _ _ _ _ _ fun ax => match ax with
        | ⟨0, _⟩ => rfl
        | ⟨1, _⟩ => (Nat.zero_add _).symm
        | ⟨2, _⟩ => (Nat.zero_add _).symm
    rw [e2]
  · exact Ideal.ofBits_zero_f32

/-- A column of a two-column array, spread over a row. -/
theorem col_apply {α : Type} (x : S512x2.Idx → α) (i : Fin 2) (n : ℕ) (hn : i.val = n) (hs : S512x2.Slices ![0, n] S512x1) (T : Fin 512) :
    extractStridedSlice S512x1 ![0, n] x hs (ix2 T 0) = x (ix2 T i) :=
  slice2_axis1_apply n x hs T 0 i (by rw [hn]; rfl)

theorem spread_apply {α : Type} (x : S512x1.Idx → α) (T d : Fin 512) :
    broadcastInDim S512x512 ![0, 1] bcast_S512x1_S512x512_0_1 x (ix2 T d) = x (ix2 T 0) :=
  broadcastInDim_apply ![0, 1] bcast_S512x1_S512x512_0_1 x (ix2 T d) (ix2 T 0) (fun ax => match ax with | ⟨0, _⟩ => rfl | ⟨1, _⟩ => rfl)

/-- One link of the sum: an expert's answer under its weight where the expert is the chosen one, and nothing elsewhere. -/
theorem link_apply (X : IVec S512x2 32) (W : FVec Ideal S512x2 .f32) (N : FVec Ideal S512x512 .f32) (T d : Fin 512) (i : Fin 2) (n : ℕ)
    (hn : i.val = n) (hs : S512x2.Slices ![0, n] S512x1) (w : BitVec 32) :
    select (broadcastInDim S512x512 ![0, 1] bcast_S512x1_S512x512_0_1 (cmpi .eq (extractStridedSlice S512x1 ![0, n] X hs) (broadcastInDim S512x1 ![] bcast_S_S512x1 (constantI S_ 32 w))))
      (mulf N (broadcastInDim S512x512 ![0, 1] bcast_S512x1_S512x512_0_1 (extractStridedSlice S512x1 ![0, n] W hs)))
      (broadcastInDim S512x512 ![] bcast_S_S512x512 (id (constant S_ .f32 0x00000000#32) : FVec Ideal S_ .f32)) (ix2 T d)
    = if X (ix2 T i) = w then N (ix2 T d) * W (ix2 T i) else (0 : EReal) := by
  have hX := col_apply X i n hn hs T
  have hW := col_apply W i n hn hs T
  rw [select_apply, spread_apply, mulf_apply, spread_apply, hW]
  have hc : cmpi .eq (extractStridedSlice S512x1 ![0, n] X hs) (broadcastInDim S512x1 ![] bcast_S_S512x1 (constantI S_ 32 w)) (ix2 T 0)
      = BitVec.ofBool (X (ix2 T i) == w) := by rw [← hX]; rfl
  rw [hc]
  have hz : broadcastInDim S512x512 ![] bcast_S_S512x512 (id (constant S_ .f32 0x00000000#32) : FVec Ideal S_ .f32) (ix2 T d) = (0 : EReal) :=
    Ideal.ofBits_zero_f32
  rw [hz]
  unfold Scalar.select
  by_cases hw : X (ix2 T i) = w
  · rw [if_pos hw, hw]; simp
  · have hb : (X (ix2 T i) == w) = false := beq_eq_false_iff_ne.2 hw
    rw [if_neg hw, hb]; rfl

/-- Of eight conditional terms one is there. -/
theorem pick (z : EReal) (a : Fin 8) (Y : Fin 8 → EReal) :
    z + (if BitVec.ofNat 32 a.val = 0#32 then Y 0 else 0) + (if BitVec.ofNat 32 a.val = 1#32 then Y 1 else 0)
      + (if BitVec.ofNat 32 a.val = 2#32 then Y 2 else 0) + (if BitVec.ofNat 32 a.val = 3#32 then Y 3 else 0)
      + (if BitVec.ofNat 32 a.val = 4#32 then Y 4 else 0) + (if BitVec.ofNat 32 a.val = 5#32 then Y 5 else 0)
      + (if BitVec.ofNat 32 a.val = 6#32 then Y 6 else 0) + (if BitVec.ofNat 32 a.val = 7#32 then Y 7 else 0) = z + Y a := by
  fin_cases a <;> simp

section
variable (T d : Fin 512)

/-- A link with its two column numbers. -/
abbrev lk (i : Fin 2) (e : Fin 8) (w : BitVec 32) : EReal :=
  if w3 V T i = w
    then answer (a0 V) (a2 V) (a3 V) T d e * e13 V T i else 0

theorem lk_eq (i : Fin 2) (e : Fin 8) (w : BitVec 32) (y : EReal) (hy : y = answer (a0 V) (a2 V) (a3 V) T d e) :
    (if w3 V T i = w then y * e13 V T i else (0 : EReal)) = lk V T d i e w := by rw [hy]

theorem v78_apply : r78 V T d
    = 0 + lk V T d 0 0 0#32 + lk V T d 0 1 1#32 + lk V T d 0 2 2#32 + lk V T d 0 3 3#32 := by
  unfold r78 res_main_v78
  rw [addf_apply, addf_apply, addf_apply, addf_apply]
  refine congrArg₂ (· + ·) (congrArg₂ (· + ·) (congrArg₂ (· + ·) (congrArg₂ (· + ·) ?_ ?_) ?_) ?_) ?_
  · exact Ideal.ofBits_zero_f32
  · exact (link_apply _ _ _ T d 0 0 rfl _ _).trans (lk_eq V T d 0 0 _ _ (net_apply V T d 0 0 rfl _ _))
  · exact (link_apply _ _ _ T d 0 0 rfl _ _).trans (lk_eq V T d 0 1 _ _ (net_apply V T d 1 1 rfl _ _))
  · exact (link_apply _ _ _ T d 0 0 rfl _ _).trans (lk_eq V T d 0 2 _ _ (net_apply V T d 2 2 rfl _ _))
  · exact (link_apply _ _ _ T d 0 0 rfl _ _).trans (lk_eq V T d 0 3 _ _ (net_apply V T d 3 3 rfl _ _))

theorem v142_apply : r142 V T d
    = r78 V T d + lk V T d 0 4 4#32 + lk V T d 0 5 5#32 + lk V T d 0 6 6#32 + lk V T d 0 7 7#32 := by
  unfold r142 res_main_v142
  rw [addf_apply, addf_apply, addf_apply, addf_apply]
  refine congrArg₂ (· + ·) (congrArg₂ (· + ·) (congrArg₂ (· + ·) (congrArg₂ (· + ·) rfl ?_) ?_) ?_) ?_
  · exact (link_apply _ _ _ T d 0 0 rfl _ _).trans (lk_eq V T d 0 4 _ _ (net_apply V T d 4 4 rfl _ _))
  · exact (link_apply _ _ _ T d 0 0 rfl _ _).trans (lk_eq V T d 0 5 _ _ (net_apply V T d 5 5 rfl _ _))
  · exact (link_apply _ _ _ T d 0 0 rfl _ _).trans (lk_eq V T d 0 6 _ _ (net_apply V T d 6 6 rfl _ _))
  · exact (link_apply _ _ _ T d 0 0 rfl _ _).trans (lk_eq V T d 0 7 _ _ (net_apply V T d 7 7 rfl _ _))

theorem v206_apply : r206 V T d
    = r142 V T d + lk V T d 1 0 0#32 + lk V T d 1 1 1#32 + lk V T d 1 2 2#32 + lk V T d 1 3 3#32 := by
  unfold r206 res_main_v206
  rw [addf_apply, addf_apply, addf_apply, addf_apply]
  refine congrArg₂ (· + ·) (congrArg₂ (· + ·) (congrArg₂ (· + ·) (congrArg₂ (· + ·) rfl ?_) ?_) ?_) ?_
  · exact (link_apply _ _ _ T d 1 1 rfl _ _).trans (lk_eq V T d 1 0 _ _ (net_apply V T d 0 0 rfl _ _))
  · exact (link_apply _ _ _ T d 1 1 rfl _ _).trans (lk_eq V T d 1 1 _ _ (net_apply V T d 1 1 rfl _ _))
  · exact (link_apply _ _ _ T d 1 1 rfl _ _).trans (lk_eq V T d 1 2 _ _ (net_apply V T d 2 2 rfl _ _))
  · exact (link_apply _ _ _ T d 1 1 rfl _ _).trans (lk_eq V T d 1 3 _ _ (net_apply V T d 3 3 rfl _ _))

theorem v270_apply : r270 V T d
    = r206 V T d + lk V T d 1 4 4#32 + lk V T d 1 5 5#32 + lk V T d 1 6 6#32 + lk V T d 1 7 7#32 := by
  unfold r270 res_main_v270
  rw [addf_apply, addf_apply, addf_apply, addf_apply]
  refine congrArg₂ (· + ·) (congrArg₂ (· + ·) (congrArg₂ (· + ·) (congrArg₂ (· + ·) rfl ?_) ?_) ?_) ?_
  · exact (link_apply _ _ _ T d 1 1 rfl _ _).trans (lk_eq V T d 1 4 _ _ (net_apply V T d 4 4 rfl _ _))
  · exact (link_apply _ _ _ T d 1 1 rfl _ _).trans (lk_eq V T d 1 5 _ _ (net_apply V T d 5 5 rfl _ _))
  · exact (link_apply _ _ _ T d 1 1 rfl _ _).trans (lk_eq V T d 1 6 _ _ (net_apply V T d 6 6 rfl _ _))
  · exact (link_apply _ _ _ T d 1 1 rfl _ _).trans (lk_eq V T d 1 7 _ _ (net_apply V T d 7 7 rfl _ _))

/-- The reference's result at one place: the two chosen experts' answers under their weights. -/
theorem out_apply (a b : Fin 8) (h : Firsts (long (gate V T)) 8 a.val b.val) (ha : gate V T a - gate V T a = 0) :
    r270 V T d
      = answer (a0 V) (a2 V) (a3 V) T d a * wTop1 (gate V T a) (gate V T b)
        + answer (a0 V) (a2 V) (a3 V) T d b * wTop2 (gate V T a) (gate V T b) := by
  have h0 : w3 V T 0 = BitVec.ofNat 32 a.val := v3_apply V T a b h 0
  have h1 : w3 V T 1 = BitVec.ofNat 32 b.val := v3_apply V T a b h 1
  obtain ⟨w0, w1⟩ := v13_apply V T a b h ha
  rw [v270_apply, v206_apply, v142_apply, v78_apply]
  unfold lk
  rw [h0, h1, w0, w1]
  rw [pick 0 a (fun e => answer (a0 V) (a2 V) (a3 V) T d e * wTop1 (gate V T a) (gate V T b)),
    pick _ b (fun e => answer (a0 V) (a2 V) (a3 V) T d e * wTop2 (gate V T a) (gate V T b)), zero_add]
end

end Cert.RP
-- ==== Proof.Value.lean ====
/-
# `Value`: a device's result is its block of the reference's

The result window after the run; what the precondition says of the whole arrays; the blocks; and the equation.
-/
module

public import proofs.«01_k».proof.Defs
public import proofs.«01_k».proof.Proof.Run
public import proofs.«01_k».proof.Proof.RVal
public import Idealize.ShloMosaic.Lib.ReduceAll
public import Idealize.ShloMosaic.Lib.Claim

@[expose] public section

noncomputable section

namespace Cert.KP

open Cert.KernelIdeal Cert.KernelIdeal.Gen
open Idealize.ShloMosaic Idealize.ShloMosaic.ValueIdx
open Idealize.ShloMosaic.TcCoe

variable (m : (ℓ : Loc nD τ sig) → Buf (Elt Ideal) ℓ)

/-! ## The result window -/

theorem outBlk_emb (t : Fin 128) (d : Fin 512) : (win0_2.blk t0_0).view.emb (ix2 t d) = (ix2 t d : S128x512.Idx) := by
  funext ax
  refine Fin.ext ?_
  match ax with
  | ⟨0, _⟩ => show 0 * 128 + 1 * t.val = t.val; omega
  | ⟨1, _⟩ => show 0 * 512 + 1 * d.val = d.val; omega

theorem final_o (c : Dev nD) (t : Fin 128) (d : Fin 512) :
    ((dats (F := Ideal) m 0 c).arrAt (2 : Fin 3) cfg0.N : FVec Ideal S128x512 .f32) (ix2 t d) = outAt m c (ix2 t d) := by
  rw [show cfg0.N = t0_0.val + 1 from rfl, (dats (F := Ideal) m 0 c).arrAt_succ (2 : Fin 3) t0_0, if_pos (show (cfg0.win (2 : Fin 3)).flush t0_0 = true from rfl)]
  refine (congrArg _ (outBlk_emb t d).symm).trans ?_
  exact View.write_emb_of_mem _ _ (Finset.mem_univ _)

/-! ## The precondition -/

theorem real_of {x : EReal} (h : IntOp.andi (Ideal.cmp .ogt x ⊥) (Ideal.cmp .olt x ⊤) = 1#1) : ∃ r : ℝ, x = r := by
  induction x with
  | bot => exact absurd h (by unfold Ideal.cmp; simp [IntOp.andi])
  | top => exact absurd h (by unfold Ideal.cmp; simp [IntOp.andi])
  | coe r => exact ⟨r, rfl⟩

section
variable [Cert.Pre_finite_gates_KernelIdeal.Facts]

/-- The precondition, read: a device's tokens and its router columns are real numbers. -/
theorem pre_real (h : Pre_KernelIdeal m) (c : Dev nD) :
    (∀ t k, ∃ r : ℝ, (m ((c : Thread nD τ).loc main_arg0) : FVec Ideal S128x512 .f32) (ix2 t k) = (r : EReal))
    ∧ (∀ k j, ∃ r : ℝ, (m ((c : Thread nD τ).loc main_arg1) : FVec Ideal S512x2 .f32) (ix2 k j) = (r : EReal)) := by
  have h0 := congrFun (h c) ix0
  unfold Cert.Pre_finite_gates_KernelIdeal.fn at h0
  have hs : ∀ u v : BitVec 1, IntOp.andi u v = 1#1 → u = 1#1 ∧ v = 1#1 := by decide
  obtain ⟨hx, hr⟩ := hs _ _ h0
  haveI : Subsingleton (Cert.Pre_finite_gates_KernelIdeal.S_).Idx := ⟨fun a b => funext fun x => x.elim0⟩
  refine ⟨fun t k => real_of ?_, fun k j => real_of ?_⟩
  · have e := Host.reduce_andi_all _ _ _ _ _ hx (ix2 t k)
    rw [← ofBits_ninf, ← ofBits_pinf]
    exact e
  · have e := Host.reduce_andi_all _ _ _ _ _ hr (ix2 k j)
    rw [← ofBits_ninf, ← ofBits_pinf]
    exact e
end

theorem tok_surj (T : Fin 512) : ∃ b t, tok b t = T :=
  ⟨⟨T.val / 128, by omega⟩, ⟨T.val % 128, by omega⟩, Fin.ext (by show T.val / 128 * 128 + T.val % 128 = T.val; omega)⟩
theorem exq_surj (e : Fin 8) : ∃ b j, exq b j = e :=
  ⟨⟨e.val / 2, by omega⟩, ⟨e.val % 2, by omega⟩, Fin.ext (by show e.val / 2 * 2 + e.val % 2 = e.val; omega)⟩

/-- All gates are real numbers. -/
theorem gate_real {A0 : A0T} {A1 : A1T} {A2 : A2T} {A3 : A3T} [Cert.Pre_finite_gates_KernelIdeal.Facts]
    (h : Pre_KernelIdeal m) (H : Whole A0 A1 A2 A3 m) (T : Fin 512) (e : Fin 8) : ∃ r : ℝ, gateOf A0 A1 T e = r := by
  have hx : ∀ k, ∃ r : ℝ, A0 (ix2 T k) = (r : EReal) := fun k => by
    obtain ⟨b, t, rfl⟩ := tok_surj T
    obtain ⟨r, hr⟩ := (pre_real m h (at' 0 b)).1 t k
    have := H.x (at' 0 b) t k
    rw [yc_at] at this
    exact ⟨r, this.symm.trans hr⟩
  have hw : ∀ k, ∃ r : ℝ, A1 (ix2 k e) = (r : EReal) := fun k => by
    obtain ⟨b, j, rfl⟩ := exq_surj e
    obtain ⟨r, hr⟩ := (pre_real m h (at' 0 b)).2 k j
    have := H.r (at' 0 b) k j
    rw [yc_at] at this
    exact ⟨r, this.symm.trans hr⟩
  unfold gateOf
  refine Finset.sum_induction (fun k : Fin 512 => (A0 (ix2 T k) * A1 (ix2 k e) : EReal)) (fun x => ∃ r : ℝ, x = r) ?_ ⟨0, rfl⟩ ?_
  · rintro _ _ ⟨r, rfl⟩ ⟨s, rfl⟩
    exact ⟨r + s, (EReal.coe_add r s).symm⟩
  · intro k _
    obtain ⟨r, hr⟩ := hx k
    obtain ⟨s, hs⟩ := hw k
    refine ⟨r * s, ?_⟩
    show (A0 (ix2 T k) * A1 (ix2 k e) : EReal) = _
    rw [EReal.coe_mul]
    exact congrArg₂ (α := EReal) (β := EReal) (· * ·) hr hs

/-! ## The equation -/

variable (V : Valuation Cert.ReferenceIdeal.τ Cert.ReferenceIdeal.sig (Elt Ideal))

theorem out_eq (hg : ∀ T e, ∃ r : ℝ, Cert.RP.gate V T e = r)
    (H : Whole (Cert.RP.a0 V) (Cert.RP.a1 V) (Cert.RP.a2 V) (Cert.RP.a3 V) m) (c : Dev nD) (t : Fin 128) (d : Fin 512) :
    outAt m c (ix2 t d) = Cert.RP.r270 V (tok (yc c) t) d := by
  have hne : ∀ k, long (Cert.RP.gate V (tok (yc c) t)) k ≠ ⊥ := fun k => by
    unfold long
    split
    · obtain ⟨r, hr⟩ := hg (tok (yc c) t) ⟨k, ‹_›⟩
      rw [hr]; exact EReal.coe_ne_bot r
    · exact EReal.zero_ne_bot
  obtain ⟨a, b, hF, hA⟩ := after_eq _ hne 6
  have ha := hF.1
  have hb := hF.2.1
  have hab : (⟨a, ha⟩ : Fin 8) ≠ ⟨b, hb⟩ := fun e => hF.2.2.1 (congrArg Fin.val e)
  have la : long (Cert.RP.gate V (tok (yc c) t)) a = Cert.RP.gate V (tok (yc c) t) ⟨a, ha⟩ := Cert.RP.long_val _ ⟨a, ha⟩
  have lb : long (Cert.RP.gate V (tok (yc c) t)) b = Cert.RP.gate V (tok (yc c) t) ⟨b, hb⟩ := Cert.RP.long_val _ ⟨b, hb⟩
  rw [la, lb] at hA
  have hz : Cert.RP.gate V (tok (yc c) t) ⟨a, ha⟩ - Cert.RP.gate V (tok (yc c) t) ⟨a, ha⟩ = 0 := by
    obtain ⟨r, hr⟩ := hg (tok (yc c) t) ⟨a, ha⟩
    rw [hr, ← EReal.coe_sub, sub_self]; rfl
  exact (outAt_apply H c t d ⟨a, ha⟩ ⟨b, hb⟩ hab hA).trans (Cert.RP.out_apply V (tok (yc c) t) d ⟨a, ha⟩ ⟨b, hb⟩ hF hz).symm

/-! ## The blocks -/

theorem lin_y (c : Dev nD) : Layout.meshLin [2, 4, 4] c.val [1] = (yc c).val := by revert c; decide +kernel

theorem block_idx0 (c : Dev nD) (h : Layout.TilesN ⟨2, ![128, 512]⟩ ⟨2, ![512, 512]⟩ fun b => Layout.cutSize [2, 4, 4] ((![[1], []] : Fin 2 → List Nat) b))
    (t : Fin 128) (k : Fin 512) : h.idx (Layout.meshBlock [2, 4, 4] ![[1], []] c) (ix2 t k) = ix2 (tok (yc c) t) k := by
  funext ax
  refine Fin.ext ?_
  match ax with
  | ⟨0, _⟩ => show Layout.meshLin [2, 4, 4] c.val [1] * 128 + t.val = (yc c).val * 128 + t.val; rw [lin_y]
  | ⟨1, _⟩ => show 0 * 512 + k.val = k.val; omega

theorem block_idx1 (c : Dev nD) (h : Layout.TilesN ⟨2, ![512, 2]⟩ ⟨2, ![512, 8]⟩ fun b => Layout.cutSize [2, 4, 4] ((![[], [1]] : Fin 2 → List Nat) b))
    (k : Fin 512) (j : Fin 2) : h.idx (Layout.meshBlock [2, 4, 4] ![[], [1]] c) (ix2 k j) = ix2 k (exq (yc c) j) := by
  funext ax
  refine Fin.ext ?_
  match ax with
  | ⟨0, _⟩ => show 0 * 512 + k.val = k.val; omega
  | ⟨1, _⟩ => show Layout.meshLin [2, 4, 4] c.val [1] * 2 + j.val = (yc c).val * 2 + j.val; rw [lin_y]

theorem block_idx2 (c : Dev nD) (h : Layout.TilesN ⟨3, ![2, 512, 1024]⟩ ⟨3, ![8, 512, 1024]⟩ fun b => Layout.cutSize [2, 4, 4] ((![[1], [], []] : Fin 3 → List Nat) b))
    (j : Fin 2) (k : Fin 512) (f : Fin 1024) : h.idx (Layout.meshBlock [2, 4, 4] ![[1], [], []] c) (ix3 j k f) = ix3 (exq (yc c) j) k f := by
  funext ax
  refine Fin.ext ?_
  match ax with
  | ⟨0, _⟩ => show Layout.meshLin [2, 4, 4] c.val [1] * 2 + j.val = (yc c).val * 2 + j.val; rw [lin_y]
  | ⟨1, _⟩ => show 0 * 512 + k.val = k.val; omega
  | ⟨2, _⟩ => show 0 * 1024 + f.val = f.val; omega

theorem block_idx3 (c : Dev nD) (h : Layout.TilesN ⟨3, ![2, 1024, 512]⟩ ⟨3, ![8, 1024, 512]⟩ fun b => Layout.cutSize [2, 4, 4] ((![[1], [], []] : Fin 3 → List Nat) b))
    (j : Fin 2) (f : Fin 1024) (d : Fin 512) : h.idx (Layout.meshBlock [2, 4, 4] ![[1], [], []] c) (ix3 j f d) = ix3 (exq (yc c) j) f d := by
  funext ax
  refine Fin.ext ?_
  match ax with
  | ⟨0, _⟩ => show Layout.meshLin [2, 4, 4] c.val [1] * 2 + j.val = (yc c).val * 2 + j.val; rw [lin_y]
  | ⟨1, _⟩ => show 0 * 1024 + f.val = f.val; omega
  | ⟨2, _⟩ => show 0 * 512 + d.val = d.val; omega

variable {m} {A0 : A0T} {A1 : A1T} {A2 : A2T} {A3 : A3T}

theorem whole_of
    (h : ∀ c : Dev nD,
      (m ((c : Thread nD τ).loc main_arg0) : FVec Ideal S128x512 .f32) = Layout.blockN ⟨2, ![128, 512]⟩ ⟨2, ![512, 512]⟩ (Layout.meshBlock [2, 4, 4] ![[1], []] c) A0
      ∧ (m ((c : Thread nD τ).loc main_arg1) : FVec Ideal S512x2 .f32) = Layout.blockN ⟨2, ![512, 2]⟩ ⟨2, ![512, 8]⟩ (Layout.meshBlock [2, 4, 4] ![[], [1]] c) A1
      ∧ (m ((c : Thread nD τ).loc main_arg2) : FVec Ideal S2x512x1024 .f32) = Layout.blockN ⟨3, ![2, 512, 1024]⟩ ⟨3, ![8, 512, 1024]⟩ (Layout.meshBlock [2, 4, 4] ![[1], [], []] c) A2
      ∧ (m ((c : Thread nD τ).loc main_arg3) : FVec Ideal S2x1024x512 .f32) = Layout.blockN ⟨3, ![2, 1024, 512]⟩ ⟨3, ![8, 1024, 512]⟩ (Layout.meshBlock [2, 4, 4] ![[1], [], []] c) A3) :
    Whole A0 A1 A2 A3 m where
  x c t k := (congrFun (h c).1 (ix2 t k)).trans (congrArg A0 (block_idx0 c _ t k))
  r c k j := (congrFun (h c).2.1 (ix2 k j)).trans (congrArg A1 (block_idx1 c _ k j))
  w1 c j k f := (congrFun (h c).2.2.1 (ix3 j k f)).trans (congrArg A2 (block_idx2 c _ j k f))
  w2 c j f d := (congrFun (h c).2.2.2 (ix3 j f d)).trans (congrArg A3 (block_idx3 c _ j f d))

/-- Each device's result array is its block of the reference's result. -/
theorem result_block (V : Valuation Cert.ReferenceIdeal.τ Cert.ReferenceIdeal.sig (Elt Ideal)) [Cert.Pre_finite_gates_KernelIdeal.Facts]
    (hp : Pre_KernelIdeal m) (H : Whole (Cert.RP.a0 V) (Cert.RP.a1 V) (Cert.RP.a2 V) (Cert.RP.a3 V) m) (c : Dev nD) :
    ((dats (F := Ideal) m 0 c).arrAt (2 : Fin 3) cfg0.N : FVec Ideal S128x512 .f32)
      = Layout.blockN ⟨2, ![128, 512]⟩ ⟨2, ![512, 512]⟩ (Layout.meshBlock [2, 4, 4] ![[1], []] c)
          (Cert.ReferenceIdeal.Value.res_main_v270 V : FVec Ideal ⟨2, ![512, 512]⟩ .f32) := by
  funext i
  obtain ⟨t, d, rfl⟩ : ∃ t d, i = ix2 t d := ⟨i 0, i 1, eq_ix2 i⟩
  refine (final_o m c t d).trans ((out_eq m V (gate_real m hp H) H c t d).trans ?_)
  exact (congrArg (Cert.ReferenceIdeal.Value.res_main_v270 V : FVec Ideal ⟨2, ![512, 512]⟩ .f32) (block_idx0 c _ t d)).symm

end Cert.KP
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two texts of the kernel are one program: their body tables agree entry by entry. -/
theorem defs₀_eq : Cert.Kernel.defs₀ (F := Bits) = Cert.KernelIdeal.defs₀ (F := Bits) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [defs₀_eq]
  rfl

/-- The kernel, as printed: it ends, its arguments unchanged and its semaphores at zero. -/
theorem frame_kernel : Cert.quiescent_Kernel := by
  intro m ρ _
  have h := (θ_run (Cert.KernelIdeal.defs (F := Bits)) _ _).mono
    (Q' := fun r => (∀ c : Dev Cert.KernelIdeal.nD,
      r.2.mem ((c.tc : Thread Cert.KernelIdeal.nD Cert.KernelIdeal.τ).loc Cert.KernelIdeal.main_arg0) = m (c.tc.loc Cert.Kernel.main_arg0)
      ∧ r.2.mem ((c.tc : Thread Cert.KernelIdeal.nD Cert.KernelIdeal.τ).loc Cert.KernelIdeal.main_arg1) = m (c.tc.loc Cert.Kernel.main_arg1)
      ∧ r.2.mem ((c.tc : Thread Cert.KernelIdeal.nD Cert.KernelIdeal.τ).loc Cert.KernelIdeal.main_arg2) = m (c.tc.loc Cert.Kernel.main_arg2)
      ∧ r.2.mem ((c.tc : Thread Cert.KernelIdeal.nD Cert.KernelIdeal.τ).loc Cert.KernelIdeal.main_arg3) = m (c.tc.loc Cert.Kernel.main_arg3))
      ∧ r.2.sem = fun _ => 0)
    (fun r h => ⟨fun c => ⟨((h.1 c).1 0).trans (Cert.KP.final_x m c), ((h.1 c).1 1).trans (Cert.KP.final_r m c), (h.1 c).2.1, (h.1 c).2.2⟩, h.2⟩)
    (Cert.KP.run_main (F := Bits) m ρ)
  rw [defs_eq]
  exact h

/-- The same of the kernel over the extended reals. -/
theorem frame_ideal : Cert.quiescent_KernelIdeal_pre_none := fun m ρ _ =>
  (θ_run Cert.KernelIdeal.defs _ _).mono
    (fun _ h => ⟨fun c => ⟨((h.1 c).1 0).trans (Cert.KP.final_x m c), ((h.1 c).1 1).trans (Cert.KP.final_r m c), (h.1 c).2.1, (h.1 c).2.2⟩, h.2⟩)
    (Cert.KP.run_main (F := Ideal) m ρ)

/-- The reference: it ends, its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the two texts of the precondition state of their shapes. -/
theorem preFactsK : Cert.Pre_finite_gates_KernelIdeal.Facts where
  bcast_S_S128x512 := by decide
  reducesTo_S128x512_S_d0_1 := by decide
  h_S_ := by decide
  bcast_S_S512x2 := by decide
  reducesTo_S512x2_S_d0_1 := by decide

theorem preFactsR : Cert.Pre_finite_gates_ReferenceIdeal.Facts where
  bcast_S_S512x512 := by decide
  reducesTo_S512x512_S_d0_1 := by decide
  h_S_ := by decide
  bcast_S_S512x8 := by decide
  reducesTo_S512x8_S_d0_1 := by decide

/-- Over the extended reals, with real tokens and a real router, each device's result is its block of the
    reference's result. -/
theorem algebraic : Cert.algebraic_KernelIdeal_ReferenceIdeal (hKernelIdeal := Cert.KernelIdeal.Gen.facts)
    (hReferenceIdeal := Cert.ReferenceIdeal.Gen.facts) (hPre_finite_gates_KernelIdeal := preFactsK) := by
  intro m g m' g' hp hm
  haveI := preFactsK
  have H : Cert.KP.Whole (Cert.RP.a0 (StableHlo.launchContents m' 0)) (Cert.RP.a1 (StableHlo.launchContents m' 0))
      (Cert.RP.a2 (StableHlo.launchContents m' 0)) (Cert.RP.a3 (StableHlo.launchContents m' 0)) m := Cert.KP.whole_of hm
  refine ⟨Cert.ReferenceIdeal.Value.res_main_v270 (StableHlo.launchContents m' 0), ?_, ?_⟩
  · exact (θ_run Cert.KernelIdeal.defs _ _).mono
      (fun _ h c => ⟨((h.1 c).1 2).trans (Cert.KP.result_block _ hp H c), ((h.1 c).1 0).trans (Cert.KP.final_x m c),
        ((h.1 c).1 1).trans (Cert.KP.final_r m c), (h.1 c).2.1, (h.1 c).2.2⟩)
      (Cert.KP.run_main (F := Ideal) m g)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, preFactsK, preFactsR,
    frame_kernel, fun m g _ => frame_ideal m g trivial, frame_ideal, frame_reference, fun m g _ => frame_reference m g trivial,
    trivial, algebraic⟩

end Cert.Proof

end
